-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v42)) (v1 : (c : Dev Cert.Kernel2Ideal.nD) → Buf (Elt Ideal) ((c.tc : Thread Cert.Kernel2Ideal.nD Cert.Kernel2Ideal.τ).loc Cert.Kernel2Ideal.main_v83)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42) = v0 c
          ∧ r.2.mem ((c.tc : Thread Cert.Kernel2Ideal.nD Cert.Kernel2Ideal.τ).loc Cert.Kernel2Ideal.main_v83) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v43)) (v1 : (c : Dev Cert.Kernel3Ideal.nD) → Buf (Elt Ideal) ((c.tc : Thread Cert.Kernel3Ideal.nD Cert.Kernel3Ideal.τ).loc Cert.Kernel3Ideal.main_v53)) (v2 : (c : Dev Cert.Kernel3Ideal.nD) → Buf (Elt Ideal) ((c.tc : Thread Cert.Kernel3Ideal.nD Cert.Kernel3Ideal.τ).loc Cert.Kernel3Ideal.main_v112)) (v3 : (c : Dev Cert.Kernel3Ideal.nD) → Buf (Elt Ideal) ((c.tc : Thread Cert.Kernel3Ideal.nD Cert.Kernel3Ideal.τ).loc Cert.Kernel3Ideal.main_v113)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43) = v0 c
          ∧ r.2.mem ((c.tc : Thread Cert.Kernel3Ideal.nD Cert.Kernel3Ideal.τ).loc Cert.Kernel3Ideal.main_v53) = v1 c
          ∧ r.2.mem ((c.tc : Thread Cert.Kernel3Ideal.nD Cert.Kernel3Ideal.τ).loc Cert.Kernel3Ideal.main_v112) = v2 c
          ∧ r.2.mem ((c.tc : Thread Cert.Kernel3Ideal.nD Cert.Kernel3Ideal.τ).loc Cert.Kernel3Ideal.main_v113) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v107) = v2 c
          ∧ r.2.mem ((c.tc : Thread Cert.Reference3Ideal.nD Cert.Reference3Ideal.τ).loc Cert.Reference3Ideal.main_v108) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v42)) (v1 : (c : Dev Cert.Kernel5Ideal.nD) → Buf (Elt Ideal) ((c.tc : Thread Cert.Kernel5Ideal.nD Cert.Kernel5Ideal.τ).loc Cert.Kernel5Ideal.main_v83)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v42) = v0 c
          ∧ r.2.mem ((c.tc : Thread Cert.Kernel5Ideal.nD Cert.Kernel5Ideal.τ).loc Cert.Kernel5Ideal.main_v83) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v44)) (v1 : (c : Dev Cert.Kernel6Ideal.nD) → Buf (Elt Ideal) ((c.tc : Thread Cert.Kernel6Ideal.nD Cert.Kernel6Ideal.τ).loc Cert.Kernel6Ideal.main_v54)) (v2 : (c : Dev Cert.Kernel6Ideal.nD) → Buf (Elt Ideal) ((c.tc : Thread Cert.Kernel6Ideal.nD Cert.Kernel6Ideal.τ).loc Cert.Kernel6Ideal.main_v114)) (v3 : (c : Dev Cert.Kernel6Ideal.nD) → Buf (Elt Ideal) ((c.tc : Thread Cert.Kernel6Ideal.nD Cert.Kernel6Ideal.τ).loc Cert.Kernel6Ideal.main_v115)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v44) = v0 c
          ∧ r.2.mem ((c.tc : Thread Cert.Kernel6Ideal.nD Cert.Kernel6Ideal.τ).loc Cert.Kernel6Ideal.main_v54) = v1 c
          ∧ r.2.mem ((c.tc : Thread Cert.Kernel6Ideal.nD Cert.Kernel6Ideal.τ).loc Cert.Kernel6Ideal.main_v114) = v2 c
          ∧ r.2.mem ((c.tc : Thread Cert.Kernel6Ideal.nD Cert.Kernel6Ideal.τ).loc Cert.Kernel6Ideal.main_v115) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v49) = v1 c
          ∧ r.2.mem ((c.tc : Thread Cert.Reference6Ideal.nD Cert.Reference6Ideal.τ).loc Cert.Reference6Ideal.main_v109) = v2 c
          ∧ r.2.mem ((c.tc : Thread Cert.Reference6Ideal.nD Cert.Reference6Ideal.τ).loc Cert.Reference6Ideal.main_v110) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)) (v2 : (c : Dev Cert.Kernel7Ideal.nD) → Buf (Elt Ideal) ((c.tc : Thread Cert.Kernel7Ideal.nD Cert.Kernel7Ideal.τ).loc Cert.Kernel7Ideal.main_v15_2)) (v3 : (c : Dev Cert.Kernel7Ideal.nD) → Buf (Elt Ideal) ((c.tc : Thread Cert.Kernel7Ideal.nD Cert.Kernel7Ideal.τ).loc Cert.Kernel7Ideal.main_v15_3)) (v4 : (c : Dev Cert.Kernel7Ideal.nD) → Buf (Elt Ideal) ((c.tc : Thread Cert.Kernel7Ideal.nD Cert.Kernel7Ideal.τ).loc Cert.Kernel7Ideal.main_v16)) (v5 : (c : Dev Cert.Kernel7Ideal.nD) → Buf (Elt Ideal) ((c.tc : Thread Cert.Kernel7Ideal.nD Cert.Kernel7Ideal.τ).loc Cert.Kernel7Ideal.main_v17)) (v6 : (c : Dev Cert.Kernel7Ideal.nD) → Buf (Elt Ideal) ((c.tc : Thread Cert.Kernel7Ideal.nD Cert.Kernel7Ideal.τ).loc Cert.Kernel7Ideal.main_v18)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_v15_2) = v2 c
          ∧ r.2.mem ((c.tc : Thread Cert.Kernel7Ideal.nD Cert.Kernel7Ideal.τ).loc Cert.Kernel7Ideal.main_v15_3) = v3 c
          ∧ r.2.mem ((c.tc : Thread Cert.Kernel7Ideal.nD Cert.Kernel7Ideal.τ).loc Cert.Kernel7Ideal.main_v16) = v4 c
          ∧ r.2.mem ((c.tc : Thread Cert.Kernel7Ideal.nD Cert.Kernel7Ideal.τ).loc Cert.Kernel7Ideal.main_v17) = v5 c
          ∧ r.2.mem ((c.tc : Thread Cert.Kernel7Ideal.nD Cert.Kernel7Ideal.τ).loc Cert.Kernel7Ideal.main_v18) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v90) = v0 c
          ∧ r.2.mem ((c.tc : Thread Cert.Reference7Ideal.nD Cert.Reference7Ideal.τ).loc Cert.Reference7Ideal.main_v91) = v1 c
          ∧ r.2.mem ((c.tc : Thread Cert.Reference7Ideal.nD Cert.Reference7Ideal.τ).loc Cert.Reference7Ideal.main_v74) = v2 c
          ∧ r.2.mem ((c.tc : Thread Cert.Reference7Ideal.nD Cert.Reference7Ideal.τ).loc Cert.Reference7Ideal.main_v51) = v3 c
          ∧ r.2.mem ((c.tc : Thread Cert.Reference7Ideal.nD Cert.Reference7Ideal.τ).loc Cert.Reference7Ideal.main_v89) = v4 c
          ∧ r.2.mem ((c.tc : Thread Cert.Reference7Ideal.nD Cert.Reference7Ideal.τ).loc Cert.Reference7Ideal.main_v80) = v5 c
          ∧ r.2.mem ((c.tc : Thread Cert.Reference7Ideal.nD Cert.Reference7Ideal.τ).loc Cert.Reference7Ideal.main_v50) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_values.lean ====
abbrev S2x8192x1024 : Shape := ⟨3, ![2, 8192, 1024]⟩
abbrev S1 : Shape := ⟨1, ![1]⟩
abbrev S128 : Shape := ⟨1, ![128]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S2x8192x1024 .f32) (main_arg1 : FVec F S2x8192x1024 .f32) (main_arg2 : FVec F S2x8192x1024 .f32) (main_arg3 : FVec F S1 .f32) (main_arg4 : FVec F S128 .f32) : IVec S_ 1 :=
  let main_v0 : FVec F S2x8192x1024 .f32 := Host.absf main_arg2
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1 .f32 := Host.absf main_arg3
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S2x8192x1024 : Shape := ⟨3, ![2, 8192, 1024]⟩
abbrev S1 : Shape := ⟨1, ![1]⟩
abbrev S128 : Shape := ⟨1, ![128]⟩
abbrev S2x8192x8x128 : Shape := ⟨4, ![2, 8192, 8, 128]⟩
abbrev S2x8x128x8192 : Shape := ⟨4, ![2, 8, 128, 8192]⟩
abbrev S1x1 : Shape := ⟨2, ![1, 1]⟩
abbrev S128x1 : Shape := ⟨2, ![128, 1]⟩
abbrev S1x512x128 : Shape := ⟨3, ![1, 512, 128]⟩
abbrev S1x8192x128 : Shape := ⟨3, ![1, 8192, 128]⟩
abbrev S1x1x128x8192 : Shape := ⟨4, ![1, 1, 128, 8192]⟩
abbrev S1x1024 : Shape := ⟨2, ![1, 1024]⟩
abbrev S128x1024 : Shape := ⟨2, ![128, 1024]⟩
abbrev S512x128 : Shape := ⟨2, ![512, 128]⟩
abbrev S1x128 : Shape := ⟨2, ![1, 128]⟩
abbrev S1024x128 : Shape := ⟨2, ![1024, 128]⟩
abbrev S1x1024x128 : Shape := ⟨3, ![1, 1024, 128]⟩
abbrev S1024x1024 : Shape := ⟨2, ![1024, 1024]⟩
abbrev S1x1x128x1024 : Shape := ⟨4, ![1, 1, 128, 1024]⟩
abbrev S1024 : Shape := ⟨1, ![1024]⟩
abbrev S1024x1 : Shape := ⟨2, ![1024, 1]⟩
abbrev S128x512 : Shape := ⟨2, ![128, 512]⟩
abbrev S512 : Shape := ⟨1, ![512]⟩
abbrev S1x512 : Shape := ⟨2, ![1, 512]⟩

abbrev nBuf : Space → Nat
  | .hbm => 12
  | .vmem => 12
  | .smem => 1
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1, .f32⟩
  | .hbm, ⟨4, _⟩ => ⟨S128, .f32⟩
  | .hbm, ⟨5, _⟩ => ⟨S2x8192x8x128, .f32⟩
  | .hbm, ⟨6, _⟩ => ⟨S2x8x128x8192, .f32⟩
  | .hbm, ⟨7, _⟩ => ⟨S2x8x128x8192, .bf16⟩
  | .hbm, ⟨8, _⟩ => ⟨S1x1, .f32⟩
  | .hbm, ⟨9, _⟩ => ⟨S2x8192x1024, .bf16⟩
  | .hbm, ⟨10, _⟩ => ⟨S128x1, .f32⟩
  | .hbm, ⟨11, _⟩ => ⟨S2x8192x1024, .f32⟩
  | .local _ .vmem, ⟨0, _⟩ => ⟨S1x512x128, .f32⟩
  | .local _ .vmem, ⟨1, _⟩ => ⟨S1x512x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x1x128x8192, .bf16⟩
  | .local _ .vmem, ⟨5, _⟩ => ⟨S1x1x128x8192, .bf16⟩
  | .local _ .vmem, ⟨6, _⟩ => ⟨S128x1, .f32⟩
  | .local _ .vmem, ⟨7, _⟩ => ⟨S1x512x128, .f32⟩
  | .local _ .vmem, ⟨8, _⟩ => ⟨S1x512x128, .f32⟩
  | .local _ .vmem, ⟨9, _⟩ => ⟨S1x1024, .f32⟩
  | .local _ .vmem, ⟨10, _⟩ => ⟨S1x1024, .f32⟩
  | .local _ .vmem, ⟨11, _⟩ => ⟨S128x1024, .f32⟩
  | .local _ .smem, ⟨0, _⟩ => ⟨S1x1, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_20 : BitVec 32 := 0#32
  let arg2 : BitVec 32 := BitVec.ofNat 32 (i 2).val
  let c512_i32_14 : BitVec 32 := 512#32
  let v37 : BitVec 32 := Scalar.muli arg2 c512_i32_14
  let c0_i32 : BitVec 32 := 0#32
  let v39 : BitVec 1 := Scalar.cmpi .sgt v37 c0_i32
  let v40 : BitVec 32 := Scalar.extui v39
  let c0_i32_15 : BitVec 32 := 0#32
  let v41 : BitVec 1 := Scalar.cmpi .slt v37 c0_i32_15
  let v42 : BitVec 32 := Scalar.extui v41
  let v43 : BitVec 32 := Scalar.subi v40 v42
  let c1024_i32 : BitVec 32 := 1024#32
  let c0_i32_16 : BitVec 32 := 0#32
  let v44 : BitVec 1 := Scalar.cmpi .sgt c1024_i32 c0_i32_16
  let v45 : BitVec 32 := Scalar.extui v44
  let c0_i32_17 : BitVec 32 := 0#32
  let v46 : BitVec 1 := Scalar.cmpi .slt c1024_i32 c0_i32_17
  let v47 : BitVec 32 := Scalar.extui v46
  let v48 : BitVec 32 := Scalar.subi v45 v47
  let v49 : BitVec 1 := Scalar.cmpi .ne v43 v48
  let v50 : BitVec 32 := Scalar.remsi v37 c1024_i32
  let c0_i32_18 : BitVec 32 := 0#32
  let v51 : BitVec 1 := Scalar.cmpi .ne v50 c0_i32_18
  let v52 : BitVec 1 := Scalar.andi v49 v51
  let v38 : BitVec 32 := Scalar.divsi v37 c1024_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_22 : BitVec 32 := 1#32
  ⟨c0_i32_20, v59, c1_i32_22⟩
def k0_mult1 (i : grid0.Coords) (k0_t1 : Fin (k0_t1_loop i).trips) : BitVec 32 :=
  let c0_i32_20 : BitVec 32 := 0#32
  let c1_i32_22 : BitVec 32 := 1#32
  let arg12 : BitVec 32 := Scf.iv c0_i32_20 c1_i32_22 k0_t1
  let c1024_i32_66 : BitVec 32 := 1024#32
  let v144 : BitVec 32 := Scalar.muli arg12 c1024_i32_66
  v144
def k0_off1 (i : grid0.Coords) (k0_t1 : Fin (k0_t1_loop i).trips) : Fin 3 → Nat :=
  let c0_67 : Index := 0#32
  let c0_i32_20 : BitVec 32 := 0#32
  let c1_i32_22 : BitVec 32 := 1#32
  let arg12 : BitVec 32 := Scf.iv c0_i32_20 c1_i32_22 k0_t1
  let c1024_i32_66 : BitVec 32 := 1024#32
  let v144 : BitVec 32 := Scalar.muli arg12 c1024_i32_66
  let v145 : BitVec 32 := v144
  let v146 : Index := Scalar.indexCast v145
  let c0_68 : Index := 0#32
  ![0, v146.toNat, 0]
def k0_off2 (i : grid0.Coords) (k0_t1 : Fin (k0_t1_loop i).trips) : Fin 4 → Nat :=
  let c0_70 : Index := 0#32
  let c0_71 : Index := 0#32
  let c0_72 : Index := 0#32
  let c0_i32_20 : BitVec 32 := 0#32
  let c1_i32_22 : BitVec 32 := 1#32
  let arg12 : BitVec 32 := Scf.iv c0_i32_20 c1_i32_22 k0_t1
  let c1024_i32_66 : BitVec 32 := 1024#32
  let v144 : BitVec 32 := Scalar.muli arg12 c1024_i32_66
  let v145 : BitVec 32 := v144
  let v150 : Index := Scalar.indexCast v145
  ![0, 0, 0, v150.toNat]
@[reducible] def k0_t2_loop (i : grid0.Coords) : Scf.Loop 32 :=
  let c0_i32_20 : BitVec 32 := 0#32
  let arg2 : BitVec 32 := BitVec.ofNat 32 (i 2).val
  let c512_i32_14 : BitVec 32 := 512#32
  let v37 : BitVec 32 := Scalar.muli arg2 c512_i32_14
  let c0_i32 : BitVec 32 := 0#32
  let v39 : BitVec 1 := Scalar.cmpi .sgt v37 c0_i32
  let v40 : BitVec 32 := Scalar.extui v39
  let c0_i32_15 : BitVec 32 := 0#32
  let v41 : BitVec 1 := Scalar.cmpi .slt v37 c0_i32_15
  let v42 : BitVec 32 := Scalar.extui v41
  let v43 : BitVec 32 := Scalar.subi v40 v42
  let c1024_i32 : BitVec 32 := 1024#32
  let c0_i32_16 : BitVec 32 := 0#32
  let v44 : BitVec 1 := Scalar.cmpi .sgt c1024_i32 c0_i32_16
  let v45 : BitVec 32 := Scalar.extui v44
  let c0_i32_17 : BitVec 32 := 0#32
  let v46 : BitVec 1 := Scalar.cmpi .slt c1024_i32 c0_i32_17
  let v47 : BitVec 32 := Scalar.extui v46
  let v48 : BitVec 32 := Scalar.subi v45 v47
  let v49 : BitVec 1 := Scalar.cmpi .ne v43 v48
  let v50 : BitVec 32 := Scalar.remsi v37 c1024_i32
  let c0_i32_18 : BitVec 32 := 0#32
  let v51 : BitVec 1 := Scalar.cmpi .ne v50 c0_i32_18
  let v52 : BitVec 1 := Scalar.andi v49 v51
  let v38 : BitVec 32 := Scalar.divsi v37 c1024_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let v56 : BitVec 32 := Scalar.addi c0_i32_20 v55
  let c1_i32_23 : BitVec 32 := 1#32
  ⟨v59, v56, c1_i32_23⟩
def k0_mult2 (i : grid0.Coords) (k0_t2 : Fin (k0_t2_loop i).trips) : BitVec 32 :=
  let c0_i32_20 : BitVec 32 := 0#32
  let arg2 : BitVec 32 := BitVec.ofNat 32 (i 2).val
  let c512_i32_14 : BitVec 32 := 512#32
  let v37 : BitVec 32 := Scalar.muli arg2 c512_i32_14
  let c0_i32 : BitVec 32 := 0#32
  let v39 : BitVec 1 := Scalar.cmpi .sgt v37 c0_i32
  let v40 : BitVec 32 := Scalar.extui v39
  let c0_i32_15 : BitVec 32 := 0#32
  let v41 : BitVec 1 := Scalar.cmpi .slt v37 c0_i32_15
  let v42 : BitVec 32 := Scalar.extui v41
  let v43 : BitVec 32 := Scalar.subi v40 v42
  let c1024_i32 : BitVec 32 := 1024#32
  let c0_i32_16 : BitVec 32 := 0#32
  let v44 : BitVec 1 := Scalar.cmpi .sgt c1024_i32 c0_i32_16
  let v45 : BitVec 32 := Scalar.extui v44
  let c0_i32_17 : BitVec 32 := 0#32
  let v46 : BitVec 1 := Scalar.cmpi .slt c1024_i32 c0_i32_17
  let v47 : BitVec 32 := Scalar.extui v46
  let v48 : BitVec 32 := Scalar.subi v45 v47
  let v49 : BitVec 1 := Scalar.cmpi .ne v43 v48
  let v50 : BitVec 32 := Scalar.remsi v37 c1024_i32
  let c0_i32_18 : BitVec 32 := 0#32
  let v51 : BitVec 1 := Scalar.cmpi .ne v50 c0_i32_18
  let v52 : BitVec 1 := Scalar.andi v49 v51
  let v38 : BitVec 32 := Scalar.divsi v37 c1024_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let c1024_i32_66 : BitVec 32 := 1024#32
  let v144 : BitVec 32 := Scalar.muli arg12 c1024_i32_66
  v144
def k0_off3 (i : grid0.Coords) (k0_t2 : Fin (k0_t2_loop i).trips) : Fin 3 → Nat :=
  let c0_67 : Index := 0#32
  let c0_i32_20 : BitVec 32 := 0#32
  let arg2 : BitVec 32 := BitVec.ofNat 32 (i 2).val
  let c512_i32_14 : BitVec 32 := 512#32
  let v37 : BitVec 32 := Scalar.muli arg2 c512_i32_14
  let c0_i32 : BitVec 32 := 0#32
  let v39 : BitVec 1 := Scalar.cmpi .sgt v37 c0_i32
  let v40 : BitVec 32 := Scalar.extui v39
  let c0_i32_15 : BitVec 32 := 0#32
  let v41 : BitVec 1 := Scalar.cmpi .slt v37 c0_i32_15
  let v42 : BitVec 32 := Scalar.extui v41
  let v43 : BitVec 32 := Scalar.subi v40 v42
  let c1024_i32 : BitVec 32 := 1024#32
  let c0_i32_16 : BitVec 32 := 0#32
  let v44 : BitVec 1 := Scalar.cmpi .sgt c1024_i32 c0_i32_16
  let v45 : BitVec 32 := Scalar.extui v44
  let c0_i32_17 : BitVec 32 := 0#32
  let v46 : BitVec 1 := Scalar.cmpi .slt c1024_i32 c0_i32_17
  let v47 : BitVec 32 := Scalar.extui v46
  let v48 : BitVec 32 := Scalar.subi v45 v47
  let v49 : BitVec 1 := Scalar.cmpi .ne v43 v48
  let v50 : BitVec 32 := Scalar.remsi v37 c1024_i32
  let c0_i32_18 : BitVec 32 := 0#32
  let v51 : BitVec 1 := Scalar.cmpi .ne v50 c0_i32_18
  let v52 : BitVec 1 := Scalar.andi v49 v51
  let v38 : BitVec 32 := Scalar.divsi v37 c1024_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let c1024_i32_66 : BitVec 32 := 1024#32
  let v144 : BitVec 32 := Scalar.muli arg12 c1024_i32_66
  let v145 : BitVec 32 := v144
  let v146 : Index := Scalar.indexCast v145
  let c0_68 : Index := 0#32
  ![0, v146.toNat, 0]
def k0_off4 (i : grid0.Coords) (k0_t2 : Fin (k0_t2_loop i).trips) : Fin 4 → Nat :=
  let c0_70 : Index := 0#32
  let c0_71 : Index := 0#32
  let c0_72 : Index := 0#32
  let c0_i32_20 : BitVec 32 := 0#32
  let arg2 : BitVec 32 := BitVec.ofNat 32 (i 2).val
  let c512_i32_14 : BitVec 32 := 512#32
  let v37 : BitVec 32 := Scalar.muli arg2 c512_i32_14
  let c0_i32 : BitVec 32 := 0#32
  let v39 : BitVec 1 := Scalar.cmpi .sgt v37 c0_i32
  let v40 : BitVec 32 := Scalar.extui v39
  let c0_i32_15 : BitVec 32 := 0#32
  let v41 : BitVec 1 := Scalar.cmpi .slt v37 c0_i32_15
  let v42 : BitVec 32 := Scalar.extui v41
  let v43 : BitVec 32 := Scalar.subi v40 v42
  let c1024_i32 : BitVec 32 := 1024#32
  let c0_i32_16 : BitVec 32 := 0#32
  let v44 : BitVec 1 := Scalar.cmpi .sgt c1024_i32 c0_i32_16
  let v45 : BitVec 32 := Scalar.extui v44
  let c0_i32_17 : BitVec 32 := 0#32
  let v46 : BitVec 1 := Scalar.cmpi .slt c1024_i32 c0_i32_17
  let v47 : BitVec 32 := Scalar.extui v46
  let v48 : BitVec 32 := Scalar.subi v45 v47
  let v49 : BitVec 1 := Scalar.cmpi .ne v43 v48
  let v50 : BitVec 32 := Scalar.remsi v37 c1024_i32
  let c0_i32_18 : BitVec 32 := 0#32
  let v51 : BitVec 1 := Scalar.cmpi .ne v50 c0_i32_18
  let v52 : BitVec 1 := Scalar.andi v49 v51
  let v38 : BitVec 32 := Scalar.divsi v37 c1024_i32
  let c1_i32 : BitVec 32 := 1#32
  let v53 : BitVec 32 := Scalar.subi v38 c1_i32
  let v54 : BitVec 32 := Scalar.select v52 v53 v38
  let v55 : BitVec 32 := Scalar.subi v54 c0_i32_20
  let c1_i32_21 : BitVec 32 := 1#32
  let v57 : BitVec 32 := Scalar.divsi v55 c1_i32_21
  let v58 : BitVec 32 := Scalar.muli v57 c1_i32_21
  let v59 : BitVec 32 := Scalar.addi c0_i32_20 v58
  let c1_i32_23 : BitVec 32 := 1#32
  let arg12 : BitVec 32 := Scf.iv v59 c1_i32_23 k0_t2
  let c1024_i32_66 : BitVec 32 := 1024#32
  let v144 : BitVec 32 := Scalar.muli arg12 c1024_i32_66
  let v145 : BitVec 32 := v144
  let v150 : Index := Scalar.indexCast v145
  ![0, 0, 0, v150.toNat]
def k0_mult3 (i : grid0.Coords) : BitVec 32 :=
  let arg2 : BitVec 32 := BitVec.ofNat 32 (i 2).val
  let c512_i32_14 : BitVec 32 := 512#32
  let v37 : BitVec 32 := Scalar.muli arg2 c512_i32_14
  let c0_i32 : BitVec 32 := 0#32
  let v39 : BitVec 1 := Scalar.cmpi .sgt v37 c0_i32
  let v40 : BitVec 32 := Scalar.extui v39
  let c0_i32_15 : BitVec 32 := 0#32
  let v41 : BitVec 1 := Scalar.cmpi .slt v37 c0_i32_15
  let v42 : BitVec 32 := Scalar.extui v41
  let v43 : BitVec 32 := Scalar.subi v40 v42
  let c1024_i32 : BitVec 32 := 1024#32
  let c0_i32_16 : BitVec 32 := 0#32
  let v44 : BitVec 1 := Scalar.cmpi .sgt c1024_i32 c0_i32_16
  let v45 : BitVec 32 := Scalar.extui v44
  let c0_i32_17 : BitVec 32 := 0#32
  let v46 : BitVec 1 := Scalar.cmpi .slt c1024_i32 c0_i32_17
  let v47 : BitVec 32 := Scalar.extui v46
  let v48 : BitVec 32 := Scalar.subi v45 v47
  let v49 : BitVec 1 := Scalar.cmpi .ne v43 v48
  let v50 : BitVec 32 := Scalar.remsi v37 c1024_i32
  let c0_i32_18 : BitVec 32 := 0#32
  let v51 : BitVec 1 := Scalar.cmpi .ne v50 c0_i32_18
  let v52 : BitVec 1 := Scalar.andi v49 v51
  let v38 : BitVec 32 := Scalar.divsi v37 c1024_i32
  let c1_i32 : BitVec 32 := 1#32
  let v53 : BitVec 32 := Scalar.subi v38 c1_i32
  let v54 : BitVec 32 := Scalar.select v52 v53 v38
  let c1024_i32_24 : BitVec 32 := 1024#32
  let v60 : BitVec 32 := Scalar.muli v54 c1024_i32_24
  v60
def k0_off5 (i : grid0.Coords) : Fin 3 → Nat :=
  let c0_25 : Index := 0#32
  let arg2 : BitVec 32 := BitVec.ofNat 32 (i 2).val
  let c512_i32_14 : BitVec 32 := 512#32
  let v37 : BitVec 32 := Scalar.muli arg2 c512_i32_14
  let c0_i32 : BitVec 32 := 0#32
  let v39 : BitVec 1 := Scalar.cmpi .sgt v37 c0_i32
  let v40 : BitVec 32 := Scalar.extui v39
  let c0_i32_15 : BitVec 32 := 0#32
  let v41 : BitVec 1 := Scalar.cmpi .slt v37 c0_i32_15
  let v42 : BitVec 32 := Scalar.extui v41
  let v43 : BitVec 32 := Scalar.subi v40 v42
  let c1024_i32 : BitVec 32 := 1024#32
  let c0_i32_16 : BitVec 32 := 0#32
  let v44 : BitVec 1 := Scalar.cmpi .sgt c1024_i32 c0_i32_16
  let v45 : BitVec 32 := Scalar.extui v44
  let c0_i32_17 : BitVec 32 := 0#32
  let v46 : BitVec 1 := Scalar.cmpi .slt c1024_i32 c0_i32_17
  let v47 : BitVec 32 := Scalar.extui v46
  let v48 : BitVec 32 := Scalar.subi v45 v47
  let v49 : BitVec 1 := Scalar.cmpi .ne v43 v48
  let v50 : BitVec 32 := Scalar.remsi v37 c1024_i32
  let c0_i32_18 : BitVec 32 := 0#32
  let v51 : BitVec 1 := Scalar.cmpi .ne v50 c0_i32_18
  let v52 : BitVec 1 := Scalar.andi v49 v51
  let v38 : BitVec 32 := Scalar.divsi v37 c1024_i32
  let c1_i32 : BitVec 32 := 1#32
  let v53 : BitVec 32 := Scalar.subi v38 c1_i32
  let v54 : BitVec 32 := Scalar.select v52 v53 v38
  let c1024_i32_24 : BitVec 32 := 1024#32
  let v60 : BitVec 32 := Scalar.muli v54 c1024_i32_24
  let v61 : BitVec 32 := v60
  let v62 : Index := Scalar.indexCast v61
  let c0_26 : Index := 0#32
  ![0, v62.toNat, 0]
def k0_off6 (i : grid0.Coords) : Fin 4 → Nat :=
  let c0_29 : Index := 0#32
  let c0_30 : Index := 0#32
  let c0_31 : Index := 0#32
  let arg2 : BitVec 32 := BitVec.ofNat 32 (i 2).val
  let c512_i32_14 : BitVec 32 := 512#32
  let v37 : BitVec 32 := Scalar.muli arg2 c512_i32_14
  let c0_i32 : BitVec 32 := 0#32
  let v39 : BitVec 1 := Scalar.cmpi .sgt v37 c0_i32
  let v40 : BitVec 32 := Scalar.extui v39
  let c0_i32_15 : BitVec 32 := 0#32
  let v41 : BitVec 1 := Scalar.cmpi .slt v37 c0_i32_15
  let v42 : BitVec 32 := Scalar.extui v41
  let v43 : BitVec 32 := Scalar.subi v40 v42
  let c1024_i32 : BitVec 32 := 1024#32
  let c0_i32_16 : BitVec 32 := 0#32
  let v44 : BitVec 1 := Scalar.cmpi .sgt c1024_i32 c0_i32_16
  let v45 : BitVec 32 := Scalar.extui v44
  let c0_i32_17 : BitVec 32 := 0#32
  let v46 : BitVec 1 := Scalar.cmpi .slt c1024_i32 c0_i32_17
  let v47 : BitVec 32 := Scalar.extui v46
  let v48 : BitVec 32 := Scalar.subi v45 v47
  let v49 : BitVec 1 := Scalar.cmpi .ne v43 v48
  let v50 : BitVec 32 := Scalar.remsi v37 c1024_i32
  let c0_i32_18 : BitVec 32 := 0#32
  let v51 : BitVec 1 := Scalar.cmpi .ne v50 c0_i32_18
  let v52 : BitVec 1 := Scalar.andi v49 v51
  let v38 : BitVec 32 := Scalar.divsi v37 c1024_i32
  let c1_i32 : BitVec 32 := 1#32
  let v53 : BitVec 32 := Scalar.subi v38 c1_i32
  let v54 : BitVec 32 := Scalar.select v52 v53 v38
  let c1024_i32_24 : BitVec 32 := 1024#32
  let v60 : BitVec 32 := Scalar.muli v54 c1024_i32_24
  let v61 : BitVec 32 := v60
  let v74 : Index := Scalar.indexCast v61
  ![0, 0, 0, v74.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8192x1024 : Shape := ⟨3, ![2, 8192, 1024]⟩
abbrev S1 : Shape := ⟨1, ![1]⟩
abbrev S128 : Shape := ⟨1, ![128]⟩
abbrev S2x8192x8x2x64 : Shape := ⟨5, ![2, 8192, 8, 2, 64]⟩
abbrev S2x8192x8x128 : Shape := ⟨4, ![2, 8192, 8, 128]⟩
abbrev S_ : Shape := ⟨0, ![]⟩
abbrev S8192 : Shape := ⟨1, ![8192]⟩
abbrev S2x8x2x8192x8192 : Shape := ⟨5, ![2, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1, .f32⟩
  | .hbm, ⟨4, _⟩ => ⟨S128, .f32⟩
  | .hbm, ⟨5, _⟩ => ⟨S2x8192x8x2x64, .f32⟩
  | .hbm, ⟨6, _⟩ => ⟨S2x8192x8x128, .f32⟩
  | .hbm, ⟨7, _⟩ => ⟨S2x8192x8x2x64, .f32⟩
  | .hbm, ⟨8, _⟩ => ⟨S_, .f32⟩
  | .hbm, ⟨9, _⟩ => ⟨S2x8192x8x2x64, .f32⟩
  | .hbm, ⟨10, _⟩ => ⟨S2x8192x8x2x64, .f32⟩
  | .hbm, ⟨11, _⟩ => ⟨S8192, .i32⟩
  | .hbm, ⟨12, _⟩ => ⟨S2x8x2x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S2x8x2x8192x8192, .i1⟩
  | .hbm, ⟨21, _⟩ => ⟨S2x8x2x8192x8192, .f32⟩
  | .hbm, ⟨22, _⟩ => ⟨S2x8x2x8192x8192, .f32⟩
  | .hbm, ⟨23, _⟩ => ⟨S_, .f32⟩
  | .hbm, ⟨24, _⟩ => ⟨S2x8x2x8192, .f32⟩
  | .hbm, ⟨25, _⟩ => ⟨S2x8x2x8192x1, .f32⟩
  | .hbm, ⟨26, _⟩ => ⟨S2x8x2x8192x1, .f32⟩
  | .hbm, ⟨27, _⟩ => ⟨S_, .f32⟩
  | .hbm, ⟨28, _⟩ => ⟨S2x8x2x8192x1, .f32⟩
  | .hbm, ⟨29, _⟩ => ⟨S2x8x2x8192x1, .i1⟩
  | .hbm, ⟨30, _⟩ => ⟨S_, .f32⟩
  | .hbm, ⟨31, _⟩ => ⟨S_, .f32⟩
  | .hbm, ⟨32, _⟩ => ⟨S2x8x2x8192x1, .f32⟩
  | .hbm, ⟨33, _⟩ => ⟨S2x8x2x8192x1, .f32⟩
  | .hbm, ⟨34, _⟩ => ⟨S2x8x2x8192x8192, .f32⟩
  | .hbm, ⟨35, _⟩ => ⟨S2x8x2x8192x8192, .f32⟩
  | .hbm, ⟨36, _⟩ => ⟨S2x8x2x8192x8192, .f32⟩
  | .hbm, ⟨37, _⟩ => ⟨S_, .f32⟩
  | .hbm, ⟨38, _⟩ => ⟨S2x8x2x8192, .f32⟩
  | .hbm, ⟨39, _⟩ => ⟨S2x8x2x8192x1, .f32⟩
  | .hbm, ⟨40, _⟩ => ⟨S_, .f32⟩
  | .hbm, ⟨41, _⟩ => ⟨S2x8x2x8192x1, .f32⟩
  | .hbm, ⟨42, _⟩ => ⟨S2x8x2x8192x1, .f32⟩
  | .hbm, ⟨43, _⟩ => ⟨S2x8x2x8192x8192, .f32⟩
  | .hbm, ⟨44, _⟩ => ⟨S2x8x2x8192x8192, .f32⟩
  | .hbm, ⟨45, _⟩ => ⟨S2x8x1x8192x8192, .f32⟩
  | .hbm, ⟨46, _⟩ => ⟨S2x8x8192x8192, .f32⟩
  | .hbm, ⟨47, _⟩ => ⟨S_, .f32⟩
  | .hbm, ⟨48, _⟩ => ⟨S2x8x1x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .f32⟩
  | .hbm, ⟨53, _⟩ => ⟨S2x8x128x8192, .f32⟩
  | .hbm, ⟨54, _⟩ => ⟨S2x8192x8x128, .f32⟩
  | .hbm, ⟨55, _⟩ => ⟨S2x8192x8x128, .f32⟩
  | .hbm, ⟨56, _⟩ => ⟨S_, .f32⟩
  | .hbm, ⟨57, _⟩ => ⟨S2x8192x8, .f32⟩
  | .hbm, ⟨58, _⟩ => ⟨S2x8192x8x1, .f32⟩
  | .hbm, ⟨59, _⟩ => ⟨S_, .f32⟩
  | .hbm, ⟨60, _⟩ => ⟨S2x8192x8x1, .f32⟩
  | .hbm, ⟨61, _⟩ => ⟨S2x8192x8x1, .f32⟩
  | .hbm, ⟨62, _⟩ => ⟨S_, .f32⟩
  | .hbm, ⟨63, _⟩ => ⟨S2x8192x8x1, .f32⟩
  | .hbm, ⟨64, _⟩ => ⟨S2x8192x8x1, .f32⟩
  | .hbm, ⟨65, _⟩ => ⟨S2x8192x8x1, .f32⟩
  | .hbm, ⟨66, _⟩ => ⟨S2x8192x8x128, .f32⟩
  | .hbm, ⟨67, _⟩ => ⟨S2x8192x8x128, .f32⟩
  | .hbm, ⟨68, _⟩ => ⟨S1x1x1x128, .f32⟩
  | .hbm, ⟨69, _⟩ => ⟨S2x8192x8x128, .f32⟩
  | .hbm, ⟨70, _⟩ => ⟨S2x8192x8x128, .f32⟩
  | .hbm, ⟨71, _⟩ => ⟨S_, .f32⟩
  | .hbm, ⟨72, _⟩ => ⟨S2x8192x8x128, .f32⟩
  | .hbm, ⟨73, _⟩ => ⟨S2x8192x8x128, .f32⟩
  | .hbm, ⟨74, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x3072 : Shape := ⟨2, ![1024, 3072]⟩
abbrev S8192 : Shape := ⟨1, ![8192]⟩
abbrev S_ : Shape := ⟨0, ![]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S2x8192x3072 : Shape := ⟨3, ![2, 8192, 3072]⟩
abbrev S2x8192x16x64 : Shape := ⟨4, ![2, 8192, 16, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x16x32 : Shape := ⟨4, ![2, 8192, 16, 32]⟩
abbrev S1x8192x1x32 : Shape := ⟨4, ![1, 8192, 1, 32]⟩
abbrev S2x8192x1x16x64 : Shape := ⟨5, ![2, 8192, 1, 16, 64]⟩
abbrev S2x8192x2x16x64 : Shape := ⟨5, ![2, 8192, 2, 16, 64]⟩
abbrev S1x2x8192x2x16x64 : Shape := ⟨6, ![1, 2, 8192, 2, 16, 64]⟩

abbrev nBuf : Space → Nat
  | .hbm => 93
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S16384x1024, .f32⟩
  | .hbm, ⟨7, _⟩ => ⟨S_, .i32⟩
  | .hbm, ⟨8, _⟩ => ⟨S_, .f32⟩
  | .hbm, ⟨9, _⟩ => ⟨S1024x3072, .f32⟩
  | .hbm, ⟨10, _⟩ => ⟨S1024x3072, .bf16⟩
  | .hbm, ⟨11, _⟩ => ⟨S16384x3072, .f32⟩
  | .hbm, ⟨12, _⟩ => ⟨S2x8192x3072, .f32⟩
  | .hbm, ⟨13, _⟩ => ⟨S2x8192x1024, .f32⟩
  | .hbm, ⟨14, _⟩ => ⟨S2x8192x16x64, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8192, .f32⟩
  | .hbm, ⟨24, _⟩ => ⟨S8192x1, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x1x32, .f32⟩
  | .hbm, ⟨31, _⟩ => ⟨S8192x32, .f32⟩
  | .hbm, ⟨32, _⟩ => ⟨S8192x1x32, .f32⟩
  | .hbm, ⟨33, _⟩ => ⟨S2x8192x16x32, .f32⟩
  | .hbm, ⟨34, _⟩ => ⟨S2x8192x16x32, .f32⟩
  | .hbm, ⟨35, _⟩ => ⟨S1x8192x1x32, .f32⟩
  | .hbm, ⟨36, _⟩ => ⟨S2x8192x16x32, .f32⟩
  | .hbm, ⟨37, _⟩ => ⟨S2x8192x16x32, .f32⟩
  | .hbm, ⟨38, _⟩ => ⟨S1x8192x1x32, .f32⟩
  | .hbm, ⟨39, _⟩ => ⟨S2x8192x16x32, .f32⟩
  | .hbm, ⟨40, _⟩ => ⟨S2x8192x16x32, .f32⟩
  | .hbm, ⟨41, _⟩ => ⟨S2x8192x16x32, .f32⟩
  | .hbm, ⟨42, _⟩ => ⟨S1x8192x1x32, .f32⟩
  | .hbm, ⟨43, _⟩ => ⟨S2x8192x16x32, .f32⟩
  | .hbm, ⟨44, _⟩ => ⟨S2x8192x16x32, .f32⟩
  | .hbm, ⟨45, _⟩ => ⟨S1x8192x1x32, .f32⟩
  | .hbm, ⟨46, _⟩ => ⟨S2x8192x16x32, .f32⟩
  | .hbm, ⟨47, _⟩ => ⟨S2x8192x16x32, .f32⟩
  | .hbm, ⟨48, _⟩ => ⟨S2x8192x16x32, .f32⟩
  | .hbm, ⟨49, _⟩ => ⟨S2x8192x16x64, .f32⟩
  | .hbm, ⟨50, _⟩ => ⟨S2x8192x1024, .f32⟩
  | .hbm, ⟨51, _⟩ => ⟨S2x8192x16x64, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8192, .f32⟩
  | .hbm, ⟨61, _⟩ => ⟨S8192x1, .f32⟩
  | .hbm, ⟨62, _⟩ => ⟨S1x32, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x1x32, .f32⟩
  | .hbm, ⟨68, _⟩ => ⟨S8192x32, .f32⟩
  | .hbm, ⟨69, _⟩ => ⟨S8192x1x32, .f32⟩
  | .hbm, ⟨70, _⟩ => ⟨S2x8192x16x32, .f32⟩
  | .hbm, ⟨71, _⟩ => ⟨S2x8192x16x32, .f32⟩
  | .hbm, ⟨72, _⟩ => ⟨S1x8192x1x32, .f32⟩
  | .hbm, ⟨73, _⟩ => ⟨S2x8192x16x32, .f32⟩
  | .hbm, ⟨74, _⟩ => ⟨S2x8192x16x32, .f32⟩
  | .hbm, ⟨75, _⟩ => ⟨S1x8192x1x32, .f32⟩
  | .hbm, ⟨76, _⟩ => ⟨S2x8192x16x32, .f32⟩
  | .hbm, ⟨77, _⟩ => ⟨S2x8192x16x32, .f32⟩
  | .hbm, ⟨78, _⟩ => ⟨S2x8192x16x32, .f32⟩
  | .hbm, ⟨79, _⟩ => ⟨S1x8192x1x32, .f32⟩
  | .hbm, ⟨80, _⟩ => ⟨S2x8192x16x32, .f32⟩
  | .hbm, ⟨81, _⟩ => ⟨S2x8192x16x32, .f32⟩
  | .hbm, ⟨82, _⟩ => ⟨S1x8192x1x32, .f32⟩
  | .hbm, ⟨83, _⟩ => ⟨S2x8192x16x32, .f32⟩
  | .hbm, ⟨84, _⟩ => ⟨S2x8192x16x32, .f32⟩
  | .hbm, ⟨85, _⟩ => ⟨S2x8192x16x32, .f32⟩
  | .hbm, ⟨86, _⟩ => ⟨S2x8192x16x64, .f32⟩
  | .hbm, ⟨87, _⟩ => ⟨S2x8192x1024, .f32⟩
  | .hbm, ⟨88, _⟩ => ⟨S2x8192x16x64, .f32⟩
  | .hbm, ⟨89, _⟩ => ⟨S2x8192x1x16x64, .f32⟩
  | .hbm, ⟨90, _⟩ => ⟨S2x8192x1x16x64, .f32⟩
  | .hbm, ⟨91, _⟩ => ⟨S2x8192x2x16x64, .f32⟩
  | .hbm, ⟨92, _⟩ => ⟨S1x2x8192x2x16x64, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_2 : Ref sig .tc := ⟨.hbm, 54, rfl⟩
abbrev main_v47 : Ref sig .tc := ⟨.hbm, 55, rfl⟩
abbrev main_v48 : Ref sig .tc := ⟨.hbm, 56, rfl⟩
abbrev main_cst_3 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S2x8192x1024 : Shape := ⟨3, ![2, 8192, 1024]⟩
abbrev S1024x3072 : Shape := ⟨2, ![1024, 3072]⟩
abbrev S8192 : Shape := ⟨1, ![8192]⟩
abbrev S_ : Shape := ⟨0, ![]⟩
abbrev S2x8192x3072 : Shape := ⟨3, ![2, 8192, 3072]⟩
abbrev S2x8192x16x64 : Shape := ⟨4, ![2, 8192, 16, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x16x32 : Shape := ⟨4, ![2, 8192, 16, 32]⟩
abbrev S1x8192x1x32 : Shape := ⟨4, ![1, 8192, 1, 32]⟩
abbrev S2x8192x1x16x64 : Shape := ⟨5, ![2, 8192, 1, 16, 64]⟩
abbrev S2x8192x2x16x64 : Shape := ⟨5, ![2, 8192, 2, 16, 64]⟩
abbrev S1x2x8192x2x16x64 : Shape := ⟨6, ![1, 2, 8192, 2, 16, 64]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S2x8192x3072, .f32⟩
  | .hbm, ⟨7, _⟩ => ⟨S2x8192x1024, .f32⟩
  | .hbm, ⟨8, _⟩ => ⟨S2x8192x16x64, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x1x32, .f32⟩
  | .hbm, ⟨25, _⟩ => ⟨S8192x32, .f32⟩
  | .hbm, ⟨26, _⟩ => ⟨S8192x1x32, .f32⟩
  | .hbm, ⟨27, _⟩ => ⟨S2x8192x16x32, .f32⟩
  | .hbm, ⟨28, _⟩ => ⟨S2x8192x16x32, .f32⟩
  | .hbm, ⟨29, _⟩ => ⟨S1x8192x1x32, .f32⟩
  | .hbm, ⟨30, _⟩ => ⟨S2x8192x16x32, .f32⟩
  | .hbm, ⟨31, _⟩ => ⟨S2x8192x16x32, .f32⟩
  | .hbm, ⟨32, _⟩ => ⟨S1x8192x1x32, .f32⟩
  | .hbm, ⟨33, _⟩ => ⟨S2x8192x16x32, .f32⟩
  | .hbm, ⟨34, _⟩ => ⟨S2x8192x16x32, .f32⟩
  | .hbm, ⟨35, _⟩ => ⟨S2x8192x16x32, .f32⟩
  | .hbm, ⟨36, _⟩ => ⟨S1x8192x1x32, .f32⟩
  | .hbm, ⟨37, _⟩ => ⟨S2x8192x16x32, .f32⟩
  | .hbm, ⟨38, _⟩ => ⟨S2x8192x16x32, .f32⟩
  | .hbm, ⟨39, _⟩ => ⟨S1x8192x1x32, .f32⟩
  | .hbm, ⟨40, _⟩ => ⟨S2x8192x16x32, .f32⟩
  | .hbm, ⟨41, _⟩ => ⟨S2x8192x16x32, .f32⟩
  | .hbm, ⟨42, _⟩ => ⟨S2x8192x16x32, .f32⟩
  | .hbm, ⟨43, _⟩ => ⟨S2x8192x16x64, .f32⟩
  | .hbm, ⟨44, _⟩ => ⟨S2x8192x1024, .f32⟩
  | .hbm, ⟨45, _⟩ => ⟨S2x8192x16x64, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S8192, .f32⟩
  | .hbm, ⟨55, _⟩ => ⟨S8192x1, .f32⟩
  | .hbm, ⟨56, _⟩ => ⟨S1x32, .f32⟩
  | .hbm, ⟨57, _⟩ => ⟨S8192x32, .f32⟩
  | .hbm, ⟨58, _⟩ => ⟨S8192x32, .f32⟩
  | .hbm, ⟨59, _⟩ => ⟨S8192x32, .f32⟩
  | .hbm, ⟨60, _⟩ => ⟨S8192x32, .f32⟩
  | .hbm, ⟨61, _⟩ => ⟨S8192x1x32, .f32⟩
  | .hbm, ⟨62, _⟩ => ⟨S8192x32, .f32⟩
  | .hbm, ⟨63, _⟩ => ⟨S8192x1x32, .f32⟩
  | .hbm, ⟨64, _⟩ => ⟨S2x8192x16x32, .f32⟩
  | .hbm, ⟨65, _⟩ => ⟨S2x8192x16x32, .f32⟩
  | .hbm, ⟨66, _⟩ => ⟨S1x8192x1x32, .f32⟩
  | .hbm, ⟨67, _⟩ => ⟨S2x8192x16x32, .f32⟩
  | .hbm, ⟨68, _⟩ => ⟨S2x8192x16x32, .f32⟩
  | .hbm, ⟨69, _⟩ => ⟨S1x8192x1x32, .f32⟩
  | .hbm, ⟨70, _⟩ => ⟨S2x8192x16x32, .f32⟩
  | .hbm, ⟨71, _⟩ => ⟨S2x8192x16x32, .f32⟩
  | .hbm, ⟨72, _⟩ => ⟨S2x8192x16x32, .f32⟩
  | .hbm, ⟨73, _⟩ => ⟨S1x8192x1x32, .f32⟩
  | .hbm, ⟨74, _⟩ => ⟨S2x8192x16x32, .f32⟩
  | .hbm, ⟨75, _⟩ => ⟨S2x8192x16x32, .f32⟩
  | .hbm, ⟨76, _⟩ => ⟨S1x8192x1x32, .f32⟩
  | .hbm, ⟨77, _⟩ => ⟨S2x8192x16x32, .f32⟩
  | .hbm, ⟨78, _⟩ => ⟨S2x8192x16x32, .f32⟩
  | .hbm, ⟨79, _⟩ => ⟨S2x8192x16x32, .f32⟩
  | .hbm, ⟨80, _⟩ => ⟨S2x8192x16x64, .f32⟩
  | .hbm, ⟨81, _⟩ => ⟨S2x8192x1024, .f32⟩
  | .hbm, ⟨82, _⟩ => ⟨S2x8192x16x64, .f32⟩
  | .hbm, ⟨83, _⟩ => ⟨S2x8192x1x16x64, .f32⟩
  | .hbm, ⟨84, _⟩ => ⟨S2x8192x1x16x64, .f32⟩
  | .hbm, ⟨85, _⟩ => ⟨S2x8192x2x16x64, .f32⟩
  | .hbm, ⟨86, _⟩ => ⟨S1x2x8192x2x16x64, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_1 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x2584 : Shape := ⟨2, ![1024, 2584]⟩
abbrev S8192 : Shape := ⟨1, ![8192]⟩
abbrev S_ : Shape := ⟨0, ![]⟩
abbrev S16384x1024 : Shape := ⟨2, ![16384, 1024]⟩
abbrev S1024x2816 : Shape := ⟨2, ![1024, 2816]⟩
abbrev S16384x2816 : Shape := ⟨2, ![16384, 2816]⟩
abbrev S512x1024 : Shape := ⟨2, ![512, 1024]⟩
abbrev S512x2816 : Shape := ⟨2, ![512, 2816]⟩
abbrev S16384x2584 : Shape := ⟨2, ![16384, 2584]⟩
abbrev S2x8192x2584 : Shape := ⟨3, ![2, 8192, 2584]⟩
abbrev S2x8192x8x128 : Shape := ⟨4, ![2, 8192, 8, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x8x64 : Shape := ⟨4, ![2, 8192, 8, 64]⟩
abbrev S1x8192x1x64 : Shape := ⟨4, ![1, 8192, 1, 64]⟩
abbrev S2x8192x1536 : Shape := ⟨3, ![2, 8192, 1536]⟩
abbrev S2x8192x6x2x128 : Shape := ⟨5, ![2, 8192, 6, 2, 128]⟩
abbrev S2x8192x24 : Shape := ⟨3, ![2, 8192, 24]⟩
abbrev S2x8192x8x3 : Shape := ⟨4, ![2, 8192, 8, 3]⟩
abbrev S2x8192x3x2x128 : Shape := ⟨5, ![2, 8192, 3, 2, 128]⟩
abbrev S2x8192x6x128 : Shape := ⟨4, ![2, 8192, 6, 128]⟩
abbrev S2x8192x6x64 : Shape := ⟨4, ![2, 8192, 6, 64]⟩
abbrev S2x8192x1x2x128 : Shape := ⟨5, ![2, 8192, 1, 2, 128]⟩
abbrev S2x8192x2x128 : Shape := ⟨4, ![2, 8192, 2, 128]⟩
abbrev S2x8192x4x2x128 : Shape := ⟨5, ![2, 8192, 4, 2, 128]⟩
abbrev S2x8192x2x2x128 : Shape := ⟨5, ![2, 8192, 2, 2, 128]⟩
abbrev S2x512x2x2x128 : Shape := ⟨5, ![2, 512, 2, 2, 128]⟩
abbrev S1x2x8192x4x2x128 : Shape := ⟨6, ![1, 2, 8192, 4, 2, 128]⟩
abbrev S1x2x512x2x2x128 : Shape := ⟨6, ![1, 2, 512, 2, 2, 128]⟩

abbrev nBuf : Space → Nat
  | .hbm => 125
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x2584, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S16384x1024, .f32⟩
  | .hbm, ⟨7, _⟩ => ⟨S_, .i32⟩
  | .hbm, ⟨8, _⟩ => ⟨S_, .f32⟩
  | .hbm, ⟨9, _⟩ => ⟨S1024x2816, .f32⟩
  | .hbm, ⟨10, _⟩ => ⟨S1024x2816, .bf16⟩
  | .hbm, ⟨11, _⟩ => ⟨S16384x2816, .f32⟩
  | .hbm, ⟨12, _⟩ => ⟨S16384x2584, .f32⟩
  | .hbm, ⟨13, _⟩ => ⟨S2x8192x2584, .f32⟩
  | .hbm, ⟨14, _⟩ => ⟨S2x8192x1024, .f32⟩
  | .hbm, ⟨15, _⟩ => ⟨S2x8192x8x128, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S8192, .f32⟩
  | .hbm, ⟨25, _⟩ => ⟨S8192x1, .f32⟩
  | .hbm, ⟨26, _⟩ => ⟨S1x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S8192x1x64, .f32⟩
  | .hbm, ⟨32, _⟩ => ⟨S8192x64, .f32⟩
  | .hbm, ⟨33, _⟩ => ⟨S8192x1x64, .f32⟩
  | .hbm, ⟨34, _⟩ => ⟨S2x8192x8x64, .f32⟩
  | .hbm, ⟨35, _⟩ => ⟨S2x8192x8x64, .f32⟩
  | .hbm, ⟨36, _⟩ => ⟨S1x8192x1x64, .f32⟩
  | .hbm, ⟨37, _⟩ => ⟨S2x8192x8x64, .f32⟩
  | .hbm, ⟨38, _⟩ => ⟨S2x8192x8x64, .f32⟩
  | .hbm, ⟨39, _⟩ => ⟨S1x8192x1x64, .f32⟩
  | .hbm, ⟨40, _⟩ => ⟨S2x8192x8x64, .f32⟩
  | .hbm, ⟨41, _⟩ => ⟨S2x8192x8x64, .f32⟩
  | .hbm, ⟨42, _⟩ => ⟨S2x8192x8x64, .f32⟩
  | .hbm, ⟨43, _⟩ => ⟨S1x8192x1x64, .f32⟩
  | .hbm, ⟨44, _⟩ => ⟨S2x8192x8x64, .f32⟩
  | .hbm, ⟨45, _⟩ => ⟨S2x8192x8x64, .f32⟩
  | .hbm, ⟨46, _⟩ => ⟨S1x8192x1x64, .f32⟩
  | .hbm, ⟨47, _⟩ => ⟨S2x8192x8x64, .f32⟩
  | .hbm, ⟨48, _⟩ => ⟨S2x8192x8x64, .f32⟩
  | .hbm, ⟨49, _⟩ => ⟨S2x8192x8x64, .f32⟩
  | .hbm, ⟨50, _⟩ => ⟨S2x8192x8x128, .f32⟩
  | .hbm, ⟨51, _⟩ => ⟨S2x8192x1536, .f32⟩
  | .hbm, ⟨52, _⟩ => ⟨S2x8192x6x2x128, .f32⟩
  | .hbm, ⟨53, _⟩ => ⟨S2x8192x24, .f32⟩
  | .hbm, ⟨54, _⟩ => ⟨S2x8192x8x3, .f32⟩
  | .hbm, ⟨55, _⟩ => ⟨S2x8192x8x3, .f32⟩
  | .hbm, ⟨56, _⟩ => ⟨S2x8192x8x3, .f32⟩
  | .hbm, ⟨57, _⟩ => ⟨S_, .f32⟩
  | .hbm, ⟨58, _⟩ => ⟨S2x8192x8x3, .f32⟩
  | .hbm, ⟨59, _⟩ => ⟨S2x8192x8x3, .f32⟩
  | .hbm, ⟨60, _⟩ => ⟨S_, .f32⟩
  | .hbm, ⟨61, _⟩ => ⟨S2x8192x8x3, .f32⟩
  | .hbm, ⟨62, _⟩ => ⟨S2x8192x8x3, .f32⟩
  | .hbm, ⟨63, _⟩ => ⟨S2x8192x3x2x128, .f32⟩
  | .hbm, ⟨64, _⟩ => ⟨S2x8192x6x128, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S8192, .f32⟩
  | .hbm, ⟨74, _⟩ => ⟨S8192x1, .f32⟩
  | .hbm, ⟨75, _⟩ => ⟨S1x64, .f32⟩
  | .hbm, ⟨76, _⟩ => ⟨S8192x64, .f32⟩
  | .hbm, ⟨77, _⟩ => ⟨S8192x64, .f32⟩
  | .hbm, ⟨78, _⟩ => ⟨S8192x64, .f32⟩
  | .hbm, ⟨79, _⟩ => ⟨S8192x64, .f32⟩
  | .hbm, ⟨80, _⟩ => ⟨S8192x1x64, .f32⟩
  | .hbm, ⟨81, _⟩ => ⟨S8192x64, .f32⟩
  | .hbm, ⟨82, _⟩ => ⟨S8192x1x64, .f32⟩
  | .hbm, ⟨83, _⟩ => ⟨S2x8192x6x64, .f32⟩
  | .hbm, ⟨84, _⟩ => ⟨S2x8192x6x64, .f32⟩
  | .hbm, ⟨85, _⟩ => ⟨S1x8192x1x64, .f32⟩
  | .hbm, ⟨86, _⟩ => ⟨S2x8192x6x64, .f32⟩
  | .hbm, ⟨87, _⟩ => ⟨S2x8192x6x64, .f32⟩
  | .hbm, ⟨88, _⟩ => ⟨S1x8192x1x64, .f32⟩
  | .hbm, ⟨89, _⟩ => ⟨S2x8192x6x64, .f32⟩
  | .hbm, ⟨90, _⟩ => ⟨S2x8192x6x64, .f32⟩
  | .hbm, ⟨91, _⟩ => ⟨S2x8192x6x64, .f32⟩
  | .hbm, ⟨92, _⟩ => ⟨S1x8192x1x64, .f32⟩
  | .hbm, ⟨93, _⟩ => ⟨S2x8192x6x64, .f32⟩
  | .hbm, ⟨94, _⟩ => ⟨S2x8192x6x64, .f32⟩
  | .hbm, ⟨95, _⟩ => ⟨S1x8192x1x64, .f32⟩
  | .hbm, ⟨96, _⟩ => ⟨S2x8192x6x64, .f32⟩
  | .hbm, ⟨97, _⟩ => ⟨S2x8192x6x64, .f32⟩
  | .hbm, ⟨98, _⟩ => ⟨S2x8192x6x64, .f32⟩
  | .hbm, ⟨99, _⟩ => ⟨S2x8192x6x128, .f32⟩
  | .hbm, ⟨100, _⟩ => ⟨S2x8192x3x2x128, .f32⟩
  | .hbm, ⟨101, _⟩ => ⟨S2x8192x1x2x128, .f32⟩
  | .hbm, ⟨102, _⟩ => ⟨S2x8192x2x128, .f32⟩
  | .hbm, ⟨103, _⟩ => ⟨S2x8192x1x2x128, .f32⟩
  | .hbm, ⟨104, _⟩ => ⟨S2x8192x2x128, .f32⟩
  | .hbm, ⟨105, _⟩ => ⟨S2x8192x1x2x128, .f32⟩
  | .hbm, ⟨106, _⟩ => ⟨S2x8192x2x128, .f32⟩
  | .hbm, ⟨107, _⟩ => ⟨S2x8192x1x2x128, .f32⟩
  | .hbm, ⟨108, _⟩ => ⟨S2x8192x2x128, .f32⟩
  | .hbm, ⟨109, _⟩ => ⟨S2x8192x1x2x128, .f32⟩
  | .hbm, ⟨110, _⟩ => ⟨S2x8192x2x128, .f32⟩
  | .hbm, ⟨111, _⟩ => ⟨S2x8192x1x2x128, .f32⟩
  | .hbm, ⟨112, _⟩ => ⟨S2x8192x2x128, .f32⟩
  | .hbm, ⟨113, _⟩ => ⟨S2x8192x1x2x128, .f32⟩
  | .hbm, ⟨114, _⟩ => ⟨S2x8192x1x2x128, .f32⟩
  | .hbm, ⟨115, _⟩ => ⟨S2x8192x1x2x128, .f32⟩
  | .hbm, ⟨116, _⟩ => ⟨S2x8192x1x2x128, .f32⟩
  | .hbm, ⟨117, _⟩ => ⟨S2x8192x1x2x128, .f32⟩
  | .hbm, ⟨118, _⟩ => ⟨S2x8192x1x2x128, .f32⟩
  | .hbm, ⟨119, _⟩ => ⟨S2x8192x6x2x128, .f32⟩
  | .hbm, ⟨120, _⟩ => ⟨S2x8192x4x2x128, .f32⟩
  | .hbm, ⟨121, _⟩ => ⟨S2x8192x2x2x128, .f32⟩
  | .hbm, ⟨122, _⟩ => ⟨S2x512x2x2x128, .f32⟩
  | .hbm, ⟨123, _⟩ => ⟨S1x2x8192x4x2x128, .f32⟩
  | .hbm, ⟨124, _⟩ => ⟨S1x2x512x2x2x128, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S512x2816, .f32⟩
  | .local _ .vmem, ⟨4, _⟩ => ⟨S512x2816, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_2 : Ref sig .tc := ⟨.hbm, 57, rfl⟩
abbrev main_v50 : Ref sig .tc := ⟨.hbm, 58, rfl⟩
abbrev main_v51 : Ref sig .tc := ⟨.hbm, 59, rfl⟩
abbrev main_cst_3 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2x8192x1024 : Shape := ⟨3, ![2, 8192, 1024]⟩
abbrev S1024x2584 : Shape := ⟨2, ![1024, 2584]⟩
abbrev S8192 : Shape := ⟨1, ![8192]⟩
abbrev S_ : Shape := ⟨0, ![]⟩
abbrev S2x8192x2584 : Shape := ⟨3, ![2, 8192, 2584]⟩
abbrev S2x8192x8x128 : Shape := ⟨4, ![2, 8192, 8, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x8x64 : Shape := ⟨4, ![2, 8192, 8, 64]⟩
abbrev S1x8192x1x64 : Shape := ⟨4, ![1, 8192, 1, 64]⟩
abbrev S2x8192x1536 : Shape := ⟨3, ![2, 8192, 1536]⟩
abbrev S2x8192x6x2x128 : Shape := ⟨5, ![2, 8192, 6, 2, 128]⟩
abbrev S2x8192x24 : Shape := ⟨3, ![2, 8192, 24]⟩
abbrev S2x8192x8x3 : Shape := ⟨4, ![2, 8192, 8, 3]⟩
abbrev S2x8192x3x2x128 : Shape := ⟨5, ![2, 8192, 3, 2, 128]⟩
abbrev S2x8192x6x128 : Shape := ⟨4, ![2, 8192, 6, 128]⟩
abbrev S2x8192x6x64 : Shape := ⟨4, ![2, 8192, 6, 64]⟩
abbrev S2x8192x1x2x128 : Shape := ⟨5, ![2, 8192, 1, 2, 128]⟩
abbrev S2x8192x2x128 : Shape := ⟨4, ![2, 8192, 2, 128]⟩
abbrev S2x8192x4x2x128 : Shape := ⟨5, ![2, 8192, 4, 2, 128]⟩
abbrev S2x8192x2x2x128 : Shape := ⟨5, ![2, 8192, 2, 2, 128]⟩
abbrev S2x512x2x2x128 : Shape := ⟨5, ![2, 512, 2, 2, 128]⟩
abbrev S1x2x8192x4x2x128 : Shape := ⟨6, ![1, 2, 8192, 4, 2, 128]⟩
abbrev S1x2x512x2x2x128 : Shape := ⟨6, ![1, 2, 512, 2, 2, 128]⟩

abbrev nBuf : Space → Nat
  | .hbm => 118
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2584, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S2x8192x2584, .f32⟩
  | .hbm, ⟨7, _⟩ => ⟨S2x8192x1024, .f32⟩
  | .hbm, ⟨8, _⟩ => ⟨S2x8192x8x128, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x1x64, .f32⟩
  | .hbm, ⟨25, _⟩ => ⟨S8192x64, .f32⟩
  | .hbm, ⟨26, _⟩ => ⟨S8192x1x64, .f32⟩
  | .hbm, ⟨27, _⟩ => ⟨S2x8192x8x64, .f32⟩
  | .hbm, ⟨28, _⟩ => ⟨S2x8192x8x64, .f32⟩
  | .hbm, ⟨29, _⟩ => ⟨S1x8192x1x64, .f32⟩
  | .hbm, ⟨30, _⟩ => ⟨S2x8192x8x64, .f32⟩
  | .hbm, ⟨31, _⟩ => ⟨S2x8192x8x64, .f32⟩
  | .hbm, ⟨32, _⟩ => ⟨S1x8192x1x64, .f32⟩
  | .hbm, ⟨33, _⟩ => ⟨S2x8192x8x64, .f32⟩
  | .hbm, ⟨34, _⟩ => ⟨S2x8192x8x64, .f32⟩
  | .hbm, ⟨35, _⟩ => ⟨S2x8192x8x64, .f32⟩
  | .hbm, ⟨36, _⟩ => ⟨S1x8192x1x64, .f32⟩
  | .hbm, ⟨37, _⟩ => ⟨S2x8192x8x64, .f32⟩
  | .hbm, ⟨38, _⟩ => ⟨S2x8192x8x64, .f32⟩
  | .hbm, ⟨39, _⟩ => ⟨S1x8192x1x64, .f32⟩
  | .hbm, ⟨40, _⟩ => ⟨S2x8192x8x64, .f32⟩
  | .hbm, ⟨41, _⟩ => ⟨S2x8192x8x64, .f32⟩
  | .hbm, ⟨42, _⟩ => ⟨S2x8192x8x64, .f32⟩
  | .hbm, ⟨43, _⟩ => ⟨S2x8192x8x128, .f32⟩
  | .hbm, ⟨44, _⟩ => ⟨S2x8192x1536, .f32⟩
  | .hbm, ⟨45, _⟩ => ⟨S2x8192x6x2x128, .f32⟩
  | .hbm, ⟨46, _⟩ => ⟨S2x8192x24, .f32⟩
  | .hbm, ⟨47, _⟩ => ⟨S2x8192x8x3, .f32⟩
  | .hbm, ⟨48, _⟩ => ⟨S2x8192x8x3, .f32⟩
  | .hbm, ⟨49, _⟩ => ⟨S2x8192x8x3, .f32⟩
  | .hbm, ⟨50, _⟩ => ⟨S_, .f32⟩
  | .hbm, ⟨51, _⟩ => ⟨S2x8192x8x3, .f32⟩
  | .hbm, ⟨52, _⟩ => ⟨S2x8192x8x3, .f32⟩
  | .hbm, ⟨53, _⟩ => ⟨S_, .f32⟩
  | .hbm, ⟨54, _⟩ => ⟨S2x8192x8x3, .f32⟩
  | .hbm, ⟨55, _⟩ => ⟨S2x8192x8x3, .f32⟩
  | .hbm, ⟨56, _⟩ => ⟨S2x8192x3x2x128, .f32⟩
  | .hbm, ⟨57, _⟩ => ⟨S2x8192x6x128, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S8192, .f32⟩
  | .hbm, ⟨67, _⟩ => ⟨S8192x1, .f32⟩
  | .hbm, ⟨68, _⟩ => ⟨S1x64, .f32⟩
  | .hbm, ⟨69, _⟩ => ⟨S8192x64, .f32⟩
  | .hbm, ⟨70, _⟩ => ⟨S8192x64, .f32⟩
  | .hbm, ⟨71, _⟩ => ⟨S8192x64, .f32⟩
  | .hbm, ⟨72, _⟩ => ⟨S8192x64, .f32⟩
  | .hbm, ⟨73, _⟩ => ⟨S8192x1x64, .f32⟩
  | .hbm, ⟨74, _⟩ => ⟨S8192x64, .f32⟩
  | .hbm, ⟨75, _⟩ => ⟨S8192x1x64, .f32⟩
  | .hbm, ⟨76, _⟩ => ⟨S2x8192x6x64, .f32⟩
  | .hbm, ⟨77, _⟩ => ⟨S2x8192x6x64, .f32⟩
  | .hbm, ⟨78, _⟩ => ⟨S1x8192x1x64, .f32⟩
  | .hbm, ⟨79, _⟩ => ⟨S2x8192x6x64, .f32⟩
  | .hbm, ⟨80, _⟩ => ⟨S2x8192x6x64, .f32⟩
  | .hbm, ⟨81, _⟩ => ⟨S1x8192x1x64, .f32⟩
  | .hbm, ⟨82, _⟩ => ⟨S2x8192x6x64, .f32⟩
  | .hbm, ⟨83, _⟩ => ⟨S2x8192x6x64, .f32⟩
  | .hbm, ⟨84, _⟩ => ⟨S2x8192x6x64, .f32⟩
  | .hbm, ⟨85, _⟩ => ⟨S1x8192x1x64, .f32⟩
  | .hbm, ⟨86, _⟩ => ⟨S2x8192x6x64, .f32⟩
  | .hbm, ⟨87, _⟩ => ⟨S2x8192x6x64, .f32⟩
  | .hbm, ⟨88, _⟩ => ⟨S1x8192x1x64, .f32⟩
  | .hbm, ⟨89, _⟩ => ⟨S2x8192x6x64, .f32⟩
  | .hbm, ⟨90, _⟩ => ⟨S2x8192x6x64, .f32⟩
  | .hbm, ⟨91, _⟩ => ⟨S2x8192x6x64, .f32⟩
  | .hbm, ⟨92, _⟩ => ⟨S2x8192x6x128, .f32⟩
  | .hbm, ⟨93, _⟩ => ⟨S2x8192x3x2x128, .f32⟩
  | .hbm, ⟨94, _⟩ => ⟨S2x8192x1x2x128, .f32⟩
  | .hbm, ⟨95, _⟩ => ⟨S2x8192x2x128, .f32⟩
  | .hbm, ⟨96, _⟩ => ⟨S2x8192x1x2x128, .f32⟩
  | .hbm, ⟨97, _⟩ => ⟨S2x8192x2x128, .f32⟩
  | .hbm, ⟨98, _⟩ => ⟨S2x8192x1x2x128, .f32⟩
  | .hbm, ⟨99, _⟩ => ⟨S2x8192x2x128, .f32⟩
  | .hbm, ⟨100, _⟩ => ⟨S2x8192x1x2x128, .f32⟩
  | .hbm, ⟨101, _⟩ => ⟨S2x8192x2x128, .f32⟩
  | .hbm, ⟨102, _⟩ => ⟨S2x8192x1x2x128, .f32⟩
  | .hbm, ⟨103, _⟩ => ⟨S2x8192x2x128, .f32⟩
  | .hbm, ⟨104, _⟩ => ⟨S2x8192x1x2x128, .f32⟩
  | .hbm, ⟨105, _⟩ => ⟨S2x8192x2x128, .f32⟩
  | .hbm, ⟨106, _⟩ => ⟨S2x8192x1x2x128, .f32⟩
  | .hbm, ⟨107, _⟩ => ⟨S2x8192x1x2x128, .f32⟩
  | .hbm, ⟨108, _⟩ => ⟨S2x8192x1x2x128, .f32⟩
  | .hbm, ⟨109, _⟩ => ⟨S2x8192x1x2x128, .f32⟩
  | .hbm, ⟨110, _⟩ => ⟨S2x8192x1x2x128, .f32⟩
  | .hbm, ⟨111, _⟩ => ⟨S2x8192x1x2x128, .f32⟩
  | .hbm, ⟨112, _⟩ => ⟨S2x8192x6x2x128, .f32⟩
  | .hbm, ⟨113, _⟩ => ⟨S2x8192x4x2x128, .f32⟩
  | .hbm, ⟨114, _⟩ => ⟨S2x8192x2x2x128, .f32⟩
  | .hbm, ⟨115, _⟩ => ⟨S2x512x2x2x128, .f32⟩
  | .hbm, ⟨116, _⟩ => ⟨S1x2x8192x4x2x128, .f32⟩
  | .hbm, ⟨117, _⟩ => ⟨S1x2x512x2x2x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_1 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024x1024 : Shape := ⟨2, ![1024, 1024]⟩
abbrev S16384x1024 : Shape := ⟨2, ![16384, 1024]⟩
abbrev S_ : Shape := ⟨0, ![]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S16384x1024, .f32⟩
  | .hbm, ⟨3, _⟩ => ⟨S_, .i32⟩
  | .hbm, ⟨4, _⟩ => ⟨S_, .f32⟩
  | .hbm, ⟨5, _⟩ => ⟨S1024x1024, .f32⟩
  | .hbm, ⟨6, _⟩ => ⟨S1024x1024, .bf16⟩
  | .hbm, ⟨7, _⟩ => ⟨S16384x1024, .f32⟩
  | .hbm, ⟨8, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2x8192x1024 : Shape := ⟨3, ![2, 8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S128x8x1024 : Shape := ⟨3, ![128, 8, 1024]⟩
abbrev S1024x3072 : Shape := ⟨2, ![1024, 3072]⟩
abbrev S8 : Shape := ⟨1, ![8]⟩
abbrev S_ : Shape := ⟨0, ![]⟩
abbrev S1024x1024 : Shape := ⟨2, ![1024, 1024]⟩
abbrev S512x1024 : Shape := ⟨2, ![512, 1024]⟩
abbrev S512x3072 : Shape := ⟨2, ![512, 3072]⟩
abbrev S128x8x3072 : Shape := ⟨3, ![128, 8, 3072]⟩
abbrev S128x8x16x64 : Shape := ⟨4, ![128, 8, 16, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S128x8x16x32 : Shape := ⟨4, ![128, 8, 16, 32]⟩
abbrev S1x8x1x32 : Shape := ⟨4, ![1, 8, 1, 32]⟩
abbrev S128x8x1x16x64 : Shape := ⟨5, ![128, 8, 1, 16, 64]⟩
abbrev S128x8x2x16x64 : Shape := ⟨5, ![128, 8, 2, 16, 64]⟩
abbrev S1x128x8x2x16x64 : Shape := ⟨6, ![1, 128, 8, 2, 16, 64]⟩

abbrev nBuf : Space → Nat
  | .hbm => 93
  | .vmem => 5
  | .smem => 0
  | _ => 0

abbrev bufTy : (tb : Table) → Fin (tcTables nBuf tb) → BufTy
  | .hbm, ⟨0, _⟩ => ⟨S128x8x1024, .f32⟩
  | .hbm, ⟨1, _⟩ => ⟨S1024x3072, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S1024x1024, .f32⟩
  | .hbm, ⟨7, _⟩ => ⟨S_, .i32⟩
  | .hbm, ⟨8, _⟩ => ⟨S_, .f32⟩
  | .hbm, ⟨9, _⟩ => ⟨S1024x3072, .f32⟩
  | .hbm, ⟨10, _⟩ => ⟨S1024x3072, .bf16⟩
  | .hbm, ⟨11, _⟩ => ⟨S1024x3072, .f32⟩
  | .hbm, ⟨12, _⟩ => ⟨S128x8x3072, .f32⟩
  | .hbm, ⟨13, _⟩ => ⟨S128x8x1024, .f32⟩
  | .hbm, ⟨14, _⟩ => ⟨S128x8x16x64, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8, .f32⟩
  | .hbm, ⟨24, _⟩ => ⟨S8x1, .f32⟩
  | .hbm, ⟨25, _⟩ => ⟨S1x32, .f32⟩
  | .hbm, ⟨26, _⟩ => ⟨S8x32, .f32⟩
  | .hbm, ⟨27, _⟩ => ⟨S8x32, .f32⟩
  | .hbm, ⟨28, _⟩ => ⟨S8x32, .f32⟩
  | .hbm, ⟨29, _⟩ => ⟨S8x32, .f32⟩
  | .hbm, ⟨30, _⟩ => ⟨S8x1x32, .f32⟩
  | .hbm, ⟨31, _⟩ => ⟨S8x32, .f32⟩
  | .hbm, ⟨32, _⟩ => ⟨S8x1x32, .f32⟩
  | .hbm, ⟨33, _⟩ => ⟨S128x8x16x32, .f32⟩
  | .hbm, ⟨34, _⟩ => ⟨S128x8x16x32, .f32⟩
  | .hbm, ⟨35, _⟩ => ⟨S1x8x1x32, .f32⟩
  | .hbm, ⟨36, _⟩ => ⟨S128x8x16x32, .f32⟩
  | .hbm, ⟨37, _⟩ => ⟨S128x8x16x32, .f32⟩
  | .hbm, ⟨38, _⟩ => ⟨S1x8x1x32, .f32⟩
  | .hbm, ⟨39, _⟩ => ⟨S128x8x16x32, .f32⟩
  | .hbm, ⟨40, _⟩ => ⟨S128x8x16x32, .f32⟩
  | .hbm, ⟨41, _⟩ => ⟨S128x8x16x32, .f32⟩
  | .hbm, ⟨42, _⟩ => ⟨S1x8x1x32, .f32⟩
  | .hbm, ⟨43, _⟩ => ⟨S128x8x16x32, .f32⟩
  | .hbm, ⟨44, _⟩ => ⟨S128x8x16x32, .f32⟩
  | .hbm, ⟨45, _⟩ => ⟨S1x8x1x32, .f32⟩
  | .hbm, ⟨46, _⟩ => ⟨S128x8x16x32, .f32⟩
  | .hbm, ⟨47, _⟩ => ⟨S128x8x16x32, .f32⟩
  | .hbm, ⟨48, _⟩ => ⟨S128x8x16x32, .f32⟩
  | .hbm, ⟨49, _⟩ => ⟨S128x8x16x64, .f32⟩
  | .hbm, ⟨50, _⟩ => ⟨S128x8x1024, .f32⟩
  | .hbm, ⟨51, _⟩ => ⟨S128x8x16x64, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S8, .f32⟩
  | .hbm, ⟨61, _⟩ => ⟨S8x1, .f32⟩
  | .hbm, ⟨62, _⟩ => ⟨S1x32, .f32⟩
  | .hbm, ⟨63, _⟩ => ⟨S8x32, .f32⟩
  | .hbm, ⟨64, _⟩ => ⟨S8x32, .f32⟩
  | .hbm, ⟨65, _⟩ => ⟨S8x32, .f32⟩
  | .hbm, ⟨66, _⟩ => ⟨S8x32, .f32⟩
  | .hbm, ⟨67, _⟩ => ⟨S8x1x32, .f32⟩
  | .hbm, ⟨68, _⟩ => ⟨S8x32, .f32⟩
  | .hbm, ⟨69, _⟩ => ⟨S8x1x32, .f32⟩
  | .hbm, ⟨70, _⟩ => ⟨S128x8x16x32, .f32⟩
  | .hbm, ⟨71, _⟩ => ⟨S128x8x16x32, .f32⟩
  | .hbm, ⟨72, _⟩ => ⟨S1x8x1x32, .f32⟩
  | .hbm, ⟨73, _⟩ => ⟨S128x8x16x32, .f32⟩
  | .hbm, ⟨74, _⟩ => ⟨S128x8x16x32, .f32⟩
  | .hbm, ⟨75, _⟩ => ⟨S1x8x1x32, .f32⟩
  | .hbm, ⟨76, _⟩ => ⟨S128x8x16x32, .f32⟩
  | .hbm, ⟨77, _⟩ => ⟨S128x8x16x32, .f32⟩
  | .hbm, ⟨78, _⟩ => ⟨S128x8x16x32, .f32⟩
  | .hbm, ⟨79, _⟩ => ⟨S1x8x1x32, .f32⟩
  | .hbm, ⟨80, _⟩ => ⟨S128x8x16x32, .f32⟩
  | .hbm, ⟨81, _⟩ => ⟨S128x8x16x32, .f32⟩
  | .hbm, ⟨82, _⟩ => ⟨S1x8x1x32, .f32⟩
  | .hbm, ⟨83, _⟩ => ⟨S128x8x16x32, .f32⟩
  | .hbm, ⟨84, _⟩ => ⟨S128x8x16x32, .f32⟩
  | .hbm, ⟨85, _⟩ => ⟨S128x8x16x32, .f32⟩
  | .hbm, ⟨86, _⟩ => ⟨S128x8x16x64, .f32⟩
  | .hbm, ⟨87, _⟩ => ⟨S128x8x1024, .f32⟩
  | .hbm, ⟨88, _⟩ => ⟨S128x8x16x64, .f32⟩
  | .hbm, ⟨89, _⟩ => ⟨S128x8x1x16x64, .f32⟩
  | .hbm, ⟨90, _⟩ => ⟨S128x8x1x16x64, .f32⟩
  | .hbm, ⟨91, _⟩ => ⟨S128x8x2x16x64, .f32⟩
  | .hbm, ⟨92, _⟩ => ⟨S1x128x8x2x16x64, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_2 : Ref sig .tc := ⟨.hbm, 54, rfl⟩
abbrev main_v47 : Ref sig .tc := ⟨.hbm, 55, rfl⟩
abbrev main_v48 : Ref sig .tc := ⟨.hbm, 56, rfl⟩
abbrev main_cst_3 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S128x8x1024 : Shape := ⟨3, ![128, 8, 1024]⟩
abbrev S1024x3072 : Shape := ⟨2, ![1024, 3072]⟩
abbrev S8 : Shape := ⟨1, ![8]⟩
abbrev S_ : Shape := ⟨0, ![]⟩
abbrev S128x8x3072 : Shape := ⟨3, ![128, 8, 3072]⟩
abbrev S128x8x16x64 : Shape := ⟨4, ![128, 8, 16, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x1x32 : Shape := ⟨3, ![8, 1, 32]⟩
abbrev S128x8x16x32 : Shape := ⟨4, ![128, 8, 16, 32]⟩
abbrev S1x8x1x32 : Shape := ⟨4, ![1, 8, 1, 32]⟩
abbrev S128x8x1x16x64 : Shape := ⟨5, ![128, 8, 1, 16, 64]⟩
abbrev S128x8x2x16x64 : Shape := ⟨5, ![128, 8, 2, 16, 64]⟩
abbrev S1x128x8x2x16x64 : Shape := ⟨6, ![1, 128, 8, 2, 16, 64]⟩

abbrev nBuf : Space → Nat
  | .hbm => 87
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024x3072, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S128x8x3072, .f32⟩
  | .hbm, ⟨7, _⟩ => ⟨S128x8x1024, .f32⟩
  | .hbm, ⟨8, _⟩ => ⟨S128x8x16x64, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8, .f32⟩
  | .hbm, ⟨18, _⟩ => ⟨S8x1, .f32⟩
  | .hbm, ⟨19, _⟩ => ⟨S1x32, .f32⟩
  | .hbm, ⟨20, _⟩ => ⟨S8x32, .f32⟩
  | .hbm, ⟨21, _⟩ => ⟨S8x32, .f32⟩
  | .hbm, ⟨22, _⟩ => ⟨S8x32, .f32⟩
  | .hbm, ⟨23, _⟩ => ⟨S8x32, .f32⟩
  | .hbm, ⟨24, _⟩ => ⟨S8x1x32, .f32⟩
  | .hbm, ⟨25, _⟩ => ⟨S8x32, .f32⟩
  | .hbm, ⟨26, _⟩ => ⟨S8x1x32, .f32⟩
  | .hbm, ⟨27, _⟩ => ⟨S128x8x16x32, .f32⟩
  | .hbm, ⟨28, _⟩ => ⟨S128x8x16x32, .f32⟩
  | .hbm, ⟨29, _⟩ => ⟨S1x8x1x32, .f32⟩
  | .hbm, ⟨30, _⟩ => ⟨S128x8x16x32, .f32⟩
  | .hbm, ⟨31, _⟩ => ⟨S128x8x16x32, .f32⟩
  | .hbm, ⟨32, _⟩ => ⟨S1x8x1x32, .f32⟩
  | .hbm, ⟨33, _⟩ => ⟨S128x8x16x32, .f32⟩
  | .hbm, ⟨34, _⟩ => ⟨S128x8x16x32, .f32⟩
  | .hbm, ⟨35, _⟩ => ⟨S128x8x16x32, .f32⟩
  | .hbm, ⟨36, _⟩ => ⟨S1x8x1x32, .f32⟩
  | .hbm, ⟨37, _⟩ => ⟨S128x8x16x32, .f32⟩
  | .hbm, ⟨38, _⟩ => ⟨S128x8x16x32, .f32⟩
  | .hbm, ⟨39, _⟩ => ⟨S1x8x1x32, .f32⟩
  | .hbm, ⟨40, _⟩ => ⟨S128x8x16x32, .f32⟩
  | .hbm, ⟨41, _⟩ => ⟨S128x8x16x32, .f32⟩
  | .hbm, ⟨42, _⟩ => ⟨S128x8x16x32, .f32⟩
  | .hbm, ⟨43, _⟩ => ⟨S128x8x16x64, .f32⟩
  | .hbm, ⟨44, _⟩ => ⟨S128x8x1024, .f32⟩
  | .hbm, ⟨45, _⟩ => ⟨S128x8x16x64, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S8, .f32⟩
  | .hbm, ⟨55, _⟩ => ⟨S8x1, .f32⟩
  | .hbm, ⟨56, _⟩ => ⟨S1x32, .f32⟩
  | .hbm, ⟨57, _⟩ => ⟨S8x32, .f32⟩
  | .hbm, ⟨58, _⟩ => ⟨S8x32, .f32⟩
  | .hbm, ⟨59, _⟩ => ⟨S8x32, .f32⟩
  | .hbm, ⟨60, _⟩ => ⟨S8x32, .f32⟩
  | .hbm, ⟨61, _⟩ => ⟨S8x1x32, .f32⟩
  | .hbm, ⟨62, _⟩ => ⟨S8x32, .f32⟩
  | .hbm, ⟨63, _⟩ => ⟨S8x1x32, .f32⟩
  | .hbm, ⟨64, _⟩ => ⟨S128x8x16x32, .f32⟩
  | .hbm, ⟨65, _⟩ => ⟨S128x8x16x32, .f32⟩
  | .hbm, ⟨66, _⟩ => ⟨S1x8x1x32, .f32⟩
  | .hbm, ⟨67, _⟩ => ⟨S128x8x16x32, .f32⟩
  | .hbm, ⟨68, _⟩ => ⟨S128x8x16x32, .f32⟩
  | .hbm, ⟨69, _⟩ => ⟨S1x8x1x32, .f32⟩
  | .hbm, ⟨70, _⟩ => ⟨S128x8x16x32, .f32⟩
  | .hbm, ⟨71, _⟩ => ⟨S128x8x16x32, .f32⟩
  | .hbm, ⟨72, _⟩ => ⟨S128x8x16x32, .f32⟩
  | .hbm, ⟨73, _⟩ => ⟨S1x8x1x32, .f32⟩
  | .hbm, ⟨74, _⟩ => ⟨S128x8x16x32, .f32⟩
  | .hbm, ⟨75, _⟩ => ⟨S128x8x16x32, .f32⟩
  | .hbm, ⟨76, _⟩ => ⟨S1x8x1x32, .f32⟩
  | .hbm, ⟨77, _⟩ => ⟨S128x8x16x32, .f32⟩
  | .hbm, ⟨78, _⟩ => ⟨S128x8x16x32, .f32⟩
  | .hbm, ⟨79, _⟩ => ⟨S128x8x16x32, .f32⟩
  | .hbm, ⟨80, _⟩ => ⟨S128x8x16x64, .f32⟩
  | .hbm, ⟨81, _⟩ => ⟨S128x8x1024, .f32⟩
  | .hbm, ⟨82, _⟩ => ⟨S128x8x16x64, .f32⟩
  | .hbm, ⟨83, _⟩ => ⟨S128x8x1x16x64, .f32⟩
  | .hbm, ⟨84, _⟩ => ⟨S128x8x1x16x64, .f32⟩
  | .hbm, ⟨85, _⟩ => ⟨S128x8x2x16x64, .f32⟩
  | .hbm, ⟨86, _⟩ => ⟨S1x128x8x2x16x64, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_1 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩

abbrev nD : Nat := 1
abbrev τ : Topo := Topo.v7x

variable {F : FTy → Type} [FloatOps F]
-- ==== Kernel6.lean ====
abbrev S128x8x1024 : Shape := ⟨3, ![128, 8, 1024]⟩
abbrev S1x128x512x2x2x128 : Shape := ⟨6, ![1, 128, 512, 2, 2, 128]⟩
abbrev S1024x2584 : Shape := ⟨2, ![1024, 2584]⟩
abbrev S128x512x2x2x128 : Shape := ⟨5, ![128, 512, 2, 2, 128]⟩
abbrev S8 : Shape := ⟨1, ![8]⟩
abbrev S_ : Shape := ⟨0, ![]⟩
abbrev S1024x1024 : Shape := ⟨2, ![1024, 1024]⟩
abbrev S1024x2816 : Shape := ⟨2, ![1024, 2816]⟩
abbrev S512x1024 : Shape := ⟨2, ![512, 1024]⟩
abbrev S512x2816 : Shape := ⟨2, ![512, 2816]⟩
abbrev S128x8x2584 : Shape := ⟨3, ![128, 8, 2584]⟩
abbrev S128x8x8x128 : Shape := ⟨4, ![128, 8, 8, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x1x64 : Shape := ⟨3, ![8, 1, 64]⟩
abbrev S128x8x8x64 : Shape := ⟨4, ![128, 8, 8, 64]⟩
abbrev S1x8x1x64 : Shape := ⟨4, ![1, 8, 1, 64]⟩
abbrev S128x8x1536 : Shape := ⟨3, ![128, 8, 1536]⟩
abbrev S128x8x6x2x128 : Shape := ⟨5, ![128, 8, 6, 2, 128]⟩
abbrev S128x8x24 : Shape := ⟨3, ![128, 8, 24]⟩
abbrev S128x8x8x3 : Shape := ⟨4, ![128, 8, 8, 3]⟩
abbrev S128x8x3x2x128 : Shape := ⟨5, ![128, 8, 3, 2, 128]⟩
abbrev S128x8x6x128 : Shape := ⟨4, ![128, 8, 6, 128]⟩
abbrev S128x8x6x64 : Shape := ⟨4, ![128, 8, 6, 64]⟩
abbrev S128x8x1x2x128 : Shape := ⟨5, ![128, 8, 1, 2, 128]⟩
abbrev S128x8x2x128 : Shape := ⟨4, ![128, 8, 2, 128]⟩
abbrev S128x8x4x2x128 : Shape := ⟨5, ![128, 8, 4, 2, 128]⟩
abbrev S128x8x2x2x128 : Shape := ⟨5, ![128, 8, 2, 2, 128]⟩
abbrev S128x520x2x2x128 : Shape := ⟨5, ![128, 520, 2, 2, 128]⟩
abbrev S1x128x8x4x2x128 : Shape := ⟨6, ![1, 128, 8, 4, 2, 128]⟩

abbrev nBuf : Space → Nat
  | .hbm => 128
  | .vmem => 5
  | .smem => 0
  | _ => 0

abbrev bufTy : (tb : Table) → Fin (tcTables nBuf tb) → BufTy
  | .hbm, ⟨0, _⟩ => ⟨S128x8x1024, .f32⟩
  | .hbm, ⟨1, _⟩ => ⟨S1x128x512x2x2x128, .f32⟩
  | .hbm, ⟨2, _⟩ => ⟨S1024x2584, .f32⟩
  | .hbm, ⟨3, _⟩ => ⟨S128x512x2x2x128, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1024x1024, .f32⟩
  | .hbm, ⟨9, _⟩ => ⟨S_, .i32⟩
  | .hbm, ⟨10, _⟩ => ⟨S_, .f32⟩
  | .hbm, ⟨11, _⟩ => ⟨S1024x2816, .f32⟩
  | .hbm, ⟨12, _⟩ => ⟨S1024x2816, .bf16⟩
  | .hbm, ⟨13, _⟩ => ⟨S1024x2816, .f32⟩
  | .hbm, ⟨14, _⟩ => ⟨S1024x2584, .f32⟩
  | .hbm, ⟨15, _⟩ => ⟨S128x8x2584, .f32⟩
  | .hbm, ⟨16, _⟩ => ⟨S128x8x1024, .f32⟩
  | .hbm, ⟨17, _⟩ => ⟨S128x8x8x128, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S8, .f32⟩
  | .hbm, ⟨27, _⟩ => ⟨S8x1, .f32⟩
  | .hbm, ⟨28, _⟩ => ⟨S1x64, .f32⟩
  | .hbm, ⟨29, _⟩ => ⟨S8x64, .f32⟩
  | .hbm, ⟨30, _⟩ => ⟨S8x64, .f32⟩
  | .hbm, ⟨31, _⟩ => ⟨S8x64, .f32⟩
  | .hbm, ⟨32, _⟩ => ⟨S8x64, .f32⟩
  | .hbm, ⟨33, _⟩ => ⟨S8x1x64, .f32⟩
  | .hbm, ⟨34, _⟩ => ⟨S8x64, .f32⟩
  | .hbm, ⟨35, _⟩ => ⟨S8x1x64, .f32⟩
  | .hbm, ⟨36, _⟩ => ⟨S128x8x8x64, .f32⟩
  | .hbm, ⟨37, _⟩ => ⟨S128x8x8x64, .f32⟩
  | .hbm, ⟨38, _⟩ => ⟨S1x8x1x64, .f32⟩
  | .hbm, ⟨39, _⟩ => ⟨S128x8x8x64, .f32⟩
  | .hbm, ⟨40, _⟩ => ⟨S128x8x8x64, .f32⟩
  | .hbm, ⟨41, _⟩ => ⟨S1x8x1x64, .f32⟩
  | .hbm, ⟨42, _⟩ => ⟨S128x8x8x64, .f32⟩
  | .hbm, ⟨43, _⟩ => ⟨S128x8x8x64, .f32⟩
  | .hbm, ⟨44, _⟩ => ⟨S128x8x8x64, .f32⟩
  | .hbm, ⟨45, _⟩ => ⟨S1x8x1x64, .f32⟩
  | .hbm, ⟨46, _⟩ => ⟨S128x8x8x64, .f32⟩
  | .hbm, ⟨47, _⟩ => ⟨S128x8x8x64, .f32⟩
  | .hbm, ⟨48, _⟩ => ⟨S1x8x1x64, .f32⟩
  | .hbm, ⟨49, _⟩ => ⟨S128x8x8x64, .f32⟩
  | .hbm, ⟨50, _⟩ => ⟨S128x8x8x64, .f32⟩
  | .hbm, ⟨51, _⟩ => ⟨S128x8x8x64, .f32⟩
  | .hbm, ⟨52, _⟩ => ⟨S128x8x8x128, .f32⟩
  | .hbm, ⟨53, _⟩ => ⟨S128x8x1536, .f32⟩
  | .hbm, ⟨54, _⟩ => ⟨S128x8x6x2x128, .f32⟩
  | .hbm, ⟨55, _⟩ => ⟨S128x8x24, .f32⟩
  | .hbm, ⟨56, _⟩ => ⟨S128x8x8x3, .f32⟩
  | .hbm, ⟨57, _⟩ => ⟨S128x8x8x3, .f32⟩
  | .hbm, ⟨58, _⟩ => ⟨S128x8x8x3, .f32⟩
  | .hbm, ⟨59, _⟩ => ⟨S_, .f32⟩
  | .hbm, ⟨60, _⟩ => ⟨S128x8x8x3, .f32⟩
  | .hbm, ⟨61, _⟩ => ⟨S128x8x8x3, .f32⟩
  | .hbm, ⟨62, _⟩ => ⟨S_, .f32⟩
  | .hbm, ⟨63, _⟩ => ⟨S128x8x8x3, .f32⟩
  | .hbm, ⟨64, _⟩ => ⟨S128x8x8x3, .f32⟩
  | .hbm, ⟨65, _⟩ => ⟨S128x8x3x2x128, .f32⟩
  | .hbm, ⟨66, _⟩ => ⟨S128x8x6x128, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S8, .f32⟩
  | .hbm, ⟨76, _⟩ => ⟨S8x1, .f32⟩
  | .hbm, ⟨77, _⟩ => ⟨S1x64, .f32⟩
  | .hbm, ⟨78, _⟩ => ⟨S8x64, .f32⟩
  | .hbm, ⟨79, _⟩ => ⟨S8x64, .f32⟩
  | .hbm, ⟨80, _⟩ => ⟨S8x64, .f32⟩
  | .hbm, ⟨81, _⟩ => ⟨S8x64, .f32⟩
  | .hbm, ⟨82, _⟩ => ⟨S8x1x64, .f32⟩
  | .hbm, ⟨83, _⟩ => ⟨S8x64, .f32⟩
  | .hbm, ⟨84, _⟩ => ⟨S8x1x64, .f32⟩
  | .hbm, ⟨85, _⟩ => ⟨S128x8x6x64, .f32⟩
  | .hbm, ⟨86, _⟩ => ⟨S128x8x6x64, .f32⟩
  | .hbm, ⟨87, _⟩ => ⟨S1x8x1x64, .f32⟩
  | .hbm, ⟨88, _⟩ => ⟨S128x8x6x64, .f32⟩
  | .hbm, ⟨89, _⟩ => ⟨S128x8x6x64, .f32⟩
  | .hbm, ⟨90, _⟩ => ⟨S1x8x1x64, .f32⟩
  | .hbm, ⟨91, _⟩ => ⟨S128x8x6x64, .f32⟩
  | .hbm, ⟨92, _⟩ => ⟨S128x8x6x64, .f32⟩
  | .hbm, ⟨93, _⟩ => ⟨S128x8x6x64, .f32⟩
  | .hbm, ⟨94, _⟩ => ⟨S1x8x1x64, .f32⟩
  | .hbm, ⟨95, _⟩ => ⟨S128x8x6x64, .f32⟩
  | .hbm, ⟨96, _⟩ => ⟨S128x8x6x64, .f32⟩
  | .hbm, ⟨97, _⟩ => ⟨S1x8x1x64, .f32⟩
  | .hbm, ⟨98, _⟩ => ⟨S128x8x6x64, .f32⟩
  | .hbm, ⟨99, _⟩ => ⟨S128x8x6x64, .f32⟩
  | .hbm, ⟨100, _⟩ => ⟨S128x8x6x64, .f32⟩
  | .hbm, ⟨101, _⟩ => ⟨S128x8x6x128, .f32⟩
  | .hbm, ⟨102, _⟩ => ⟨S128x8x3x2x128, .f32⟩
  | .hbm, ⟨103, _⟩ => ⟨S128x8x1x2x128, .f32⟩
  | .hbm, ⟨104, _⟩ => ⟨S128x8x2x128, .f32⟩
  | .hbm, ⟨105, _⟩ => ⟨S128x8x1x2x128, .f32⟩
  | .hbm, ⟨106, _⟩ => ⟨S128x8x2x128, .f32⟩
  | .hbm, ⟨107, _⟩ => ⟨S128x8x1x2x128, .f32⟩
  | .hbm, ⟨108, _⟩ => ⟨S128x8x2x128, .f32⟩
  | .hbm, ⟨109, _⟩ => ⟨S128x8x1x2x128, .f32⟩
  | .hbm, ⟨110, _⟩ => ⟨S128x8x2x128, .f32⟩
  | .hbm, ⟨111, _⟩ => ⟨S128x8x1x2x128, .f32⟩
  | .hbm, ⟨112, _⟩ => ⟨S128x8x2x128, .f32⟩
  | .hbm, ⟨113, _⟩ => ⟨S128x8x1x2x128, .f32⟩
  | .hbm, ⟨114, _⟩ => ⟨S128x8x2x128, .f32⟩
  | .hbm, ⟨115, _⟩ => ⟨S128x8x1x2x128, .f32⟩
  | .hbm, ⟨116, _⟩ => ⟨S128x8x1x2x128, .f32⟩
  | .hbm, ⟨117, _⟩ => ⟨S128x8x1x2x128, .f32⟩
  | .hbm, ⟨118, _⟩ => ⟨S128x8x1x2x128, .f32⟩
  | .hbm, ⟨119, _⟩ => ⟨S128x8x1x2x128, .f32⟩
  | .hbm, ⟨120, _⟩ => ⟨S128x8x1x2x128, .f32⟩
  | .hbm, ⟨121, _⟩ => ⟨S128x8x6x2x128, .f32⟩
  | .hbm, ⟨122, _⟩ => ⟨S128x8x4x2x128, .f32⟩
  | .hbm, ⟨123, _⟩ => ⟨S128x8x2x2x128, .f32⟩
  | .hbm, ⟨124, _⟩ => ⟨S128x520x2x2x128, .f32⟩
  | .hbm, ⟨125, _⟩ => ⟨S128x512x2x2x128, .f32⟩
  | .hbm, ⟨126, _⟩ => ⟨S1x128x8x4x2x128, .f32⟩
  | .hbm, ⟨127, _⟩ => ⟨S1x128x512x2x2x128, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S512x2816, .f32⟩
  | .local _ .vmem, ⟨4, _⟩ => ⟨S512x2816, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_2 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_4 : Ref sig .tc := ⟨.hbm, 69, rfl⟩
abbrev main_v59 : Ref sig .tc := ⟨.hbm, 70, rfl⟩
abbrev main_v60 : Ref sig .tc := ⟨.hbm, 71, rfl⟩
abbrev main_cst_5 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S128x8x1024 : Shape := ⟨3, ![128, 8, 1024]⟩
abbrev S1x128x512x2x2x128 : Shape := ⟨6, ![1, 128, 512, 2, 2, 128]⟩
abbrev S1024x2584 : Shape := ⟨2, ![1024, 2584]⟩
abbrev S128x512x2x2x128 : Shape := ⟨5, ![128, 512, 2, 2, 128]⟩
abbrev S8 : Shape := ⟨1, ![8]⟩
abbrev S_ : Shape := ⟨0, ![]⟩
abbrev S128x8x2584 : Shape := ⟨3, ![128, 8, 2584]⟩
abbrev S128x8x8x128 : Shape := ⟨4, ![128, 8, 8, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x1x64 : Shape := ⟨3, ![8, 1, 64]⟩
abbrev S128x8x8x64 : Shape := ⟨4, ![128, 8, 8, 64]⟩
abbrev S1x8x1x64 : Shape := ⟨4, ![1, 8, 1, 64]⟩
abbrev S128x8x1536 : Shape := ⟨3, ![128, 8, 1536]⟩
abbrev S128x8x6x2x128 : Shape := ⟨5, ![128, 8, 6, 2, 128]⟩
abbrev S128x8x24 : Shape := ⟨3, ![128, 8, 24]⟩
abbrev S128x8x8x3 : Shape := ⟨4, ![128, 8, 8, 3]⟩
abbrev S128x8x3x2x128 : Shape := ⟨5, ![128, 8, 3, 2, 128]⟩
abbrev S128x8x6x128 : Shape := ⟨4, ![128, 8, 6, 128]⟩
abbrev S128x8x6x64 : Shape := ⟨4, ![128, 8, 6, 64]⟩
abbrev S128x8x1x2x128 : Shape := ⟨5, ![128, 8, 1, 2, 128]⟩
abbrev S128x8x2x128 : Shape := ⟨4, ![128, 8, 2, 128]⟩
abbrev S128x8x4x2x128 : Shape := ⟨5, ![128, 8, 4, 2, 128]⟩
abbrev S128x8x2x2x128 : Shape := ⟨5, ![128, 8, 2, 2, 128]⟩
abbrev S128x520x2x2x128 : Shape := ⟨5, ![128, 520, 2, 2, 128]⟩
abbrev S1x128x8x4x2x128 : Shape := ⟨6, ![1, 128, 8, 4, 2, 128]⟩

abbrev nBuf : Space → Nat
  | .hbm => 121
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1x128x512x2x2x128, .f32⟩
  | .hbm, ⟨2, _⟩ => ⟨S1024x2584, .f32⟩
  | .hbm, ⟨3, _⟩ => ⟨S128x512x2x2x128, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S128x8x2584, .f32⟩
  | .hbm, ⟨9, _⟩ => ⟨S128x8x1024, .f32⟩
  | .hbm, ⟨10, _⟩ => ⟨S128x8x8x128, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S8, .f32⟩
  | .hbm, ⟨20, _⟩ => ⟨S8x1, .f32⟩
  | .hbm, ⟨21, _⟩ => ⟨S1x64, .f32⟩
  | .hbm, ⟨22, _⟩ => ⟨S8x64, .f32⟩
  | .hbm, ⟨23, _⟩ => ⟨S8x64, .f32⟩
  | .hbm, ⟨24, _⟩ => ⟨S8x64, .f32⟩
  | .hbm, ⟨25, _⟩ => ⟨S8x64, .f32⟩
  | .hbm, ⟨26, _⟩ => ⟨S8x1x64, .f32⟩
  | .hbm, ⟨27, _⟩ => ⟨S8x64, .f32⟩
  | .hbm, ⟨28, _⟩ => ⟨S8x1x64, .f32⟩
  | .hbm, ⟨29, _⟩ => ⟨S128x8x8x64, .f32⟩
  | .hbm, ⟨30, _⟩ => ⟨S128x8x8x64, .f32⟩
  | .hbm, ⟨31, _⟩ => ⟨S1x8x1x64, .f32⟩
  | .hbm, ⟨32, _⟩ => ⟨S128x8x8x64, .f32⟩
  | .hbm, ⟨33, _⟩ => ⟨S128x8x8x64, .f32⟩
  | .hbm, ⟨34, _⟩ => ⟨S1x8x1x64, .f32⟩
  | .hbm, ⟨35, _⟩ => ⟨S128x8x8x64, .f32⟩
  | .hbm, ⟨36, _⟩ => ⟨S128x8x8x64, .f32⟩
  | .hbm, ⟨37, _⟩ => ⟨S128x8x8x64, .f32⟩
  | .hbm, ⟨38, _⟩ => ⟨S1x8x1x64, .f32⟩
  | .hbm, ⟨39, _⟩ => ⟨S128x8x8x64, .f32⟩
  | .hbm, ⟨40, _⟩ => ⟨S128x8x8x64, .f32⟩
  | .hbm, ⟨41, _⟩ => ⟨S1x8x1x64, .f32⟩
  | .hbm, ⟨42, _⟩ => ⟨S128x8x8x64, .f32⟩
  | .hbm, ⟨43, _⟩ => ⟨S128x8x8x64, .f32⟩
  | .hbm, ⟨44, _⟩ => ⟨S128x8x8x64, .f32⟩
  | .hbm, ⟨45, _⟩ => ⟨S128x8x8x128, .f32⟩
  | .hbm, ⟨46, _⟩ => ⟨S128x8x1536, .f32⟩
  | .hbm, ⟨47, _⟩ => ⟨S128x8x6x2x128, .f32⟩
  | .hbm, ⟨48, _⟩ => ⟨S128x8x24, .f32⟩
  | .hbm, ⟨49, _⟩ => ⟨S128x8x8x3, .f32⟩
  | .hbm, ⟨50, _⟩ => ⟨S128x8x8x3, .f32⟩
  | .hbm, ⟨51, _⟩ => ⟨S128x8x8x3, .f32⟩
  | .hbm, ⟨52, _⟩ => ⟨S_, .f32⟩
  | .hbm, ⟨53, _⟩ => ⟨S128x8x8x3, .f32⟩
  | .hbm, ⟨54, _⟩ => ⟨S128x8x8x3, .f32⟩
  | .hbm, ⟨55, _⟩ => ⟨S_, .f32⟩
  | .hbm, ⟨56, _⟩ => ⟨S128x8x8x3, .f32⟩
  | .hbm, ⟨57, _⟩ => ⟨S128x8x8x3, .f32⟩
  | .hbm, ⟨58, _⟩ => ⟨S128x8x3x2x128, .f32⟩
  | .hbm, ⟨59, _⟩ => ⟨S128x8x6x128, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S8, .f32⟩
  | .hbm, ⟨69, _⟩ => ⟨S8x1, .f32⟩
  | .hbm, ⟨70, _⟩ => ⟨S1x64, .f32⟩
  | .hbm, ⟨71, _⟩ => ⟨S8x64, .f32⟩
  | .hbm, ⟨72, _⟩ => ⟨S8x64, .f32⟩
  | .hbm, ⟨73, _⟩ => ⟨S8x64, .f32⟩
  | .hbm, ⟨74, _⟩ => ⟨S8x64, .f32⟩
  | .hbm, ⟨75, _⟩ => ⟨S8x1x64, .f32⟩
  | .hbm, ⟨76, _⟩ => ⟨S8x64, .f32⟩
  | .hbm, ⟨77, _⟩ => ⟨S8x1x64, .f32⟩
  | .hbm, ⟨78, _⟩ => ⟨S128x8x6x64, .f32⟩
  | .hbm, ⟨79, _⟩ => ⟨S128x8x6x64, .f32⟩
  | .hbm, ⟨80, _⟩ => ⟨S1x8x1x64, .f32⟩
  | .hbm, ⟨81, _⟩ => ⟨S128x8x6x64, .f32⟩
  | .hbm, ⟨82, _⟩ => ⟨S128x8x6x64, .f32⟩
  | .hbm, ⟨83, _⟩ => ⟨S1x8x1x64, .f32⟩
  | .hbm, ⟨84, _⟩ => ⟨S128x8x6x64, .f32⟩
  | .hbm, ⟨85, _⟩ => ⟨S128x8x6x64, .f32⟩
  | .hbm, ⟨86, _⟩ => ⟨S128x8x6x64, .f32⟩
  | .hbm, ⟨87, _⟩ => ⟨S1x8x1x64, .f32⟩
  | .hbm, ⟨88, _⟩ => ⟨S128x8x6x64, .f32⟩
  | .hbm, ⟨89, _⟩ => ⟨S128x8x6x64, .f32⟩
  | .hbm, ⟨90, _⟩ => ⟨S1x8x1x64, .f32⟩
  | .hbm, ⟨91, _⟩ => ⟨S128x8x6x64, .f32⟩
  | .hbm, ⟨92, _⟩ => ⟨S128x8x6x64, .f32⟩
  | .hbm, ⟨93, _⟩ => ⟨S128x8x6x64, .f32⟩
  | .hbm, ⟨94, _⟩ => ⟨S128x8x6x128, .f32⟩
  | .hbm, ⟨95, _⟩ => ⟨S128x8x3x2x128, .f32⟩
  | .hbm, ⟨96, _⟩ => ⟨S128x8x1x2x128, .f32⟩
  | .hbm, ⟨97, _⟩ => ⟨S128x8x2x128, .f32⟩
  | .hbm, ⟨98, _⟩ => ⟨S128x8x1x2x128, .f32⟩
  | .hbm, ⟨99, _⟩ => ⟨S128x8x2x128, .f32⟩
  | .hbm, ⟨100, _⟩ => ⟨S128x8x1x2x128, .f32⟩
  | .hbm, ⟨101, _⟩ => ⟨S128x8x2x128, .f32⟩
  | .hbm, ⟨102, _⟩ => ⟨S128x8x1x2x128, .f32⟩
  | .hbm, ⟨103, _⟩ => ⟨S128x8x2x128, .f32⟩
  | .hbm, ⟨104, _⟩ => ⟨S128x8x1x2x128, .f32⟩
  | .hbm, ⟨105, _⟩ => ⟨S128x8x2x128, .f32⟩
  | .hbm, ⟨106, _⟩ => ⟨S128x8x1x2x128, .f32⟩
  | .hbm, ⟨107, _⟩ => ⟨S128x8x2x128, .f32⟩
  | .hbm, ⟨108, _⟩ => ⟨S128x8x1x2x128, .f32⟩
  | .hbm, ⟨109, _⟩ => ⟨S128x8x1x2x128, .f32⟩
  | .hbm, ⟨110, _⟩ => ⟨S128x8x1x2x128, .f32⟩
  | .hbm, ⟨111, _⟩ => ⟨S128x8x1x2x128, .f32⟩
  | .hbm, ⟨112, _⟩ => ⟨S128x8x1x2x128, .f32⟩
  | .hbm, ⟨113, _⟩ => ⟨S128x8x1x2x128, .f32⟩
  | .hbm, ⟨114, _⟩ => ⟨S128x8x6x2x128, .f32⟩
  | .hbm, ⟨115, _⟩ => ⟨S128x8x4x2x128, .f32⟩
  | .hbm, ⟨116, _⟩ => ⟨S128x8x2x2x128, .f32⟩
  | .hbm, ⟨117, _⟩ => ⟨S128x520x2x2x128, .f32⟩
  | .hbm, ⟨118, _⟩ => ⟨S128x512x2x2x128, .f32⟩
  | .hbm, ⟨119, _⟩ => ⟨S1x128x8x4x2x128, .f32⟩
  | .hbm, ⟨120, _⟩ => ⟨S1x128x512x2x2x128, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_1 : Ref sig .tc := ⟨.hbm, 52, rfl⟩
abbrev main_v46 : Ref sig .tc := ⟨.hbm, 53, rfl⟩
abbrev main_v47 : Ref sig .tc := ⟨.hbm, 54, rfl⟩
abbrev main_cst_2 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩

abbrev nD : Nat := 1
abbrev τ : Topo := Topo.v7x

variable {F : FTy → Type} [FloatOps F]
-- ==== Kernel7.lean ====
abbrev S2x8192x1024 : Shape := ⟨3, ![2, 8192, 1024]⟩
abbrev S2x1x1024 : Shape := ⟨3, ![2, 1, 1024]⟩
abbrev S1024 : Shape := ⟨1, ![1024]⟩
abbrev S2x3x3072 : Shape := ⟨3, ![2, 3, 3072]⟩
abbrev S1024x4112 : Shape := ⟨2, ![1024, 4112]⟩
abbrev S4x3072 : Shape := ⟨2, ![4, 3072]⟩
abbrev S8 : Shape := ⟨1, ![8]⟩
abbrev S_ : Shape := ⟨0, ![]⟩
abbrev S1024x4224 : Shape := ⟨2, ![1024, 4224]⟩
abbrev S2x8x3072 : Shape := ⟨3, ![2, 8, 3072]⟩
abbrev S2x128 : Shape := ⟨2, ![2, 128]⟩
abbrev S1 : Shape := ⟨1, ![1]⟩
abbrev S2 : Shape := ⟨1, ![2]⟩
abbrev S1x1024 : Shape := ⟨2, ![1, 1024]⟩
abbrev S2x8192x16 : Shape := ⟨3, ![2, 8192, 16]⟩
abbrev S1x256x1024 : Shape := ⟨3, ![1, 256, 1024]⟩
abbrev S1x1x1024 : Shape := ⟨3, ![1, 1, 1024]⟩
abbrev S1x8x3072 : Shape := ⟨3, ![1, 8, 3072]⟩
abbrev S1x256x16 : Shape := ⟨3, ![1, 256, 16]⟩
abbrev S8x3072 : Shape := ⟨2, ![8, 3072]⟩
abbrev S256x1024 : Shape := ⟨2, ![256, 1024]⟩
abbrev S256 : Shape := ⟨1, ![256]⟩
abbrev S256x1 : Shape := ⟨2, ![256, 1]⟩
abbrev S256x4224 : Shape := ⟨2, ![256, 4224]⟩
abbrev S256x3072 : Shape := ⟨2, ![256, 3072]⟩
abbrev S264x3072 : Shape := ⟨2, ![264, 3072]⟩
abbrev S1x3072 : Shape := ⟨2, ![1, 3072]⟩
abbrev S256x128 : Shape := ⟨2, ![256, 128]⟩
abbrev S1x256x128 : Shape := ⟨3, ![1, 256, 128]⟩
abbrev S1x128 : Shape := ⟨2, ![1, 128]⟩
abbrev S256x16 : Shape := ⟨2, ![256, 16]⟩
abbrev S2x8192x8 : Shape := ⟨3, ![2, 8192, 8]⟩

abbrev nBuf : Space → Nat
  | .hbm => 42
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S2x3x3072, .f32⟩
  | .hbm, ⟨5, _⟩ => ⟨S1024x4112, .f32⟩
  | .hbm, ⟨6, _⟩ => ⟨S4x3072, .f32⟩
  | .hbm, ⟨7, _⟩ => ⟨S8, .f32⟩
  | .hbm, ⟨8, _⟩ => ⟨S8, .f32⟩
  | .hbm, ⟨9, _⟩ => ⟨S_, .i32⟩
  | .hbm, ⟨10, _⟩ => ⟨S_, .f32⟩
  | .hbm, ⟨11, _⟩ => ⟨S1024x4224, .f32⟩
  | .hbm, ⟨12, _⟩ => ⟨S1024x4224, .bf16⟩
  | .hbm, ⟨13, _⟩ => ⟨S_, .i32⟩
  | .hbm, ⟨14, _⟩ => ⟨S_, .f32⟩
  | .hbm, ⟨15, _⟩ => ⟨S2x8x3072, .f32⟩
  | .hbm, ⟨16, _⟩ => ⟨S_, .f32⟩
  | .hbm, ⟨17, _⟩ => ⟨S2x128, .f32⟩
  | .hbm, ⟨18, _⟩ => ⟨S8, .f32⟩
  | .hbm, ⟨19, _⟩ => ⟨S8, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S2x128, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S2x128, .f32⟩
  | .hbm, ⟨32, _⟩ => ⟨S1x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x16, .f32⟩
  | .hbm, ⟨38, _⟩ => ⟨S2x8x3072, .f32⟩
  | .hbm, ⟨39, _⟩ => ⟨S2x8192x8, .f32⟩
  | .hbm, ⟨40, _⟩ => ⟨S2x8192x8, .f32⟩
  | .hbm, ⟨41, _⟩ => ⟨S2x3x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4224, .bf16⟩
  | .local _ .vmem, ⟨8, _⟩ => ⟨S4x3072, .f32⟩
  | .local _ .vmem, ⟨9, _⟩ => ⟨S1x8x3072, .f32⟩
  | .local _ .vmem, ⟨10, _⟩ => ⟨S1x8x3072, .f32⟩
  | .local _ .vmem, ⟨11, _⟩ => ⟨S2x128, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x16, .f32⟩
  | .local _ .vmem, ⟨21, _⟩ => ⟨S1x256x16, .f32⟩
  | .local _ .vmem, ⟨22, _⟩ => ⟨S1x8x3072, .f32⟩
  | .local _ .vmem, ⟨23, _⟩ => ⟨S1x8x3072, .f32⟩
  | .local _ .vmem, ⟨24, _⟩ => ⟨S8x3072, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev main_v15_4 : Ref sig .tc := ⟨.hbm, 37, rfl⟩
abbrev main_v15_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v289 : BitVec 1 := Scalar.cmpi .eq arg1 c31_i32
  let v290 : BitVec 32 := Scalar.extui v289
  let c0_i32_115 : BitVec 32 := 0#32
  let v291 : BitVec 1 := Scalar.cmpi .ne v290 c0_i32_115
  v291

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference7Ideal.lean ====
abbrev S2x8192x1024 : Shape := ⟨3, ![2, 8192, 1024]⟩
abbrev S2x1x1024 : Shape := ⟨3, ![2, 1, 1024]⟩
abbrev S1024 : Shape := ⟨1, ![1024]⟩
abbrev S2x3x3072 : Shape := ⟨3, ![2, 3, 3072]⟩
abbrev S1024x4112 : Shape := ⟨2, ![1024, 4112]⟩
abbrev S4x3072 : Shape := ⟨2, ![4, 3072]⟩
abbrev S8 : Shape := ⟨1, ![8]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4112 : Shape := ⟨3, ![2, 8192, 4112]⟩
abbrev S2x8192x3072 : Shape := ⟨3, ![2, 8192, 3072]⟩
abbrev S2x8195x3072 : Shape := ⟨3, ![2, 8195, 3072]⟩
abbrev S1x3072 : Shape := ⟨2, ![1, 3072]⟩
abbrev S3072 : Shape := ⟨1, ![3072]⟩
abbrev S1x1x3072 : Shape := ⟨3, ![1, 1, 3072]⟩
abbrev S2x8192x8 : Shape := ⟨3, ![2, 8192, 8]⟩
abbrev S2x8192x8x128 : Shape := ⟨4, ![2, 8192, 8, 128]⟩
abbrev S2x8192x8x1 : Shape := ⟨4, ![2, 8192, 8, 1]⟩
abbrev S1x1x8 : Shape := ⟨3, ![1, 1, 8]⟩

abbrev nBuf : Space → Nat
  | .hbm => 132
  | .vmem => 0
  | .smem => 0
  | _ => 0

abbrev hbmTy0_0 (i : Nat) : BufTy := match i % 128 with
  | 0 => ⟨S2x8192x1024, .f32⟩
  | 1 => ⟨S2x1x1024, .f32⟩
  | 2 => ⟨S2x1x1024, .f32⟩
  | 3 => ⟨S1024, .f32⟩
  | 4 => ⟨S2x3x3072, .f32⟩
  | 5 => ⟨S1024x4112, .f32⟩
  | 6 => ⟨S4x3072, .f32⟩
  | 7 => ⟨S8, .f32⟩
  | 8 => ⟨S8, .f32⟩
  | 9 => ⟨S2x8192x1024, .f32⟩
  | 10 => ⟨S_, .f32⟩
  | 11 => ⟨S2x8192, .f32⟩
  | 12 => ⟨S2x8192x1, .f32⟩
  | 13 => ⟨S_, .f32⟩
  | 14 => ⟨S2x8192x1, .f32⟩
  | 15 => ⟨S2x8192x1, .f32⟩
  | 16 => ⟨S_, .f32⟩
  | 17 => ⟨S2x8192x1, .f32⟩
  | 18 => ⟨S2x8192x1, .f32⟩
  | 19 => ⟨S2x8192x1, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | 25 => ⟨S_, .f32⟩
  | 26 => ⟨S2x1x1024, .f32⟩
  | 27 => ⟨S2x1x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S2x8192x4112, .f32⟩
  | 33 => ⟨S2x8192x3072, .f32⟩
  | 34 => ⟨S2x8195x3072, .f32⟩
  | 35 => ⟨S2x8192x3072, .f32⟩
  | 36 => ⟨S1x3072, .f32⟩
  | 37 => ⟨S3072, .f32⟩
  | 38 => ⟨S1x1x3072, .f32⟩
  | 39 => ⟨S2x8192x3072, .f32⟩
  | 40 => ⟨S2x8192x3072, .f32⟩
  | 41 => ⟨S2x8192x3072, .f32⟩
  | 42 => ⟨S1x3072, .f32⟩
  | 43 => ⟨S3072, .f32⟩
  | 44 => ⟨S1x1x3072, .f32⟩
  | 45 => ⟨S2x8192x3072, .f32⟩
  | 46 => ⟨S2x8192x3072, .f32⟩
  | 47 => ⟨S2x8192x3072, .f32⟩
  | 48 => ⟨S2x8192x3072, .f32⟩
  | 49 => ⟨S1x3072, .f32⟩
  | 50 => ⟨S3072, .f32⟩
  | 51 => ⟨S1x1x3072, .f32⟩
  | 52 => ⟨S2x8192x3072, .f32⟩
  | 53 => ⟨S2x8192x3072, .f32⟩
  | 54 => ⟨S2x8192x3072, .f32⟩
  | 55 => ⟨S2x8192x3072, .f32⟩
  | 56 => ⟨S1x3072, .f32⟩
  | 57 => ⟨S3072, .f32⟩
  | 58 => ⟨S1x1x3072, .f32⟩
  | 59 => ⟨S2x8192x3072, .f32⟩
  | 60 => ⟨S2x8192x3072, .f32⟩
  | 61 => ⟨S2x8192x3072, .f32⟩
  | 62 => ⟨S2x8192x3072, .f32⟩
  | 63 => ⟨S2x8192x3072, .f32⟩
  | 64 => ⟨S_, .f32⟩
  | 65 => ⟨S2x8192x3072, .f32⟩
  | 66 => ⟨S2x8192x3072, .f32⟩
  | 67 => ⟨S_, .f32⟩
  | 68 => ⟨S2x8192x3072, .f32⟩
  | 69 => ⟨S2x8192x3072, .f32⟩
  | 70 => ⟨S2x8192x3072, .f32⟩
  | 71 => ⟨S2x3x3072, .f32⟩
  | 72 => ⟨S2x8192x1024, .f32⟩
  | 73 => ⟨S2x8192x8, .f32⟩
  | 74 => ⟨S2x8192x8, .f32⟩
  | 75 => ⟨S2x8192x1024, .f32⟩
  | 76 => ⟨S2x8192x8x128, .f32⟩
  | 77 => ⟨S2x8192x8x128, .f32⟩
  | 78 => ⟨S_, .f32⟩
  | 79 => ⟨S2x8192x8, .f32⟩
  | 80 => ⟨S2x8192x8x1, .f32⟩
  | 81 => ⟨S_, .f32⟩
  | 82 => ⟨S2x8192x8x1, .f32⟩
  | 83 => ⟨S2x8192x8x1, .f32⟩
  | 84 => ⟨S2x8192x8x1, .f32⟩
  | 85 => ⟨S2x8192x8x128, .f32⟩
  | 86 => ⟨S2x8192x8x128, .f32⟩
  | 87 => ⟨S2x8192x1024, .f32⟩
  | 88 => ⟨S2x8192x8x128, .f32⟩
  | 89 => ⟨S2x8192x8x128, .f32⟩
  | 90 => ⟨S_, .f32⟩
  | 91 => ⟨S2x8192x8, .f32⟩
  | 92 => ⟨S2x8192x8x1, .f32⟩
  | 93 => ⟨S_, .f32⟩
  | 94 => ⟨S2x8192x8x1, .f32⟩
  | 95 => ⟨S2x8192x8x1, .f32⟩
  | 96 => ⟨S2x8192x8x1, .f32⟩
  | 97 => ⟨S2x8192x8x128, .f32⟩
  | 98 => ⟨S2x8192x8x128, .f32⟩
  | 99 => ⟨S2x8192x1024, .f32⟩
  | 100 => ⟨S2x8192x8, .f32⟩
  | 101 => ⟨S2x8192x8, .f32⟩
  | 102 => ⟨S_, .f32⟩
  | 103 => ⟨S2x8192x8, .f32⟩
  | 104 => ⟨S2x8192x8, .f32⟩
  | 105 => ⟨S_, .f32⟩
  | 106 => ⟨S2x8192x8, .f32⟩
  | 107 => ⟨S2x8192x8, .f32⟩
  | 108 => ⟨S8, .f32⟩
  | 109 => ⟨S8, .f32⟩
  | 110 => ⟨S1x1x8, .f32⟩
  | 111 => ⟨S2x8192x8, .f32⟩
  | 112 => ⟨S2x8192x8, .f32⟩
  | 113 => ⟨S_, .f32⟩
  | 114 => ⟨S2x8192x8, .f32⟩
  | 115 => ⟨S2x8192x8, .f32⟩
  | 116 => ⟨S2x8192x8, .f32⟩
  | 117 => ⟨S2x8192x8, .f32⟩
  | 118 => ⟨S2x8192x8, .i1⟩
  | 119 => ⟨S2x8192x8, .f32⟩
  | 120 => ⟨S2x8192x8, .f32⟩
  | 121 => ⟨S2x8192x8, .f32⟩
  | 122 => ⟨S2x8192x8, .f32⟩
  | 123 => ⟨S2x8192x8, .f32⟩
  | 124 => ⟨S2x8192x8, .f32⟩
  | 125 => ⟨S2x8192x8, .f32⟩
  | 126 => ⟨S2x8192x8, .f32⟩
  | 127 => ⟨S1x1x8, .f32⟩
  | _ => ⟨S2x8192x1024, .f32⟩

abbrev hbmTy0_1 (i : Nat) : BufTy := match i % 128 with
  | 0 => ⟨S2x8192x8, .f32⟩
  | 1 => ⟨S2x8192x8, .f32⟩
  | 2 => ⟨S2x8192x1024, .f32⟩
  | 3 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_3 : Ref sig .tc := ⟨.hbm, 78, rfl⟩
abbrev main_v57 : Ref sig .tc := ⟨.hbm, 79, rfl⟩
abbrev main_v58 : Ref sig .tc := ⟨.hbm, 80, rfl⟩
abbrev main_cst_4 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_5 : Ref sig .tc := ⟨.hbm, 90, rfl⟩
abbrev main_v67 : Ref sig .tc := ⟨.hbm, 91, rfl⟩
abbrev main_v68 : Ref sig .tc := ⟨.hbm, 92, rfl⟩
abbrev main_cst_6 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_7 : Ref sig .tc := ⟨.hbm, 102, rfl⟩
abbrev main_v77 : Ref sig .tc := ⟨.hbm, 103, rfl⟩
abbrev main_v78 : Ref sig .tc := ⟨.hbm, 104, rfl⟩
abbrev main_cst_8 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩

abbrev nD : Nat := 1
abbrev τ : Topo := Topo.v7x

variable {F : FTy → Type} [FloatOps F]
-- ==== Proof.Block.lean ====
/-
  What one grid point of the kernel leaves in the output block, as a closed term of its five input blocks: the loop
  over the key tiles below the diagonal as a recursion on (running maximum, running denominator, running numerator),
  the diagonal tile as one more step with masked scores, then the closing division and normalisation.
-/
module

public import proofs.«01_k».proof.Proof.Gen.KernelIdeal.Value
public import Idealize.ShloMosaic.Lib.VecWindow
public import Idealize.ShloMosaic.Lib.Tactic

@[expose] public section

noncomputable section

namespace Cert.KernelIdeal.Block

open Cert.KernelIdeal Cert.KernelIdeal.Gen Idealize.ShloMosaic Idealize.ShloMosaic.TcCoe Idealize.SL.Sem

variable {F : FTy → Type} [FloatOps F]

/-- The three running values of the kernel, over its 1024 lanes: maximum, denominator, numerator (feature by lane). -/
structure Run (F : FTy → Type) where
  mx : Vec F S1x1024 .f32
  den : Vec F S1x1024 .f32
  num : Vec F S128x1024 .f32

/-- Before any tile: maximum −∞, denominator and numerator zero. -/
def start : Run F := ⟨k0_pay18, k0_pay19, k0_pay21 k0_pay20⟩

/-- One tile below the diagonal. -/
def step (q : FVec F S1024x128 .bf16) (K : Vec F S1x1024x128 .bf16) (V : Vec F S1x1x128x1024 .bf16) (r : Run F) : Run F :=
  ⟨k0_pay23 (k0_pay3 q K r.mx), k0_pay7 q K r.mx r.den, k0_pay22 (k0_pay8 q K V r.mx r.num)⟩

/-- The diagonal tile, from its masked scores. -/
def lastStep (s : FVec F S1024x1024 .f32) (V : Vec F S1x1x128x1024 .bf16) (r : Run F) : Run F :=
  ⟨k0_pay33 s r.mx, k0_pay31 s r.mx r.den, k0_pay32 s V r.mx r.num⟩

/-- Key tile `n` as trip `n` of the loop loads it. -/
def keyTile (i : grid0.Coords) (x2 : Vec F S1x8192x128 .bf16) (k : Fin (k0_t1_loop i).trips) : Vec F S1x1024x128 .bf16 :=
  View.ld x2 (Rect.unit (k0_off1 i k) S1x1024x128.size (k0_off1_inb i k))

/-- Value tile `n` as trip `n` of the loop loads it. -/
def valTile (i : grid0.Coords) (x3 : Vec F S1x1x128x8192 .bf16) (k : Fin (k0_t1_loop i).trips) : Vec F S1x1x128x1024 .bf16 :=
  View.ld x3 (Rect.unit (k0_off2 i k) S1x1x128x1024.size (k0_off2_inb i k))

/-- The running values after the first `n` trips. -/
def after (i : grid0.Coords) (q : FVec F S1024x128 .bf16) (x2 : Vec F S1x8192x128 .bf16) (x3 : Vec F S1x1x128x8192 .bf16) : ℕ → Run F
  | 0 => start
  | n + 1 => if h : n < (k0_t1_loop i).trips then step q (keyTile i x2 ⟨n, h⟩) (valTile i x3 ⟨n, h⟩) (after i q x2 x3 n) else after i q x2 x3 n

theorem hz2 : (![0, 0] : Fin 2 → Nat) = fun _ => 0 := by decide
theorem hz3 : (![0, 0, 0] : Fin 3 → Nat) = fun _ => 0 := by decide

section
variable (𝒱 : Variants) (bd : Option 𝒱.V) (c : Dev nD) (i : grid0.Coords) (arg3 : Memref sig .tc .smem S1x1 .f32) (harg3 : arg3.IsWhole) (arg4 : Memref sig .tc .vmem S1x512x128 .f32) (harg4 : arg4.IsWhole) (arg5 : Memref sig .tc .vmem S1x8192x128 .bf16) (harg5 : arg5.IsWhole) (arg6 : Memref sig .tc .vmem S1x1x128x8192 .bf16) (harg6 : arg6.IsWhole) (arg7 : Memref sig .tc .vmem S128x1 .f32) (harg7 : arg7.IsWhole) (arg8 : Memref sig .tc .vmem S1x512x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)

/-- What one trip writes: each running buffer whole, at one step of what it found there. -/
theorem trip_eq (arg2 : BitVec 32) (v18 : FVec F S1024x128 .bf16) (v24 : IVec S1x1024 32) (v33 : FVec F S128x1024 .f32) (x2 : Vec F S1x8192x128 .bf16) (x3 : Vec F S1x1x128x8192 .bf16) (k : Fin (k0_t1_loop i).trips) (f9 : BufTy.Contents (Elt F) arg9.view.ty) (f10 : BufTy.Contents (Elt F) arg10.view.ty) (f11 : BufTy.Contents (Elt F) arg11.view.ty) (r : Run F)
    (h9 : arg9.view.read (Elt F) f9 = r.mx) (h10 : arg10.view.read (Elt F) f10 = r.den) (h11 : arg11.view.read (Elt F) f11 = r.num) :
    tripL_k0_t1 (F := F) 𝒱 c bd i arg3 harg3 arg4 harg4 arg5 harg5 arg6 harg6 arg7 harg7 arg8 harg8 arg9 harg9 arg10 harg10 arg11 harg11 arg2 v18 v24 v33 (harg5.unread x2) (harg6.unread x3) k f9 f10 f11
      = ([⟨Rect.unit ![0, 0] S1x1024.size inb_S1x1024_S1x1024_0_0, (step v18 (keyTile i x2 k) (valTile i x3 k) r).mx⟩],
         [⟨Rect.unit ![0, 0] S1x1024.size inb_S1x1024_S1x1024_0_0, (step v18 (keyTile i x2 k) (valTile i x3 k) r).den⟩],
         [⟨Rect.unit ![0, 0] S128x1024.size inb_S128x1024_S128x1024_0_0, (step v18 (keyTile i x2 k) (valTile i x3 k) r).num⟩]) := by
  unfold tripL_k0_t1 trip_k0_t1
  dsimp only
  sl_unfold_words
  simp only [View.readAt_eq_ld, harg5.read_unread, harg6.read_unread, h9, h10, h11]
  rw [View.ld_unit_zero (S := S1x1024) hz2, View.ld_unit_zero (S := S1x1024) hz2, View.ld_unit_zero (S := S128x1024) hz2]
  rfl

/-- After `n` trips the running buffers hold the running values after `n` tiles. -/
theorem loop_read (arg2 : BitVec 32) (v18 : FVec F S1024x128 .bf16) (v24 : IVec S1x1024 32) (v33 : FVec F S128x1024 .f32) (x2 : Vec F S1x8192x128 .bf16) (x3 : Vec F S1x1x128x8192 .bf16) (f9 : BufTy.Contents (Elt F) arg9.view.ty) (f10 : BufTy.Contents (Elt F) arg10.view.ty) (f11 : BufTy.Contents (Elt F) arg11.view.ty)
    (h9 : arg9.view.read (Elt F) f9 = (start (F := F)).mx) (h10 : arg10.view.read (Elt F) f10 = (start (F := F)).den) (h11 : arg11.view.read (Elt F) f11 = (start (F := F)).num) (n : ℕ) (hn : n ≤ (k0_t1_loop i).trips) :
    arg9.view.read (Elt F) (arg9.view.writes (Elt F) f9 (pb_k0_t1 (F := F) 𝒱 c bd i arg3 harg3 arg4 harg4 arg5 harg5 arg6 harg6 arg7 harg7 arg8 harg8 arg9 harg9 arg10 harg10 arg11 harg11 arg2 v18 v24 v33 (harg5.unread x2) (harg6.unread x3) f9 f10 f11 n).1) = (after i v18 x2 x3 n).mx
    ∧ arg10.view.read (Elt F) (arg10.view.writes (Elt F) f10 (pb_k0_t1 (F := F) 𝒱 c bd i arg3 harg3 arg4 harg4 arg5 harg5 arg6 harg6 arg7 harg7 arg8 harg8 arg9 harg9 arg10 harg10 arg11 harg11 arg2 v18 v24 v33 (harg5.unread x2) (harg6.unread x3) f9 f10 f11 n).2.1) = (after i v18 x2 x3 n).den
    ∧ arg11.view.read (Elt F) (arg11.view.writes (Elt F) f11 (pb_k0_t1 (F := F) 𝒱 c bd i arg3 harg3 arg4 harg4 arg5 harg5 arg6 harg6 arg7 harg7 arg8 harg8 arg9 harg9 arg10 harg10 arg11 harg11 arg2 v18 v24 v33 (harg5.unread x2) (harg6.unread x3) f9 f10 f11 n).2.2) = (after i v18 x2 x3 n).num := by
  induction n with
  | zero => exact ⟨h9, h10, h11⟩
  | succ n ih =>
    have hlt : n < (k0_t1_loop i).trips := hn
    obtain ⟨i9, i10, i11⟩ := ih (Nat.le_of_lt hlt)
    have e := trip_eq 𝒱 bd c i arg3 harg3 arg4 harg4 arg5 harg5 arg6 harg6 arg7 harg7 arg8 harg8 arg9 harg9 arg10 harg10 arg11 harg11 arg2 v18 v24 v33 x2 x3 ⟨n, hlt⟩ _ _ _ (after i v18 x2 x3 n) i9 i10 i11
    have es := pb_k0_t1_succ (F := F) 𝒱 c bd i arg3 harg3 arg4 harg4 arg5 harg5 arg6 harg6 arg7 harg7 arg8 harg8 arg9 harg9 arg10 harg10 arg11 harg11 arg2 v18 v24 v33 (harg5.unread x2) (harg6.unread x3) f9 f10 f11 ⟨n, hlt⟩
    rw [e] at es
    have ea : after i v18 x2 x3 (n + 1) = step v18 (keyTile i x2 ⟨n, hlt⟩) (valTile i x3 ⟨n, hlt⟩) (after i v18 x2 x3 n) := dif_pos hlt
    rw [es, ea]
    exact ⟨View.read_writes_full _ _ _ _ _, View.read_writes_full _ _ _ _ _, View.read_writes_full _ _ _ _ _⟩

/-- The second loop the printed kernel carries makes no trip. -/
theorem t2_trips : Scf.trips (k0_t2_loop i).lb (k0_t2_loop i).ub (k0_t2_loop i).st = 0 :=
  Nat.le_zero.mp (k0_t2_abs i).2.1

/-- What the body has stored in the three running buffers at its end: the diagonal tile's step after every earlier tile. -/
def final (i : grid0.Coords) (x1 : Vec F S1x512x128 .f32) (x2 : Vec F S1x8192x128 .bf16) (x3 : Vec F S1x1x128x8192 .bf16) : Run F :=
  lastStep (k0_pay26 (BitVec.ofNat 32 (i 2).val) (k0_pay16 x1) (k0_pay17 i)
      (View.ld x2 (Rect.unit (s := S1x8192x128) (k0_off5 i) S1x1024x128.size (k0_off5_inb i))))
    (View.ld x3 (Rect.unit (s := S1x1x128x8192) (k0_off6 i) S1x1x128x1024.size (k0_off6_inb i)))
    (after i (k0_pay16 x1) x2 x3 (k0_t1_loop i).trips)

theorem readCov_whole {κ : Kind} {sp : Space} {s : Shape} {e : EltTy} (v : View sig κ sp s e) (L : List (View.Piece (Elt F) s e))
    {off : Fin s.rank → ℕ} (hoff : off = fun _ => 0) (inb : ∀ a, off a + s.size a ≤ s.size a) :
    v.readCov L (Rect.unit off s.size inb).toLoadRect = v.read (Elt F) (v.writes (Elt F) v.junk L) := by
  show View.ld (v.read (Elt F) (v.writes (Elt F) v.junk L)) _ = _
  exact View.ld_unit_zero hoff _ _

/-- A whole load of a staging buffer holding `x` reads `x`. -/
theorem load_whole {κ : Kind} {sp : Space} {s : Shape} {e : EltTy} {m : Memref sig κ sp s e} (hm : m.IsWhole) (x : Vec F s e)
    {off : Fin s.rank → ℕ} (hoff : off = fun _ => 0) (inb : ∀ a, off a + s.size a ≤ s.size a) :
    m.view.readAt (Elt F) (Rect.unit off s.size inb).toLoadRect (hm.unread x) = x := by
  rw [View.readAt_eq_ld, hm.read_unread]; exact View.ld_unit_zero hoff _ _

/-- A load through a rectangle of a staging buffer holding `x` reads `x` through the rectangle. -/
theorem load_rect {κ : Kind} {sp : Space} {s : Shape} {e : EltTy} {m : Memref sig κ sp s e} (hm : m.IsWhole) (x : Vec F s e) (r : Rect s) :
    m.view.readAt (Elt F) r.toLoadRect (hm.unread x) = View.ld x r := by
  rw [View.readAt_eq_ld, hm.read_unread]

theorem pay1_congr {a a' : Vec F S128x1024 .f32} {b b' : Vec F S1x1024 .f32} {c c' : Elt F .f32} {d d' : Vec F S128x1 .f32}
    (ha : a = a') (hb : b = b') (hc : c = c') (hd : d = d') : k0_pay1 a b c d = k0_pay1 a' b' c' d' := by subst ha hb hc hd; rfl

theorem pay26_congr {w : BitVec 32} {q q' : FVec F S1024x128 .bf16} {v : IVec S1x1024 32} {k k' : Vec F S1x1024x128 .bf16}
    (hq : q = q') (hk : k = k') : k0_pay26 w q v k = k0_pay26 w q' v k' := by subst hq hk; rfl

theorem pay31_congr {s s' : FVec F S1024x1024 .f32} {m m' l l' : Vec F S1x1024 .f32}
    (hs : s = s') (hm : m = m') (hl : l = l') : k0_pay31 s m l = k0_pay31 s' m' l' := by subst hs hm hl; rfl

theorem pay32_congr {s s' : FVec F S1024x1024 .f32} {v v' : Vec F S1x1x128x1024 .bf16} {m m' : Vec F S1x1024 .f32} {a a' : Vec F S128x1024 .f32}
    (hs : s = s') (hv : v = v') (hm : m = m') (ha : a = a') : k0_pay32 s v m a = k0_pay32 s' v' m' a' := by subst hs hv hm ha; rfl

/-- The running buffers as the loops' lists give them, read over junk. -/
theorem lists_read (arg2 : BitVec 32) (v18 : FVec F S1024x128 .bf16) (v24 : IVec S1x1024 32) (v33 : FVec F S128x1024 .f32) (v59 : BitVec 32)
    (q : FVec F S1024x128 .bf16) (hq : v18 = q) (x2 : Vec F S1x8192x128 .bf16) (x3 : Vec F S1x1x128x8192 .bf16) (A9 : BufTy.Contents (Elt F) arg9.view.ty) (A10 : BufTy.Contents (Elt F) arg10.view.ty) (A11 : BufTy.Contents (Elt F) arg11.view.ty)
    (P : _) (hP : P = pb_k0_t1 (F := F) 𝒱 c bd i arg3 harg3 arg4 harg4 arg5 harg5 arg6 harg6 arg7 harg7 arg8 harg8 arg9 harg9 arg10 harg10 arg11 harg11 arg2 v18 v24 v33 (harg5.unread x2) (harg6.unread x3)
      (arg9.view.writes (Elt F) arg9.view.junk [⟨Rect.unit ![0, 0] S1x1024.size inb_S1x1024_S1x1024_0_0, k0_pay18⟩])
      (arg10.view.writes (Elt F) arg10.view.junk [⟨Rect.unit ![0, 0] S1x1024.size inb_S1x1024_S1x1024_0_0, k0_pay19⟩])
      (arg11.view.writes (Elt F) arg11.view.junk [⟨Rect.unit ![0, 0] S128x1024.size inb_S128x1024_S128x1024_0_0, k0_pay21 k0_pay20⟩])
      (k0_t1_loop i).trips)
    (Q : _) (hQ : Q = pb_k0_t2 (F := F) 𝒱 c bd i arg3 harg3 arg4 harg4 arg5 harg5 arg6 harg6 arg7 harg7 arg8 harg8 arg9 harg9 arg10 harg10 arg11 harg11 arg2 v18 v24 v33 v59 (harg5.unread x2) (harg6.unread x3) A9 A10 A11
      (Scf.trips (k0_t2_loop i).lb (k0_t2_loop i).ub (k0_t2_loop i).st)) :
    arg9.view.read (Elt F) (arg9.view.writes (Elt F) arg9.view.junk (Q.1 ++ (P.1 ++ [⟨Rect.unit ![0, 0] S1x1024.size inb_S1x1024_S1x1024_0_0, k0_pay18⟩])))
        = (after i q x2 x3 (k0_t1_loop i).trips).mx
    ∧ arg10.view.read (Elt F) (arg10.view.writes (Elt F) arg10.view.junk (Q.2.1 ++ (P.2.1 ++ [⟨Rect.unit ![0, 0] S1x1024.size inb_S1x1024_S1x1024_0_0, k0_pay19⟩])))
        = (after i q x2 x3 (k0_t1_loop i).trips).den
    ∧ arg11.view.read (Elt F) (arg11.view.writes (Elt F) arg11.view.junk (Q.2.2 ++ (P.2.2 ++ [⟨Rect.unit ![0, 0] S128x1024.size inb_S128x1024_S128x1024_0_0, k0_pay21 k0_pay20⟩])))
        = (after i q x2 x3 (k0_t1_loop i).trips).num := by
  subst hq
  rw [t2_trips i, pb_k0_t2.eq_1] at hQ
  subst hQ hP
  have e := loop_read 𝒱 bd c i arg3 harg3 arg4 harg4 arg5 harg5 arg6 harg6 arg7 harg7 arg8 harg8 arg9 harg9 arg10 harg10 arg11 harg11 arg2 v18 v24 v33 x2 x3 _ _ _
    (View.read_writes_full (Val := Elt F) arg9.view arg9.view.junk inb_S1x1024_S1x1024_0_0 k0_pay18 [])
    (View.read_writes_full (Val := Elt F) arg10.view arg10.view.junk inb_S1x1024_S1x1024_0_0 k0_pay19 [])
    (View.read_writes_full (Val := Elt F) arg11.view arg11.view.junk inb_S128x1024_S128x1024_0_0 (k0_pay21 k0_pay20) []) (k0_t1_loop i).trips le_rfl
  refine ⟨?_, ?_, ?_⟩
  · rw [List.nil_append, View.writes_append]; exact e.1
  · rw [List.nil_append, View.writes_append]; exact e.2.1
  · rw [List.nil_append, View.writes_append]; exact e.2.2

/-- What one grid point leaves in the output block. -/
theorem out_eq
    (x0 : Vec F S1x1 .f32) (x1 : Vec F S1x512x128 .f32) (x2 : Vec F S1x8192x128 .bf16) (x3 : Vec F S1x1x128x8192 .bf16) (x4 : Vec F S128x1 .f32) :
    out0_A_5 c i arg3 harg3 arg4 harg4 arg5 harg5 arg6 harg6 arg7 harg7 arg8 harg8 arg9 harg9 arg10 harg10 arg11 harg11 x0 x1 x2 x3 x4
      = k0_pay1 (final i x1 x2 x3).num (final i x1 x2 x3).den (x0 (Shape.Idx.first (by decide))) x4 := by
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4)]
  unfold kernelRun0_A
  dsimp only
  sl_unfold_words
  rw [View.canon_unit_zero hz3]
  have hq := congrArg (k0_pay16 (F := F)) (load_whole harg4 x1 hz3 inb_S1x512x128_S1x512x128_0_0_0)
  have e := fun v59 A9 A10 A11 => lists_read Variants.none none c i arg3 harg3 arg4 harg4 arg5 harg5 arg6 harg6 arg7 harg7 arg8 harg8 arg9 harg9 arg10 harg10 arg11 harg11 (BitVec.ofNat 32 (i 2).val)
    _ (k0_pay17 i) k0_pay20 v59 _ hq x2 x3 A9 A10 A11 _ rfl _ rfl
  refine pay1_congr ?_ ?_ (congrFun (load_whole harg3 x0 hz2 _) _) (load_whole harg7 x4 hz2 _)
  · refine (View.readCov_full _ _ _ _ _).trans (pay32_congr (pay26_congr hq (load_rect harg5 x2 _)) (load_rect harg6 x3 _) ?_ ?_)
    · exact (readCov_whole (s := S1x1024) _ _ hz2 _).trans (e _ _ _ _).1
    · exact (readCov_whole (s := S128x1024) _ _ hz2 _).trans (e _ _ _ _).2.2
  · refine (View.readCov_full _ _ _ _ _).trans (pay31_congr (pay26_congr hq (load_rect harg5 x2 _)) ?_ ?_)
    · exact (readCov_whole (s := S1x1024) _ _ hz2 _).trans (e _ _ _ _).1
    · exact (readCov_whole (s := S1x1024) _ _ hz2 _).trans (e _ _ _ _).2.1

end

end Cert.KernelIdeal.Block
-- ==== Proof.Online.lean ====
/-
  The arithmetic of a softmax whose sums are taken tile by tile under a running maximum, over the extended reals.

  A score `s` under a maximum `m ≥ s` has the weight `e^(s - m)`, with the maximum replaced by 0 where it is −∞; that
  weight is a real number in every case (`exp_sub_safe`), it is 0 where `s = −∞` or `m = ∞`, and rescaling it from one
  maximum to a larger one is a product (`wt_mul`). So the running sums after any number of tiles are the sums of the
  weights under the maximum so far (`run_step`), and the plain softmax, whose maximum is replaced by 0 where it is
  not finite, gives every key the same quotient (`softmax_eq`).
-/
module

public import Idealize.ShloMosaic.PureOps.Ideal
public import Idealize.ShloMosaic.PureOps.Ideal.Laws
public import Mathlib.Data.EReal.Inv

@[expose] public section

noncomputable section

namespace Online

open Idealize.ShloMosaic Finset

/-- The word of minus infinity. -/
theorem ofBits_neg_inf : Ideal.ofBits .f32 4286578688#32 = ⊥ := by
  simp [Ideal.ofBits, Ideal.ieee]

theorem ofBits_zero : Ideal.ofBits .f32 0#32 = 0 := by
  simp [Ideal.ofBits, Ideal.ieee]

/-- The word of infinity. -/
theorem ofBits_inf : Ideal.ofBits .f32 2139095040#32 = ⊤ := by
  simp [Ideal.ofBits, Ideal.ieee]

/-- The least denominator is a positive real number. -/
theorem ofBits_least : ∃ ε : ℝ, 0 < ε ∧ Ideal.ofBits .f32 228737632#32 = ↑ε := by
  refine ⟨10633824 * 2 ^ (-123 : ℤ), by positivity, ?_⟩
  simp [Ideal.ofBits, Ideal.ieee, -EReal.coe_mul]

/-- A maximum made safe to subtract: 0 where it is −∞. -/
def safe (m : EReal) : EReal := if m = ⊥ then 0 else m

/-- The weight of a score `s` under a maximum `m`. -/
def wt (s m : EReal) : ℝ := if s = ⊥ ∨ m = ⊤ then 0 else Real.exp (s.toReal - m.toReal)

theorem wt_bot (m : EReal) : wt ⊥ m = 0 := if_pos (Or.inl rfl)
theorem wt_top (s : EReal) : wt s ⊤ = 0 := if_pos (Or.inr rfl)
theorem wt_coe (s m : ℝ) : wt (s : EReal) (m : EReal) = Real.exp (s - m) := by simp [wt]

theorem wt_nonneg (s m : EReal) : 0 ≤ wt s m := by
  unfold wt; split
  · exact le_rfl
  · exact (Real.exp_pos _).le

theorem bot_sub' (x : EReal) : (⊥ : EReal) - x = ⊥ := by rw [sub_eq_add_neg, EReal.bot_add]

/-- The exponential of a score below the maximum, less the safe maximum, is the weight. -/
theorem exp_sub_safe {s m : EReal} (h : s ≤ m) : Ideal.exp (s - safe m) = (wt s m : EReal) := by
  induction s with
  | bot => rw [bot_sub', Ideal.exp_bot, wt_bot, EReal.coe_zero]
  | top =>
    obtain rfl : m = ⊤ := top_le_iff.mp h
    rw [wt_top, safe, if_neg (by decide)]; simp
  | coe s =>
    induction m with
    | bot => exact absurd (le_bot_iff.mp h) (EReal.coe_ne_bot s)
    | top => rw [wt_top, safe, if_neg (by decide)]; simp
    | coe m => rw [wt_coe, safe, if_neg (EReal.coe_ne_bot m), ← EReal.coe_sub, Ideal.exp_coe]

/-- Rescaling a weight from one maximum to a larger one. -/
theorem wt_mul {s m m' : EReal} (h : s ≤ m) (h' : m ≤ m') : wt m m' * wt s m = wt s m' := by
  induction s with
  | bot => rw [wt_bot, wt_bot, mul_zero]
  | top =>
    obtain rfl : m = ⊤ := top_le_iff.mp h
    obtain rfl : m' = ⊤ := top_le_iff.mp h'
    rw [wt_top, mul_zero]
  | coe s =>
    induction m with
    | bot => exact absurd (le_bot_iff.mp h) (EReal.coe_ne_bot s)
    | top =>
      obtain rfl : m' = ⊤ := top_le_iff.mp h'
      rw [wt_top, wt_top, mul_zero]
    | coe m =>
      induction m' with
      | bot => exact absurd (le_bot_iff.mp h') (EReal.coe_ne_bot m)
      | top => rw [wt_top, wt_top, zero_mul]
      | coe m' => rw [wt_coe, wt_coe, wt_coe, ← Real.exp_add]; congr 1; ring

theorem coe_sum {ι : Type} (A : Finset ι) (f : ι → ℝ) : ((∑ k ∈ A, f k : ℝ) : EReal) = ∑ k ∈ A, (f k : EReal) := by
  classical
  induction A using Finset.induction_on with
  | empty => simp
  | insert a A ha ih => rw [sum_insert ha, sum_insert ha, EReal.coe_add, ih]

theorem coe_max (x y : ℝ) : ((max x y : ℝ) : EReal) = max (x : EReal) (y : EReal) :=
  EReal.coe_strictMono.monotone.map_max

/-- The maximum over a range is the maximum over its first part and the next tile. -/
theorem sup_range_add (S : ℕ → EReal) (a b : ℕ) :
    (range (a + b)).sup S = max ((range a).sup S) ((univ : Finset (Fin b)).sup fun r => S (a + r)) := by
  apply le_antisymm
  · refine Finset.sup_le fun k hk => ?_
    rw [mem_range] at hk
    by_cases h : k < a
    · exact le_max_of_le_left (le_sup (f := S) (mem_range.mpr h))
    · refine le_max_of_le_right ?_
      have := le_sup (f := fun r : Fin b => S (a + r)) (mem_univ (⟨k - a, by omega⟩ : Fin b))
      rwa [show a + ((⟨k - a, by omega⟩ : Fin b) : ℕ) = k by show a + (k - a) = k; omega] at this
  · refine max_le (Finset.sup_le fun k hk => ?_) (Finset.sup_le fun r _ => ?_)
    · exact le_sup (f := S) (mem_range.mpr (by rw [mem_range] at hk; omega))
    · exact le_sup (f := S) (mem_range.mpr (by have := r.isLt; omega))

/-- One tile of the running sum: rescaled to the new maximum, plus the tile's weights. -/
theorem run_step (S : ℕ → EReal) (w : ℕ → ℝ) (a b : ℕ) (M' : EReal) (hM' : M' = (range (a + b)).sup S) :
    Ideal.exp ((range a).sup S - safe M') * ((∑ k ∈ range a, w k * wt (S k) ((range a).sup S) : ℝ) : EReal)
        + ∑ r : Fin b, (w (a + r) : EReal) * Ideal.exp (S (a + r) - safe M')
      = ((∑ k ∈ range (a + b), w k * wt (S k) M' : ℝ) : EReal) := by
  have hle : (range a).sup S ≤ M' := by rw [hM', sup_range_add]; exact le_max_left _ _
  have hS : ∀ k < a + b, S k ≤ M' := fun k hk => by rw [hM']; exact le_sup (mem_range.mpr hk)
  rw [exp_sub_safe hle, ← EReal.coe_mul, mul_sum, sum_range_add, EReal.coe_add, Finset.sum_range (n := b), coe_sum univ]
  congr 1
  · refine congrArg _ (sum_congr rfl fun k hk => ?_)
    rw [mul_left_comm, wt_mul (le_sup hk) hle]
  · refine sum_congr rfl fun r _ => ?_
    rw [exp_sub_safe (hS _ (by have := r.isLt; omega)), ← EReal.coe_mul]

/-- The same for the sum of the weights alone. -/
theorem run_step_one (S : ℕ → EReal) (a b : ℕ) (M' : EReal) (hM' : M' = (range (a + b)).sup S) :
    Ideal.exp ((range a).sup S - safe M') * ((∑ k ∈ range a, wt (S k) ((range a).sup S) : ℝ) : EReal)
        + ∑ r : Fin b, Ideal.exp (S (a + r) - safe M')
      = ((∑ k ∈ range (a + b), wt (S k) M' : ℝ) : EReal) := by
  have h := run_step S (fun _ => 1) a b M' hM'
  simpa using h

/-- Keys past `a` whose score is −∞ change neither the maximum … -/
theorem sup_range_tail (S : ℕ → EReal) {a n : ℕ} (h : a ≤ n) (hS : ∀ k, a ≤ k → k < n → S k = ⊥) :
    (range n).sup S = (range a).sup S := by
  apply le_antisymm
  · refine Finset.sup_le fun k hk => ?_
    rw [mem_range] at hk
    by_cases hka : k < a
    · exact le_sup (mem_range.mpr hka)
    · rw [hS k (by omega) hk]; exact bot_le
  · exact Finset.sup_mono (range_subset_range.mpr h)

/-- … nor the sum of the weights. -/
theorem sum_range_tail (S : ℕ → EReal) (w : ℕ → ℝ) (M : EReal) {a n : ℕ} (h : a ≤ n) (hS : ∀ k, a ≤ k → k < n → S k = ⊥) :
    ∑ k ∈ range n, w k * wt (S k) M = ∑ k ∈ range a, w k * wt (S k) M := by
  symm
  refine sum_subset (range_subset_range.mpr h) fun k hk hk' => ?_
  rw [mem_range] at hk hk'
  rw [hS k (by omega) hk, wt_bot, mul_zero]

/-- A maximum made finite as the reference does: 0 where its absolute value is not below ∞. -/
def fin0 (m : EReal) : EReal := if max m (-m) < ⊤ then m else 0

theorem fin0_bot : fin0 ⊥ = 0 := if_neg (by simp)
theorem fin0_top : fin0 ⊤ = 0 := if_neg (by simp)
theorem fin0_coe (m : ℝ) : fin0 (m : EReal) = m := if_pos (by
  rw [max_lt_iff, ← EReal.coe_neg]; exact ⟨EReal.coe_lt_top _, EReal.coe_lt_top _⟩)

theorem exp_nonneg (x : EReal) : 0 ≤ Ideal.exp x := by
  induction x with
  | bot => exact le_rfl
  | top => exact le_top
  | coe x => exact EReal.coe_nonneg.mpr (Real.exp_pos x).le

/-- The plain softmax's quotient at a key is the key's weight under the maximum over the denominator, which is a real
    number whatever the scores. -/
theorem softmax_eq {n : ℕ} (S : Fin n → EReal) (M : EReal) (hM : M = univ.sup S) (ε : ℝ) (hε : 0 < ε) (k : Fin n) :
    Ideal.div (Ideal.exp (S k - fin0 M)) (max (∑ j, Ideal.exp (S j - fin0 M)) (ε : EReal))
      = ((wt (S k) M * (max (∑ j, wt (S j) M) ε)⁻¹ : ℝ) : EReal) := by
  have hle : ∀ j, S j ≤ M := fun j => by rw [hM]; exact le_sup (mem_univ j)
  have hden : 0 < max (∑ j, wt (S j) M) ε := lt_max_of_lt_right hε
  by_cases htop : M = ⊤
  · have hex : ∃ j, S j = ⊤ := by
      obtain ⟨j, -, hj⟩ := exists_mem_eq_sup univ ⟨k, mem_univ k⟩ S
      exact ⟨j, by rw [← hj, ← hM, htop]⟩
    obtain ⟨j, hj⟩ := hex
    have hsum : ∑ j, Ideal.exp (S j - fin0 M) = ⊤ := by
      refine top_le_iff.mp (le_trans ?_ (single_le_sum (f := fun j => Ideal.exp (S j - fin0 M)) (fun j _ => exp_nonneg _) (mem_univ j)))
      simp [hj, htop, fin0_top]
    rw [hsum, max_eq_left le_top, htop, wt_top, zero_mul, EReal.coe_zero]
    simp [Ideal.div]
  · have hexp : ∀ j, Ideal.exp (S j - fin0 M) = (wt (S j) M : EReal) := fun j => by
      rw [← exp_sub_safe (hle j)]
      congr 2
      clear hden
      induction M with
      | bot => rw [fin0_bot, safe, if_pos rfl]
      | top => exact absurd rfl htop
      | coe m => rw [fin0_coe, safe, if_neg (EReal.coe_ne_bot m)]
    simp only [hexp]
    rw [← coe_sum, ← coe_max, Ideal.div_coe hden.ne', ← EReal.coe_mul, one_div]

theorem one_div_coe {x : ℝ} (h : 0 < x) : Ideal.div 1 (x : EReal) = ((x⁻¹ : ℝ) : EReal) := by
  rw [Ideal.div_coe h.ne', one_mul, one_div]

/-- The difference of two softmax averages: dividing each sum by its denominator and then subtracting is averaging with
    the differences of the quotients. -/
theorem diff_eq {n : ℕ} (S₀ S₁ : Fin n → EReal) (M₀ M₁ : EReal) (h₀ : M₀ = univ.sup S₀) (h₁ : M₁ = univ.sup S₁)
    (v : Fin n → ℝ) (lam ε : ℝ) (hε : 0 < ε) :
    ∑ k, (v k : EReal) * (Ideal.div (Ideal.exp (S₀ k - fin0 M₀)) (max (∑ j, Ideal.exp (S₀ j - fin0 M₀)) (ε : EReal))
        - (lam : EReal) * Ideal.div (Ideal.exp (S₁ k - fin0 M₁)) (max (∑ j, Ideal.exp (S₁ j - fin0 M₁)) (ε : EReal)))
      = ((∑ k, v k * wt (S₀ k) M₀ : ℝ) : EReal) * Ideal.div 1 (max ((∑ k, wt (S₀ k) M₀ : ℝ) : EReal) (ε : EReal))
        - (lam : EReal) * (((∑ k, v k * wt (S₁ k) M₁ : ℝ) : EReal) * Ideal.div 1 (max ((∑ k, wt (S₁ k) M₁ : ℝ) : EReal) (ε : EReal))) := by
  simp only [softmax_eq S₀ M₀ h₀ ε hε, softmax_eq S₁ M₁ h₁ ε hε]
  rw [← coe_max, ← coe_max, one_div_coe (lt_max_of_lt_right hε), one_div_coe (lt_max_of_lt_right hε)]
  simp only [← EReal.coe_mul, ← EReal.coe_sub, ← coe_sum]
  congr 1
  generalize (max (∑ j, wt (S₀ j) M₀) ε)⁻¹ = d₀
  generalize (max (∑ j, wt (S₁ j) M₁) ε)⁻¹ = d₁
  rw [sum_mul, sum_mul, mul_sum, ← sum_sub_distrib]
  exact sum_congr rfl fun k _ => by ring

end Online

end
-- ==== Proof.Tile.lean ====
/-
  What one grid point computes from its blocks, read element by element over the extended reals: the scores of a
  tile of keys, and how one tile changes the running maximum, denominator and numerator of one query.
-/
module

public import proofs.«01_k».proof.Proof.Block
public import Idealize.ShloMosaic.Lib.Pointwise
public import proofs.«01_k».proof.Proof.Online

@[expose] public section

noncomputable section

namespace Cert.KernelIdeal.Block

open Cert.KernelIdeal Cert.KernelIdeal.Gen Idealize.ShloMosaic Idealize.ShloMosaic.TcCoe Idealize.SL.Sem

/-- The scores of a tile: one row of keys against one stacked query. -/
theorem scores_apply (q : FVec Ideal S1024x128 .bf16) (K : Vec Ideal S1x1024x128 .bf16) (r l : Fin 1024) :
    k0_pay2 q K (ix2 r l) = ∑ d : Fin 128, K (ix3 0 r d) * q (ix2 l d) := by
  unfold k0_pay2
  pointwise

/-- A whole tile changes the running values as the last tile does, with its scores unmasked. -/
theorem step_eq (q : FVec Ideal S1024x128 .bf16) (K : Vec Ideal S1x1024x128 .bf16) (V : Vec Ideal S1x1x128x1024 .bf16)
    (r : Run Ideal) : step q K V r = lastStep (k0_pay2 q K) V r := rfl

/-- The new maximum of a query. -/
theorem max_apply (s : FVec Ideal S1024x1024 .f32) (m : Vec Ideal S1x1024 .f32) (l : Fin 1024) :
    k0_pay27 s m (ix2 0 l) = max (m (ix2 0 l)) (Finset.univ.sup fun x : Fin 1024 => s (ix2 x l)) := by
  unfold k0_pay27
  pointwise
  rw [Online.ofBits_neg_inf]
  rfl

/-- The maximum that the exponents are taken against: zero in place of minus infinity. -/
theorem safe_apply (s : FVec Ideal S1024x1024 .f32) (m : Vec Ideal S1x1024 .f32) (l : Fin 1024) :
    k0_pay28 s m (ix2 0 l) = Online.safe (k0_pay27 s m (ix2 0 l)) := by
  unfold k0_pay28
  pointwise
  rw [Online.ofBits_neg_inf]
  rfl

theorem lastStep_mx (s : FVec Ideal S1024x1024 .f32) (V : Vec Ideal S1x1x128x1024 .bf16) (r : Run Ideal) (l : Fin 1024) :
    (lastStep s V r).mx (ix2 0 l) = k0_pay27 s r.mx (ix2 0 l) := by
  show k0_pay33 s r.mx (ix2 0 l) = _
  unfold k0_pay33
  pointwise

theorem lastStep_den (s : FVec Ideal S1024x1024 .f32) (V : Vec Ideal S1x1x128x1024 .bf16) (r : Run Ideal) (l : Fin 1024) :
    (lastStep s V r).den (ix2 0 l)
      = Ideal.exp (r.mx (ix2 0 l) - k0_pay28 s r.mx (ix2 0 l)) * r.den (ix2 0 l)
        + ∑ x : Fin 1024, Ideal.exp (s (ix2 x l) - k0_pay28 s r.mx (ix2 0 l)) := by
  show k0_pay31 s r.mx r.den (ix2 0 l) = _
  unfold k0_pay31 k0_pay29 k0_pay30
  pointwise

theorem lastStep_num (s : FVec Ideal S1024x1024 .f32) (V : Vec Ideal S1x1x128x1024 .bf16) (r : Run Ideal)
    (f : Fin 128) (l : Fin 1024) :
    (lastStep s V r).num (ix2 f l)
      = Ideal.exp (r.mx (ix2 0 l) - k0_pay28 s r.mx (ix2 0 l)) * r.num (ix2 f l)
        + ∑ x : Fin 1024, V (ix4 0 0 f x) * Ideal.exp (s (ix2 x l) - k0_pay28 s r.mx (ix2 0 l)) := by
  show k0_pay32 s V r.mx r.num (ix2 f l) = _
  unfold k0_pay32 k0_pay29 k0_pay30
  pointwise

theorem start_mx (l : Fin 1024) : (start (F := Ideal)).mx (ix2 0 l) = ⊥ := by
  show k0_pay18 (F := Ideal) (ix2 0 l) = _
  unfold k0_pay18
  pointwise
  exact Online.ofBits_neg_inf

theorem start_den (l : Fin 1024) : (start (F := Ideal)).den (ix2 0 l) = 0 := by
  show k0_pay19 (F := Ideal) (ix2 0 l) = _
  unfold k0_pay19
  pointwise

theorem start_num (f : Fin 128) (l : Fin 1024) : (start (F := Ideal)).num (ix2 f l) = 0 := by
  show k0_pay21 (k0_pay20 (F := Ideal)) (ix2 f l) = _
  unfold k0_pay21 k0_pay20
  pointwise

/-- After the first `n` keys, with scores `S` and values `w`, the running values of query `l` are the maximum, the
    sum of the weights and the weighted sums of the values. -/
structure Lane (S : ℕ → EReal) (w : Fin 128 → ℕ → ℝ) (n : ℕ) (r : Run Ideal) (l : Fin 1024) : Prop where
  mx : r.mx (ix2 0 l) = (Finset.range n).sup S
  den : r.den (ix2 0 l) = ↑(∑ k ∈ Finset.range n, Online.wt (S k) ((Finset.range n).sup S))
  num : ∀ f, r.num (ix2 f l) = ↑(∑ k ∈ Finset.range n, w f k * Online.wt (S k) ((Finset.range n).sup S))

theorem Lane.start (S : ℕ → EReal) (w : Fin 128 → ℕ → ℝ) (l : Fin 1024) : Lane S w 0 start l where
  mx := by simp [start_mx]
  den := by simp [start_den]
  num f := by simp [start_num]

/-- One more tile of 1024 keys. -/
theorem Lane.tile {S : ℕ → EReal} {w : Fin 128 → ℕ → ℝ} {n : ℕ} {r : Run Ideal} {l : Fin 1024} (h : Lane S w n r l)
    (s : FVec Ideal S1024x1024 .f32) (V : Vec Ideal S1x1x128x1024 .bf16)
    (hs : ∀ x : Fin 1024, s (ix2 x l) = S (n + x)) (hV : ∀ (f : Fin 128) (x : Fin 1024), V (ix4 0 0 f x) = ↑(w f (n + x))) :
    Lane S w (n + 1024) (lastStep s V r) l := by
  have hM : k0_pay27 s r.mx (ix2 0 l) = (Finset.range (n + 1024)).sup S := by
    rw [max_apply, h.mx, Online.sup_range_add]
    simp only [hs]
  refine ⟨?_, ?_, fun f => ?_⟩
  · rw [lastStep_mx, hM]
  · rw [lastStep_den, safe_apply, h.mx, h.den]
    simp only [hs]
    rw [hM]
    exact Online.run_step_one S n 1024 _ rfl
  · rw [lastStep_num, safe_apply, h.mx, h.num]
    simp only [hs, hV]
    rw [hM]
    exact Online.run_step S (w f) n 1024 _ rfl

end Cert.KernelIdeal.Block
-- ==== Proof.Words.lean ====
/-
  The integers of one grid point in closed form: how many whole tiles come before the masked one, where a tile begins,
  which position a lane asks for, which keys the mask leaves; and the stacked, scaled queries.
-/
module

public import proofs.«01_k».proof.Proof.Block
public import Idealize.ShloMosaic.Lib.Pointwise
public import Idealize.ShloMosaic.Lib.WordCmp

@[expose] public section

noncomputable section

namespace Cert.KernelIdeal.Block

open Cert.KernelIdeal Cert.KernelIdeal.Gen Idealize.ShloMosaic Idealize.ShloMosaic.TcCoe Idealize.SL.Sem

/-- The number of whole tiles of 1024 keys before the block of 512 queries. -/
theorem trips_eq (i : grid0.Coords) : (k0_t1_loop i).trips = (i 2).val / 2 := by
  have h : ∀ n : Fin 16, ∀ i : grid0.Coords, (i 2).val = n.val → (k0_t1_loop i).trips = n.val / 2 := by
    intro n i hi
    unfold k0_t1_loop
    simp only [hi]
    clear hi i
    revert n
    decide
  exact h (i 2) i rfl

/-- Where a whole tile of keys begins. -/
theorem off1_eq (i : grid0.Coords) (t : Fin (k0_t1_loop i).trips) : k0_off1 i t = ![0, 1024 * t.val, 0] := by
  have ht : t.val < 8 := by
    have h1 := Nat.lt_of_lt_of_eq t.isLt (trips_eq i)
    have h2 : (i 2).val < 16 := (i 2).isLt
    omega
  have h : ∀ n : Fin 8, (Scalar.indexCast (Scalar.muli (Scf.iv 0#32 1#32 n) 1024#32) : Index).toNat = 1024 * n.val := by decide
  have h2 := h ⟨t.val, ht⟩
  show ![0, (Scalar.indexCast (Scalar.muli (Scf.iv 0#32 1#32 t.val) 1024#32) : Index).toNat, 0] = _
  rw [h2]

theorem off2_eq (i : grid0.Coords) (t : Fin (k0_t1_loop i).trips) : k0_off2 i t = ![0, 0, 0, 1024 * t.val] := by
  have h : (k0_off1 i t) 1 = 1024 * t.val := by rw [off1_eq]; rfl
  show ![0, 0, 0, (k0_off1 i t) 1] = _
  rw [h]

/-- Where the masked tile begins. -/
theorem off5_eq (i : grid0.Coords) : k0_off5 i = ![0, 1024 * ((i 2).val / 2), 0] := by
  have h : ∀ n : Fin 16, ∀ i : grid0.Coords, (i 2).val = n.val → k0_off5 i = ![0, 1024 * (n.val / 2), 0] := by
    intro n i hi
    unfold k0_off5
    simp only [hi]
    clear hi i
    revert n
    decide
  exact h (i 2) i rfl

theorem off6_eq (i : grid0.Coords) : k0_off6 i = ![0, 0, 0, 1024 * ((i 2).val / 2)] := by
  have h : (k0_off5 i) 1 = 1024 * ((i 2).val / 2) := by rw [off5_eq]; rfl
  show ![0, 0, 0, (k0_off5 i) 1] = _
  rw [h]

theorem lane_word (l : Fin 1024) : IntOp.andi (BitVec.ofNat 32 l.val) 511#32 = BitVec.ofNat 32 (l.val % 512) := by
  apply BitVec.eq_of_toNat_eq
  have := l.isLt
  show ((BitVec.ofNat 32 l.val) &&& 511#32).toNat = _
  rw [BitVec.toNat_and, show (BitVec.ofNat 32 l.val).toNat = l.val % 2 ^ 32 from rfl,
    show (BitVec.ofNat 32 (l.val % 512)).toNat = l.val % 512 % 2 ^ 32 from rfl,
    Nat.mod_eq_of_lt (by omega : l.val < 2 ^ 32), Nat.mod_eq_of_lt (by omega : l.val % 512 < 2 ^ 32)]
  exact Nat.and_two_pow_sub_one_eq_mod l.val 9

/-- The position that a lane asks for. -/
theorem qpos_apply (i : grid0.Coords) (l : Fin 1024) :
    k0_pay17 i (ix2 0 l) = BitVec.ofNat 32 (512 * (i 2).val + l.val % 512) := by
  unfold k0_pay17
  pointwise
  rw [lane_word]
  show BitVec.ofNat 32 (i 2).val * BitVec.ofNat 32 512 + BitVec.ofNat 32 (l.val % 512) = _
  rw [← BitVec.ofNat_mul, ← BitVec.ofNat_add, Nat.mul_comm]

theorem select_congr {p q : Prop} [Decidable p] [Decidable q] (h : p ↔ q) {a a' b : EReal} (ha : a = a') :
    Scalar.select (BitVec.ofBool (decide p)) a b = if q then a' else b := by
  rw [WordCmp.select_ofBool, ha]
  exact if_congr (by simp [h]) rfl rfl

/-- The first half of the lanes holds the first half of the query features, scaled, the second half the others; the
    remaining features are zero. -/
theorem query_apply (x1 : Vec Ideal S1x512x128 .f32) (c : Fin 2) (r : Fin 512) (l : Fin 1024) (hl : l.val = 512 * c.val + r.val)
    (d : Fin 128) :
    k0_pay16 x1 (ix2 l d)
      = if d.val / 64 = c.val then x1 (ix3 0 r d) * Ideal.ofBits .f32 1040187392#32 else 0 := by
  have hd := d.isLt
  have hr := r.isLt
  unfold k0_pay16
  pointwise
  have e1 : IntOp.cmpi .slt (BitVec.ofNat 32 d.val) 64#32 = BitVec.ofBool (decide (d.val < 64)) :=
    WordCmp.cmpi_slt_ofNat (by omega) (by omega)
  have e2 : IntOp.cmpi .sge (BitVec.ofNat 32 d.val) 64#32 = BitVec.ofBool (decide (64 ≤ d.val)) :=
    WordCmp.cmpi_sge_ofNat (by omega) (by omega)
  rw [e1, e2]
  match c, hl with
  | ⟨0, _⟩, hl =>
    have hl' : l.val = r.val := by simpa using hl
    have hlt : l.val < 512 := by omega
    refine (dif_pos hlt).trans (select_congr ?_ ?_)
    · show d.val < 64 ↔ d.val / 64 = 0
      omega
    · rw [show r = ⟨l.val, hlt⟩ from Fin.ext hl'.symm]
  | ⟨1, _⟩, hl =>
    have hl' : l.val = 512 + r.val := by simpa using hl
    have hlt : ¬ l.val < 512 := by omega
    refine (dif_neg hlt).trans (select_congr ?_ ?_)
    · show 64 ≤ d.val ↔ d.val / 64 = 1
      omega
    · rw [show r = ⟨l.val - 512, by omega⟩ from Fin.ext (by simp [hl'])]

/-- A key of the masked tile weighs for a position when it does not come after it. -/
theorem mask_select (n r p : ℕ) (w : BitVec 32) (hw : w.toNat = 1024 * n) (hn : n < 8) (hr : r < 1024) (hp : p < 8192)
    (a b : EReal) :
    Scalar.select (IntOp.cmpi .sle (IntOp.addi w (BitVec.ofNat 32 r)) (BitVec.ofNat 32 p)) a b
      = if 1024 * n + r ≤ p then a else b := by
  have e : w = BitVec.ofNat 32 (1024 * n) := by
    apply BitVec.eq_of_toNat_eq
    rw [hw, show (BitVec.ofNat 32 (1024 * n)).toNat = 1024 * n % 2 ^ 32 from rfl, Nat.mod_eq_of_lt (by omega)]
  rw [e]
  show Scalar.select (IntOp.cmpi .sle (BitVec.ofNat 32 (1024 * n) + BitVec.ofNat 32 r) _) _ _ = _
  rw [← BitVec.ofNat_add, WordCmp.cmpi_sle_ofNat (by omega) (by omega), WordCmp.select_ofBool]
  simp only [decide_eq_true_eq]

/-- The scores of the masked tile. -/
theorem masked_apply (i : grid0.Coords) (q : FVec Ideal S1024x128 .bf16) (K : Vec Ideal S1x1024x128 .bf16) (r l : Fin 1024) :
    k0_pay26 (BitVec.ofNat 32 (i 2).val) q (k0_pay17 i) K (ix2 r l)
      = if 1024 * ((i 2).val / 2) + r.val ≤ 512 * (i 2).val + l.val % 512
          then ∑ d : Fin 128, K (ix3 0 r d) * q (ix2 l d) else Ideal.ofBits .f32 4286578688#32 := by
  have h2 : (i 2).val < 16 := (i 2).isLt
  unfold k0_pay26
  pointwise
  rw [qpos_apply]
  exact mask_select _ _ _ _ (congrFun (off5_eq i) 1) (by omega) r.isLt (by omega) _ _

/-- One element of a block of the result: the two weighted averages, their difference normed and scaled. -/
def avg (a : Vec Ideal S128x1024 .f32) (d : Vec Ideal S1x1024 .f32) (lam : EReal) (l₀ l₁ : Fin 1024) (x : Fin 128) : EReal :=
  a (ix2 x l₀) * Ideal.div 1 (max (d (ix2 0 l₀)) (Ideal.ofBits .f32 228737632#32))
    - lam * (a (ix2 x l₁) * Ideal.div 1 (max (d (ix2 0 l₁)) (Ideal.ofBits .f32 228737632#32)))

theorem closing_apply (a : Vec Ideal S128x1024 .f32) (d : Vec Ideal S1x1024 .f32) (lam : Elt Ideal .f32)
    (g : Vec Ideal S128x1 .f32) (r : Fin 512) (f : Fin 128) (l₀ l₁ : Fin 1024) (h₀ : l₀.val = r.val) (h₁ : l₁.val = 512 + r.val) :
    k0_pay1 a d lam g (ix3 0 r f)
      = avg a d lam l₀ l₁ f
        * Ideal.rsqrt (Ideal.div (∑ x : Fin 128, avg a d lam l₀ l₁ x * avg a d lam l₀ l₁ x) (Ideal.ofBits .f32 1124073472#32)
            + Ideal.ofBits .f32 897988541#32)
        * (g (ix2 f 0) * Ideal.ofBits .f32 1057455962#32) := by
  rw [show l₀ = ⟨r.val, Nat.lt_of_lt_of_le r.isLt (by decide)⟩ from Fin.ext h₀,
    show l₁ = ⟨512 + r.val, Nat.add_lt_add_left r.isLt 512⟩ from Fin.ext h₁]
  unfold k0_pay1 avg
  pointwise

end Cert.KernelIdeal.Block
-- ==== Proof.Lanes.lean ====
/-
  What the running values of one query hold when a grid point ends: the maximum, the denominator and the numerators
  over all 8192 keys, the keys after the query's position having minus infinity for a score.
-/
module

public import proofs.«01_k».proof.Proof.Tile
public import proofs.«01_k».proof.Proof.Words

@[expose] public section

noncomputable section

namespace Cert.KernelIdeal.Block

open Cert.KernelIdeal Cert.KernelIdeal.Gen Idealize.ShloMosaic Idealize.ShloMosaic.TcCoe Idealize.SL.Sem

/-- The masked score of key `k` for the stacked query in lane `l`. -/
def laneScore (i : grid0.Coords) (q : FVec Ideal S1024x128 .bf16) (x2 : Vec Ideal S1x8192x128 .bf16) (l : Fin 1024) (k : ℕ) :
    EReal :=
  if h : k < 8192 then
    if k ≤ 512 * (i 2).val + l.val % 512 then ∑ d : Fin 128, x2 (ix3 0 ⟨k, h⟩ d) * q (ix2 l d) else ⊥
  else ⊥

theorem trips_le (i : grid0.Coords) : (k0_t1_loop i).trips ≤ 7 := by
  have h := trips_eq i
  have h2 : (i 2).val < 16 := (i 2).isLt
  omega

theorem keyTile_apply (i : grid0.Coords) (x2 : Vec Ideal S1x8192x128 .bf16) (t : Fin (k0_t1_loop i).trips) (x : Fin 1024)
    (d : Fin 128) (h : 1024 * t.val + x.val < 8192) :
    keyTile i x2 t (ix3 0 x d) = x2 (ix3 0 ⟨1024 * t.val + x.val, h⟩ d) := by
  unfold keyTile View.ld
  refine congrArg x2 (funext fun a => Fin.ext ?_)
  have e := off1_eq i t
  match a with
  | ⟨0, _⟩ => rfl
  | ⟨1, _⟩ =>
    show (k0_off1 i t) 1 + 1 * x.val = 1024 * t.val + x.val
    rw [e]
    show 1024 * t.val + 1 * x.val = _
    omega
  | ⟨2, _⟩ => show 0 + 1 * d.val = d.val; omega

theorem valTile_apply (i : grid0.Coords) (x3 : Vec Ideal S1x1x128x8192 .bf16) (t : Fin (k0_t1_loop i).trips) (x : Fin 1024)
    (f : Fin 128) (h : 1024 * t.val + x.val < 8192) :
    valTile i x3 t (ix4 0 0 f x) = x3 (ix4 0 0 f ⟨1024 * t.val + x.val, h⟩) := by
  unfold valTile View.ld
  refine congrArg x3 (funext fun a => Fin.ext ?_)
  have e := off2_eq i t
  match a with
  | ⟨0, _⟩ => rfl
  | ⟨1, _⟩ => rfl
  | ⟨2, _⟩ => show 0 + 1 * f.val = f.val; omega
  | ⟨3, _⟩ =>
    show (k0_off2 i t) 3 + 1 * x.val = 1024 * t.val + x.val
    rw [e]
    show 1024 * t.val + 1 * x.val = _
    omega

theorem lastKeys_apply (i : grid0.Coords) (x2 : Vec Ideal S1x8192x128 .bf16) (x : Fin 1024) (d : Fin 128)
    (h : 1024 * ((i 2).val / 2) + x.val < 8192) :
    View.ld x2 (Rect.unit (s := S1x8192x128) (k0_off5 i) S1x1024x128.size (k0_off5_inb i)) (ix3 0 x d)
      = x2 (ix3 0 ⟨1024 * ((i 2).val / 2) + x.val, h⟩ d) := by
  unfold View.ld
  refine congrArg x2 (funext fun a => Fin.ext ?_)
  have e := off5_eq i
  match a with
  | ⟨0, _⟩ => rfl
  | ⟨1, _⟩ =>
    show (k0_off5 i) 1 + 1 * x.val = 1024 * ((i 2).val / 2) + x.val
    rw [e]
    show 1024 * ((i 2).val / 2) + 1 * x.val = _
    omega
  | ⟨2, _⟩ => show 0 + 1 * d.val = d.val; omega

theorem lastVals_apply (i : grid0.Coords) (x3 : Vec Ideal S1x1x128x8192 .bf16) (x : Fin 1024) (f : Fin 128)
    (h : 1024 * ((i 2).val / 2) + x.val < 8192) :
    View.ld x3 (Rect.unit (s := S1x1x128x8192) (k0_off6 i) S1x1x128x1024.size (k0_off6_inb i)) (ix4 0 0 f x)
      = x3 (ix4 0 0 f ⟨1024 * ((i 2).val / 2) + x.val, h⟩) := by
  unfold View.ld
  refine congrArg x3 (funext fun a => Fin.ext ?_)
  have e := off6_eq i
  match a with
  | ⟨0, _⟩ => rfl
  | ⟨1, _⟩ => rfl
  | ⟨2, _⟩ => show 0 + 1 * f.val = f.val; omega
  | ⟨3, _⟩ =>
    show (k0_off6 i) 3 + 1 * x.val = 1024 * ((i 2).val / 2) + x.val
    rw [e]
    show 1024 * ((i 2).val / 2) + 1 * x.val = _
    omega

/-- The running values after `n` whole tiles. -/
theorem lane_after (i : grid0.Coords) (q : FVec Ideal S1024x128 .bf16) (x2 : Vec Ideal S1x8192x128 .bf16)
    (x3 : Vec Ideal S1x1x128x8192 .bf16) (w : Fin 128 → ℕ → ℝ)
    (hw : ∀ (f : Fin 128) (k : Fin 8192), x3 (ix4 0 0 f k) = ↑(w f k)) (l : Fin 1024) (n : ℕ) (hn : n ≤ (k0_t1_loop i).trips) :
    Lane (laneScore i q x2 l) w (1024 * n) (after i q x2 x3 n) l := by
  induction n with
  | zero => exact Lane.start _ _ l
  | succ n ih =>
    have h7 := trips_le i
    have ht := trips_eq i
    have e : after i q x2 x3 (n + 1) = step q (keyTile i x2 ⟨n, hn⟩) (valTile i x3 ⟨n, hn⟩) (after i q x2 x3 n) := dif_pos hn
    rw [e, step_eq, Nat.mul_succ]
    refine (ih (by omega)).tile _ _ (fun x => ?_) (fun f x => ?_)
    · have hx : 1024 * n + x.val < 8192 := by omega
      rw [scores_apply]
      unfold laneScore
      rw [dif_pos hx, if_pos (by omega)]
      exact Finset.sum_congr rfl fun d _ => by rw [keyTile_apply i x2 ⟨n, hn⟩ x d hx]
    · have hx : 1024 * n + x.val < 8192 := by omega
      rw [valTile_apply i x3 ⟨n, hn⟩ x f hx]
      exact hw f ⟨1024 * n + x.val, hx⟩

/-- Keys with minus infinity for a score change nothing. -/
theorem Lane.tail {S : ℕ → EReal} {w : Fin 128 → ℕ → ℝ} {a n : ℕ} {r : Run Ideal} {l : Fin 1024} (h : Lane S w a r l)
    (hle : a ≤ n) (hS : ∀ k, a ≤ k → k < n → S k = ⊥) : Lane S w n r l := by
  refine ⟨?_, ?_, fun f => ?_⟩
  · rw [Online.sup_range_tail S hle hS, h.mx]
  · have e := Online.sum_range_tail S (fun _ => 1) ((Finset.range a).sup S) hle hS
    simp only [one_mul] at e
    rw [Online.sup_range_tail S hle hS, h.den, e]
  · rw [Online.sup_range_tail S hle hS, h.num, Online.sum_range_tail S (w f) _ hle hS]

theorem sup_range_fin (S : ℕ → EReal) (n : ℕ) : (Finset.range n).sup S = Finset.univ.sup fun k : Fin n => S k := by
  have e := Online.sup_range_add S 0 n
  simpa using e

/-- The denominator as a sum over the keys. -/
theorem Lane.den_fin {S : ℕ → EReal} {w : Fin 128 → ℕ → ℝ} {n : ℕ} {r : Run Ideal} {l : Fin 1024} (h : Lane S w n r l) :
    r.den (ix2 0 l) = ↑(∑ k : Fin n, Online.wt (S k) (Finset.univ.sup fun k : Fin n => S k)) := by
  rw [h.den, sup_range_fin, Finset.sum_range]

/-- The numerators as sums over the keys. -/
theorem Lane.num_fin {S : ℕ → EReal} {w : Fin 128 → ℕ → ℝ} {n : ℕ} {r : Run Ideal} {l : Fin 1024} (h : Lane S w n r l)
    (f : Fin 128) :
    r.num (ix2 f l) = ↑(∑ k : Fin n, w f k * Online.wt (S k) (Finset.univ.sup fun k : Fin n => S k)) := by
  rw [h.num, sup_range_fin, Finset.sum_range]

/-- The running values after the masked tile, over all the keys. -/
theorem lane_final (i : grid0.Coords) (x1 : Vec Ideal S1x512x128 .f32) (x2 : Vec Ideal S1x8192x128 .bf16)
    (x3 : Vec Ideal S1x1x128x8192 .bf16) (w : Fin 128 → ℕ → ℝ)
    (hw : ∀ (f : Fin 128) (k : Fin 8192), x3 (ix4 0 0 f k) = ↑(w f k)) (l : Fin 1024) :
    Lane (laneScore i (k0_pay16 x1) x2 l) w 8192 (final i x1 x2 x3) l := by
  have h2 : (i 2).val < 16 := (i 2).isLt
  have ht := trips_eq i
  have hl : Lane (laneScore i (k0_pay16 x1) x2 l) w (1024 * ((i 2).val / 2) + 1024) (final i x1 x2 x3) l := by
    have h0 := lane_after i (k0_pay16 x1) x2 x3 w hw l (k0_t1_loop i).trips le_rfl
    have h1 : Lane (laneScore i (k0_pay16 x1) x2 l) w (1024 * ((i 2).val / 2)) (after i (k0_pay16 x1) x2 x3 (k0_t1_loop i).trips) l := by
      rwa [← ht]
    unfold final
    refine h1.tile _ _ (fun x => ?_) (fun f x => ?_)
    · have hx : 1024 * ((i 2).val / 2) + x.val < 8192 := by omega
      rw [masked_apply, Online.ofBits_neg_inf]
      unfold laneScore
      rw [dif_pos hx]
      refine if_congr Iff.rfl (Finset.sum_congr rfl fun d _ => ?_) rfl
      rw [lastKeys_apply i x2 x d hx]
    · have hx : 1024 * ((i 2).val / 2) + x.val < 8192 := by omega
      rw [lastVals_apply i x3 x f hx]
      exact hw f ⟨1024 * ((i 2).val / 2) + x.val, hx⟩
  have hle : 1024 * ((i 2).val / 2) + 1024 ≤ 8192 := by omega
  have htail : ∀ k, 1024 * ((i 2).val / 2) + 1024 ≤ k → k < 8192 → laneScore i (k0_pay16 x1) x2 l k = ⊥ := by
    intro k hk hk2
    unfold laneScore
    rw [dif_pos hk2, if_neg (by omega)]
  exact hl.tail hle htail

/-- The scores of a lane against the two halves' features: the zero features of a stacked query add nothing. -/
theorem half_sum (c : Fin 2) (u v : Fin 128 → EReal) :
    ∑ d : Fin 128, u d * (if d.val / 64 = c.val then v d else 0)
      = ∑ e : Fin 64, v ⟨64 * c.val + e.val, by omega⟩ * u ⟨64 * c.val + e.val, by omega⟩ := by
  have hsplit := Fin.sum_univ_add (a := 64) (b := 64) fun d : Fin 128 => u d * (if d.val / 64 = c.val then v d else 0)
  refine hsplit.trans ?_
  match c with
  | ⟨0, _⟩ =>
    rw [Finset.sum_eq_zero (s := Finset.univ) (f := fun e : Fin 64 => u (Fin.natAdd 64 e) *
      (if (Fin.natAdd 64 e).val / 64 = 0 then v (Fin.natAdd 64 e) else 0)), add_zero]
    · refine Finset.sum_congr rfl fun e _ => ?_
      have he := e.isLt
      rw [if_pos (by show e.val / 64 = 0; omega), mul_comm]
      congr 2 <;> exact Fin.ext (by show e.val = 64 * 0 + e.val; omega)
    · intro e _
      rw [if_neg (by show ¬ (64 + e.val) / 64 = 0; omega), mul_zero]
  | ⟨1, _⟩ =>
    rw [Finset.sum_eq_zero (s := Finset.univ) (f := fun e : Fin 64 => u (Fin.castAdd 64 e) *
      (if (Fin.castAdd 64 e).val / 64 = 1 then v (Fin.castAdd 64 e) else 0)), zero_add]
    · refine Finset.sum_congr rfl fun e _ => ?_
      have he := e.isLt
      rw [if_pos (by show (64 + e.val) / 64 = 1; omega), mul_comm]
      rfl
    · intro e _
      have he := e.isLt
      rw [if_neg (by show ¬ e.val / 64 = 1; omega), mul_zero]

end Cert.KernelIdeal.Block
-- ==== Proof.RefScores.lean ====
/-
  The reference's masked scores, element by element.
-/
module

public import proofs.«01_k».proof.Proof.Gen.ReferenceIdeal.Read
public import Idealize.ShloMosaic.Lib.Pointwise
public import Idealize.ShloMosaic.Lib.WordCmp
public import proofs.«01_k».proof.Proof.Online

@[expose] public section

noncomputable section

namespace Cert.ReferenceIdeal.Heads

open Cert.ReferenceIdeal Cert.ReferenceIdeal.Gen Cert.ReferenceIdeal.Read Idealize.ShloMosaic Idealize.ShloMosaic.TcCoe Idealize.SL.Sem

variable (x0 x1 x2 : Vec Ideal S2x8192x1024 .f32) (x3 : Vec Ideal S1 .f32) (x4 : Vec Ideal S128 .f32)

/-- Feature `d` of half `c` of head `h`. -/
def feat (h : Fin 8) (c : Fin 2) (d : Fin 64) : Fin 1024 := ⟨h.val * 128 + c.val * 64 + d.val, by omega⟩

/-- The score of key `k` for position `p`, in half `c` of head `h`. -/
def score (b : Fin 2) (h : Fin 8) (c : Fin 2) (p k : Fin 8192) : EReal :=
  ∑ d : Fin 64, x0 (ix3 b p (feat h c d)) * Ideal.ofBits .f32 1040187392#32 * x1 (ix3 b k (feat h c d))

/-- The masked score: a key after the position has minus infinity. -/
def mscore (b : Fin 2) (h : Fin 8) (c : Fin 2) (p k : Fin 8192) : EReal :=
  if k.val ≤ p.val then score x0 x1 b h c p k else ⊥

theorem scores_apply (b : Fin 2) (h : Fin 8) (c : Fin 2) (p k : Fin 8192) :
    val_main_v6 x0 x1 (ix5 b h c p k) = score x0 x1 b h c p k := by
  unfold val_main_v6 val_main_v4 val_main_v3 val_main_cst val_main_v2 val_main_v0 score
  pointwise
  rfl

theorem masked_apply (b : Fin 2) (h : Fin 8) (c : Fin 2) (p k : Fin 8192) :
    val_main_v12 x0 x1 (ix5 b h c p k) = mscore x0 x1 b h c p k := by
  unfold val_main_v12 val_main_call0_v2 val_main_call0_v1 val_main_call0_v0 val_main_cst_0 val_main_v11 val_main_v10 val_main_v9 val_main_v8 val_main_v7 val_main_v5
  pointwise
  rw [scores_apply]
  unfold mscore
  rw [WordCmp.cmpi_sle_ofNat (Nat.lt_trans k.isLt (by decide)) (Nat.lt_trans p.isLt (by decide)), WordCmp.select_ofBool, ← Online.ofBits_neg_inf]
  exact if_congr (by simp) rfl rfl

end Cert.ReferenceIdeal.Heads
-- ==== Proof.RefTop.lean ====
/-
  The largest masked score of a position, as the reference takes it.
-/
module

public import proofs.«01_k».proof.Proof.Gen.ReferenceIdeal.Read
public import Idealize.ShloMosaic.Lib.Pointwise
public import Idealize.ShloMosaic.Lib.WordCmp
public import proofs.«01_k».proof.Proof.RefScores
public import proofs.«01_k».proof.Proof.Online

@[expose] public section

noncomputable section

namespace Cert.ReferenceIdeal.Heads

open Cert.ReferenceIdeal Cert.ReferenceIdeal.Gen Cert.ReferenceIdeal.Read Idealize.ShloMosaic Idealize.ShloMosaic.TcCoe Idealize.SL.Sem

variable (x0 x1 x2 : Vec Ideal S2x8192x1024 .f32) (x3 : Vec Ideal S1 .f32) (x4 : Vec Ideal S128 .f32)

/-- The largest masked score of a position. -/
def top (b : Fin 2) (h : Fin 8) (c : Fin 2) (p : Fin 8192) : EReal := Finset.univ.sup fun k => mscore x0 x1 b h c p k

theorem fold_max_eq_sup {ι : Type} [Fintype ι] (f : ι → EReal) : Finset.univ.fold max ⊥ f = Finset.univ.sup f := rfl

theorem max_apply (b : Fin 2) (h : Fin 8) (c : Fin 2) (p : Fin 8192) :
    val_main_v13 x0 x1 (ix4 b h c p) = top x0 x1 b h c p := by
  have hred : S2x8x2x8192x8192.Reduces [4] S2x8x2x8192 := by decide
  have e : ∀ k : Fin 8192, hred.lift (ix4 b h c p) k = ix5 b h c p k := by
    intro k
    funext a
    apply Fin.ext
    match a with
    | ⟨0, _⟩ => rfl
    | ⟨1, _⟩ => rfl
    | ⟨2, _⟩ => rfl
    | ⟨3, _⟩ => rfl
    | ⟨4, _⟩ => rfl
  unfold val_main_v13 top
  rw [Host.reduce_eq_fold_single _ _ _ _ hred, val_main_cst_1_apply]
  rw [← fold_max_eq_sup, ← Online.ofBits_neg_inf]
  refine Finset.fold_congr fun k _ => ?_
  exact (congrArg (val_main_v12 x0 x1) (e k)).trans (masked_apply x0 x1 b h c p k)

theorem keep_apply (b : Fin 2) (h : Fin 8) (c : Fin 2) (p : Fin 8192) :
    val_main_v14 x0 x1 (ix5 b h c p 0) = top x0 x1 b h c p := by
  have e : idx_main_v14 (ix5 b h c p 0) = ix4 b h c p := by
    funext a
    match a with
    | ⟨0, _⟩ => rfl
    | ⟨1, _⟩ => rfl
    | ⟨2, _⟩ => rfl
    | ⟨3, _⟩ => rfl
  rw [val_main_v14_apply, e, max_apply]

/-- A maximum kept where it is finite. -/
theorem select_finite (t : EReal) :
    Scalar.select (FloatOps.cmpf (F := Ideal) (φ := .f32) .olt (FloatOps.absf (F := Ideal) (φ := .f32) t)
      (FloatOps.ofBits (F := Ideal) .f32 0x7F800000#32)) t (FloatOps.ofBits (F := Ideal) .f32 0x00000000#32) = Online.fin0 t := by
  have e0 : FloatOps.ofBits (F := Ideal) .f32 0x00000000#32 = 0 := Online.ofBits_zero
  have e1 : FloatOps.ofBits (F := Ideal) .f32 0x7F800000#32 = ⊤ := Online.ofBits_inf
  rw [e0, e1]
  unfold Online.fin0
  refine (WordCmp.select_ofBool (decide (max t (-t) < ⊤)) t 0).trans ?_
  exact if_congr (by simp) rfl rfl

theorem top_apply (b : Fin 2) (h : Fin 8) (c : Fin 2) (p : Fin 8192) :
    val_main_v18 x0 x1 (ix5 b h c p 0) = Online.fin0 (top x0 x1 b h c p) := by
  rw [val_main_v18_apply, val_main_v17_apply, val_main_v15_apply, keep_apply, val_main_v16_apply, val_main_cst_2_apply,
    val_main_call1_v1_apply, val_main_call1_v0_apply, val_main_cst_3_apply]
  exact select_finite _

end Cert.ReferenceIdeal.Heads
-- ==== Proof.RefWeights.lean ====
/-
  The reference's two softmaxes and the difference of their weights, element by element.
-/
module

public import proofs.«01_k».proof.Proof.Gen.ReferenceIdeal.Read
public import Idealize.ShloMosaic.Lib.Pointwise
public import Idealize.ShloMosaic.Lib.WordCmp
public import proofs.«01_k».proof.Proof.RefTop
public import proofs.«01_k».proof.Proof.Online

@[expose] public section

noncomputable section

namespace Cert.ReferenceIdeal.Heads

open Cert.ReferenceIdeal Cert.ReferenceIdeal.Gen Cert.ReferenceIdeal.Read Idealize.ShloMosaic Idealize.ShloMosaic.TcCoe Idealize.SL.Sem

variable (x0 x1 x2 : Vec Ideal S2x8192x1024 .f32) (x3 : Vec Ideal S1 .f32) (x4 : Vec Ideal S128 .f32)

/-- The least denominator. -/
def eps : EReal := Ideal.ofBits .f32 228737632#32

/-- The softmax weight of key `k`. -/
def weight (b : Fin 2) (h : Fin 8) (c : Fin 2) (p k : Fin 8192) : EReal :=
  Ideal.div (Ideal.exp (mscore x0 x1 b h c p k - Online.fin0 (top x0 x1 b h c p)))
    (max (∑ j, Ideal.exp (mscore x0 x1 b h c p j - Online.fin0 (top x0 x1 b h c p))) eps)

theorem weight_apply (b : Fin 2) (h : Fin 8) (c : Fin 2) (p k : Fin 8192) :
    val_main_v27 x0 x1 (ix5 b h c p k) = weight x0 x1 b h c p k := by
  unfold val_main_v27 val_main_v26 val_main_v25 val_main_v24 val_main_cst_5 val_main_v23 val_main_v22 val_main_cst_4 val_main_v21 val_main_v20 val_main_v19 weight eps
  pointwise
  simp only [masked_apply, top_apply]

/-- The difference of the two softmaxes' weights. -/
theorem diff_apply (b : Fin 2) (h : Fin 8) (p k : Fin 8192) :
    val_main_v35 x0 x1 x3 (ix4 b h p k) = weight x0 x1 b h 0 p k - x3 (ix1 0) * weight x0 x1 b h 1 p k := by
  rw [val_main_v35_apply, val_main_v34_apply, val_main_v33_apply, val_main_v32_apply, val_main_v31_apply,
    val_main_v29_apply, val_main_v28_apply, ← weight_apply, ← weight_apply]
  have hb := b.isLt
  have hh := h.isLt
  have hp := p.isLt
  have hk := k.isLt
  have e0 : idx_main_v28 (idx_main_v29 (ix4 b h p k)) = ix5 b h 0 p k := by
    funext a
    apply Fin.ext
    match a with
    | ⟨0, _⟩ => show (((b.val * 8 + h.val) * 8192 + p.val) * 8192 + k.val) / 536870912 = b.val; omega
    | ⟨1, _⟩ => show (((b.val * 8 + h.val) * 8192 + p.val) * 8192 + k.val) / 67108864 % 8 = h.val; omega
    | ⟨2, _⟩ => rfl
    | ⟨3, _⟩ => show (((b.val * 8 + h.val) * 8192 + p.val) * 8192 + k.val) / 8192 % 8192 = p.val; omega
    | ⟨4, _⟩ => show (((b.val * 8 + h.val) * 8192 + p.val) * 8192 + k.val) % 8192 = k.val; omega
  have e1 : idx_main_v31 (idx_main_v32 (ix4 b h p k)) = ix5 b h 1 p k := by
    funext a
    apply Fin.ext
    match a with
    | ⟨0, _⟩ => show (((b.val * 8 + h.val) * 8192 + p.val) * 8192 + k.val) / 536870912 = b.val; omega
    | ⟨1, _⟩ => show (((b.val * 8 + h.val) * 8192 + p.val) * 8192 + k.val) / 67108864 % 8 = h.val; omega
    | ⟨2, _⟩ => rfl
    | ⟨3, _⟩ => show (((b.val * 8 + h.val) * 8192 + p.val) * 8192 + k.val) / 8192 % 8192 = p.val; omega
    | ⟨4, _⟩ => show (((b.val * 8 + h.val) * 8192 + p.val) * 8192 + k.val) % 8192 = k.val; omega
  rw [e0, e1]
  have e2 : val_main_v30 x3 (idx_main_v33 (ix4 b h p k)) = x3 (ix1 0) :=
    shapeCast_apply x3 shapeCasts_S1_S_ _ (ix1 0) rfl
  rw [e2]
  rfl

end Cert.ReferenceIdeal.Heads
-- ==== Proof.RefHeads.lean ====
/-
  The reference's weighted values and normed heads, element by element.
-/
module

public import proofs.«01_k».proof.Proof.Gen.ReferenceIdeal.Read
public import Idealize.ShloMosaic.Lib.Pointwise
public import Idealize.ShloMosaic.Lib.WordCmp
public import proofs.«01_k».proof.Proof.RefWeights

@[expose] public section

noncomputable section

namespace Cert.ReferenceIdeal.Heads

open Cert.ReferenceIdeal Cert.ReferenceIdeal.Gen Cert.ReferenceIdeal.Read Idealize.ShloMosaic Idealize.ShloMosaic.TcCoe Idealize.SL.Sem

variable (x0 x1 x2 : Vec Ideal S2x8192x1024 .f32) (x3 : Vec Ideal S1 .f32) (x4 : Vec Ideal S128 .f32)

/-- Feature `f` of head `h`. -/
def headFeat (h : Fin 8) (f : Fin 128) : Fin 1024 := ⟨h.val * 128 + f.val, by omega⟩

/-- The weighted sum of the values. -/
def head (b : Fin 2) (h : Fin 8) (p : Fin 8192) (f : Fin 128) : EReal :=
  ∑ k : Fin 8192, x2 (ix3 b k (headFeat h f)) * (weight x0 x1 b h 0 p k - x3 (ix1 0) * weight x0 x1 b h 1 p k)

theorem values_apply (b : Fin 2) (h : Fin 8) (p : Fin 8192) (f : Fin 128) :
    val_main_v37 x0 x1 x2 x3 (ix4 b p h f) = head x0 x1 x2 x3 b h p f := by
  unfold val_main_v37 val_main_v36 val_main_v1 head
  pointwise
  simp only [diff_apply]
  rfl

/-- One element of the normed head. -/
theorem normed_apply (b : Fin 2) (h : Fin 8) (p : Fin 8192) (f : Fin 128) :
    val_main_v50 x0 x1 x2 x3 x4 (ix4 b p h f)
      = head x0 x1 x2 x3 b h p f
        * Ideal.rsqrt (Ideal.div (∑ x : Fin 128, head x0 x1 x2 x3 b h p x * head x0 x1 x2 x3 b h p x) (Ideal.ofBits .f32 1124073472#32)
            + Ideal.ofBits .f32 897988541#32)
        * x4 (ix1 f) := by
  unfold val_main_v50 val_main_v49 val_main_v48 val_main_v47 val_main_v46 val_main_v45 val_main_v44 val_main_v43 val_main_v42 val_main_v41 val_main_v40 val_main_v39 val_main_v38 val_main_cst_6 val_main_cst_7 val_main_cst_8
  pointwise
  simp only [values_apply]

/-- One element of the result. -/
theorem result_apply (b : Fin 2) (h : Fin 8) (p : Fin 8192) (f : Fin 128) :
    val_main_v53 x0 x1 x2 x3 x4 (ix3 b p (headFeat h f))
      = head x0 x1 x2 x3 b h p f
        * Ideal.rsqrt (Ideal.div (∑ x : Fin 128, head x0 x1 x2 x3 b h p x * head x0 x1 x2 x3 b h p x) (Ideal.ofBits .f32 1124073472#32)
            + Ideal.ofBits .f32 897988541#32)
        * x4 (ix1 f) * Ideal.ofBits .f32 1057455962#32 := by
  have e : idx_main_v53 (ix3 b p (headFeat h f)) = ix4 b p h f := by
    funext a
    apply Fin.ext
    have hb := b.isLt
    have hp := p.isLt
    have hh := h.isLt
    have hf := f.isLt
    match a with
    | ⟨0, _⟩ => show ((b.val * 8192 + p.val) * 1024 + (h.val * 128 + f.val)) / 8388608 = b.val; omega
    | ⟨1, _⟩ => show ((b.val * 8192 + p.val) * 1024 + (h.val * 128 + f.val)) / 1024 % 8192 = p.val; omega
    | ⟨2, _⟩ => show ((b.val * 8192 + p.val) * 1024 + (h.val * 128 + f.val)) / 128 % 8 = h.val; omega
    | ⟨3, _⟩ => show ((b.val * 8192 + p.val) * 1024 + (h.val * 128 + f.val)) % 128 = f.val; omega
  rw [val_main_v53_apply, val_main_v52_apply, val_main_v51_apply, val_main_cst_9_apply, e, normed_apply]
  rfl

end Cert.ReferenceIdeal.Heads
-- ==== Proof.Agree.lean ====
/-
  One block of the kernel's result is the reference's: the two halves' scores are the reference's two masked scores,
  and the quotients of the running sums are its two softmaxes' weighted averages.
-/
module

public import proofs.«01_k».proof.Proof.Lanes
public import proofs.«01_k».proof.Proof.RefHeads

@[expose] public section

noncomputable section

namespace Cert.Agree

open Cert.KernelIdeal.Block Cert.ReferenceIdeal.Heads Idealize.ShloMosaic Idealize.ShloMosaic.TcCoe Idealize.SL.Sem

/-- What a grid point's blocks are of the arguments: head `h` of sequence `b`, the queries from `512 i` on. -/
structure Blocks (i : Cert.KernelIdeal.grid0.Coords) (b : Fin 2) (h : Fin 8)
    (x0 : EReal) (x1 : Vec Ideal Cert.KernelIdeal.S1x512x128 .f32) (x2 : Vec Ideal Cert.KernelIdeal.S1x8192x128 .bf16)
    (x3 : Vec Ideal Cert.KernelIdeal.S1x1x128x8192 .bf16) (x4 : Vec Ideal Cert.KernelIdeal.S128x1 .f32)
    (X0 X1 X2 : Vec Ideal Cert.ReferenceIdeal.S2x8192x1024 .f32) (X3 : Vec Ideal Cert.ReferenceIdeal.S1 .f32)
    (X4 : Vec Ideal Cert.ReferenceIdeal.S128 .f32) : Prop where
  lam : x0 = X3 (ix1 0)
  query : ∀ (r : Fin 512) (d : Fin 128) (p : Fin 8192), p.val = 512 * (i 2).val + r.val → x1 (ix3 0 r d) = X0 (ix3 b p (headFeat h d))
  key : ∀ (k : Fin 8192) (d : Fin 128), x2 (ix3 0 k d) = X1 (ix3 b k (headFeat h d))
  value : ∀ (f : Fin 128) (k : Fin 8192), x3 (ix4 0 0 f k) = X2 (ix3 b k (headFeat h f))
  gain : ∀ f : Fin 128, x4 (ix2 f 0) = X4 (ix1 f)

variable {i : Cert.KernelIdeal.grid0.Coords} {b : Fin 2} {h : Fin 8}
  {x0 : EReal} {x1 : Vec Ideal Cert.KernelIdeal.S1x512x128 .f32} {x2 : Vec Ideal Cert.KernelIdeal.S1x8192x128 .bf16}
  {x3 : Vec Ideal Cert.KernelIdeal.S1x1x128x8192 .bf16} {x4 : Vec Ideal Cert.KernelIdeal.S128x1 .f32}
  {X0 X1 X2 : Vec Ideal Cert.ReferenceIdeal.S2x8192x1024 .f32} {X3 : Vec Ideal Cert.ReferenceIdeal.S1 .f32}
  {X4 : Vec Ideal Cert.ReferenceIdeal.S128 .f32}

/-- A lane's scores are the reference's masked scores of its half and position. -/
theorem scores_eq (B : Blocks i b h x0 x1 x2 x3 x4 X0 X1 X2 X3 X4) (c : Fin 2) (r : Fin 512) (l : Fin 1024)
    (hl : l.val = 512 * c.val + r.val) (p : Fin 8192) (hp : p.val = 512 * (i 2).val + r.val) (k : Fin 8192) :
    laneScore i (Cert.KernelIdeal.Gen.k0_pay16 x1) x2 l k = mscore X0 X1 b h c p k := by
  have hr := r.isLt
  have hlm : l.val % 512 = r.val := by omega
  unfold laneScore mscore score
  rw [dif_pos k.isLt, hlm, hp]
  refine if_congr Iff.rfl ?_ rfl
  have e1 : ∀ d : Fin 128, x2 (ix3 0 ⟨k.val, k.isLt⟩ d) * Cert.KernelIdeal.Gen.k0_pay16 x1 (ix2 l d)
      = X1 (ix3 b k (headFeat h d)) * (if d.val / 64 = c.val
          then X0 (ix3 b p (headFeat h d)) * Ideal.ofBits .f32 1040187392#32 else 0) := by
    intro d
    rw [query_apply x1 c r l hl d, B.query r d p hp]
    exact congrArg (· * _) (B.key k d)
  have e2 : ∀ e : Fin 64, headFeat h ⟨64 * c.val + e.val, by omega⟩ = feat h c e := by
    intro e
    apply Fin.ext
    show h.val * 128 + (64 * c.val + e.val) = h.val * 128 + c.val * 64 + e.val
    omega
  rw [Finset.sum_congr rfl fun d _ => e1 d,
    half_sum c (fun d => X1 (ix3 b k (headFeat h d))) fun d => X0 (ix3 b p (headFeat h d)) * Ideal.ofBits .f32 1040187392#32]
  exact Finset.sum_congr rfl fun e _ => by rw [e2]

/-- The values of a head as real numbers, by feature and key. -/
def reals (X2 : Vec Ideal Cert.ReferenceIdeal.S2x8192x1024 .f32) (b : Fin 2) (h : Fin 8) (f : Fin 128) (k : ℕ) : ℝ :=
  if hk : k < 8192 then (X2 (ix3 b ⟨k, hk⟩ (headFeat h f))).toReal else 0

theorem reals_fin (X2 : Vec Ideal Cert.ReferenceIdeal.S2x8192x1024 .f32) (b : Fin 2) (h : Fin 8) (f : Fin 128)
    (k : Fin 8192) : reals X2 b h f k = (X2 (ix3 b k (headFeat h f))).toReal := dif_pos k.isLt

/-- The difference of the two weighted averages is the reference's weighted sum of the values. -/
theorem avg_eq (B : Blocks i b h x0 x1 x2 x3 x4 X0 X1 X2 X3 X4) (hX2 : ∀ j, X2 j = ↑(X2 j).toReal)
    (hX3 : X3 (ix1 0) = ↑(X3 (ix1 0)).toReal) (r : Fin 512) (l₀ l₁ : Fin 1024)
    (h₀ : l₀.val = r.val) (h₁ : l₁.val = 512 + r.val) (p : Fin 8192) (hp : p.val = 512 * (i 2).val + r.val) (f : Fin 128) :
    avg (final i x1 x2 x3).num (final i x1 x2 x3).den x0 l₀ l₁ f = head X0 X1 X2 X3 b h p f := by
  have hw : ∀ (f : Fin 128) (k : Fin 8192), x3 (ix4 0 0 f k) = ↑(reals X2 b h f k) := by
    intro f k
    rw [B.value f k, reals_fin, ← hX2]
  have L₀ := lane_final i x1 x2 x3 (reals X2 b h) hw l₀
  have L₁ := lane_final i x1 x2 x3 (reals X2 b h) hw l₁
  have S₀ := scores_eq B 0 r l₀ (by rw [h₀]; simp) p hp
  have S₁ := scores_eq B 1 r l₁ (by rw [h₁]; simp) p hp
  obtain ⟨ε, hε, eε⟩ := Online.ofBits_least
  unfold avg head weight top eps
  rw [L₀.den_fin, L₁.den_fin, L₀.num_fin, L₁.num_fin, B.lam, hX3, eε]
  simp only [S₀, S₁, reals_fin]
  refine (Online.diff_eq _ _ _ _ rfl rfl _ _ ε hε).symm.trans ?_
  refine Finset.sum_congr rfl fun k _ => ?_
  rw [← hX2]

/-- One element of a block of the kernel's result is the reference's. -/
theorem block_eq (B : Blocks i b h x0 x1 x2 x3 x4 X0 X1 X2 X3 X4) (hX2 : ∀ j, X2 j = ↑(X2 j).toReal)
    (hX3 : X3 (ix1 0) = ↑(X3 (ix1 0)).toReal) (r : Fin 512) (p : Fin 8192) (hp : p.val = 512 * (i 2).val + r.val) (f : Fin 128) :
    Cert.KernelIdeal.Gen.k0_pay1 (final i x1 x2 x3).num (final i x1 x2 x3).den x0 x4 (ix3 0 r f)
      = Cert.ReferenceIdeal.Read.val_main_v53 (F := Ideal) X0 X1 X2 X3 X4 (ix3 b p (headFeat h f)) := by
  have hr := r.isLt
  rw [result_apply, closing_apply _ _ _ _ r f ⟨r.val, by omega⟩ ⟨512 + r.val, by omega⟩ rfl rfl, B.gain]
  have e : ∀ x, avg (final i x1 x2 x3).num (final i x1 x2 x3).den x0 ⟨r.val, by omega⟩ ⟨512 + r.val, by omega⟩ x
      = head X0 X1 X2 X3 b h p x := fun x => avg_eq B hX2 hX3 r _ _ rfl rfl p hp x
  simp only [e]
  rw [← mul_assoc]

end Cert.Agree
-- ==== Proof.Blocks.lean ====
/-
  The blocks a grid point reads, by coordinates, as entries of the arguments: the keys and values of a head of a
  sequence, 512 of its queries, the mixing weight and the gains.
-/
module

public import proofs.«01_k».proof.Proof.Gen.KernelIdeal.Frame
public import Idealize.ShloMosaic.Lib.Pipeline.ValueKit
public import Idealize.ShloMosaic.Lib.Claim
public import Idealize.ShloMosaic.Lib.Pointwise

@[expose] public section

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ) (c : Dev nD)

/-- The keys as the kernel's operand. -/
theorem keys_apply (j : S2x8192x1024.Idx) : V m c main_v4 j = m ((c : Thread nD τ).loc main_arg1) j := by
  entry_read
  rfl

/-- The mixing weight as the kernel's operand. -/
theorem lam_apply : V m c main_v3 (ix2 0 0) = m ((c : Thread nD τ).loc main_arg3) (ix1 0) := by
  entry_read
  pointwise

/-- The gains as the kernel's operand, a column. -/
theorem gains_apply (f : Fin 128) : V m c main_v5 (ix2 f 0) = m ((c : Thread nD τ).loc main_arg4) (ix1 f) := by
  entry_read
  pointwise

/-- The values as the kernel's operand: one matrix of features by keys for every head of every sequence. -/
theorem values_apply (b : Fin 2) (h : Fin 8) (f : Fin 128) (k : Fin 8192) (j : S2x8192x1024.Idx)
    (h0 : (j 0).val = b.val) (h1 : (j 1).val = k.val) (h2 : (j 2).val = h.val * 128 + f.val) :
    V m c main_v2 (ix4 b h f k) = m ((c : Thread nD τ).loc main_arg2) j := by
  entry_read
  show transpose S2x8x128x8192 [0, 2, 3, 1] (shapeCast S2x8192x8x128 (m ((c : Thread nD τ).loc main_arg2))
    shapeCasts_S2x8192x1024_S2x8192x8x128) transposes_S2x8192x8x128_S2x8x128x8192_0_2_3_1 (ix4 b h f k) = _
  refine (transpose_apply _ _ _ (ix4 b h f k) (ix4 b k h f) (fun a => ?_)).trans ?_
  · match a with
    | ⟨0, _⟩ => rfl
    | ⟨1, _⟩ => rfl
    | ⟨2, _⟩ => rfl
    | ⟨3, _⟩ => rfl
  · refine shapeCast_apply _ _ (ix4 b k h f) j ?_
    rw [Shape.rowMajor_val_three, Shape.rowMajor_val_four]
    show ((j 0).val * 8192 + (j 1).val) * 1024 + (j 2).val = ((b.val * 8192 + k.val) * 8 + h.val) * 128 + f.val
    rw [h0, h1, h2]
    omega

theorem index_1 : ∀ t : Fin cfg0.N, win0_1.index t = ![(grid0.coords t 0).val, (grid0.coords t 2).val, (grid0.coords t 1).val] :=
  (by decide +kernel : ∀ t : Fin grid0.N, _)

theorem index_2 : ∀ t : Fin cfg0.N, win0_2.index t = ![(grid0.coords t 0).val, 0, (grid0.coords t 1).val] :=
  (by decide +kernel : ∀ t : Fin grid0.N, _)

theorem index_3 : ∀ t : Fin cfg0.N, win0_3.index t = ![(grid0.coords t 0).val, (grid0.coords t 1).val, 0, 0] :=
  (by decide +kernel : ∀ t : Fin grid0.N, _)

theorem index_4 : ∀ t : Fin cfg0.N, win0_4.index t = ![0, 0] := (by decide +kernel : ∀ t : Fin grid0.N, _)

theorem index_5 : ∀ t : Fin cfg0.N, win0_5.index t = ![(grid0.coords t 0).val, (grid0.coords t 2).val, (grid0.coords t 1).val] :=
  (by decide +kernel : ∀ t : Fin grid0.N, _)

/-- The queries a point reads. -/
theorem query_block (t : Fin cfg0.N) (r : Fin 512) (d : Fin 128) (j : S2x8192x1024.Idx)
    (h0 : (j 0).val = (grid0.coords t 0).val) (h1 : (j 1).val = 512 * (grid0.coords t 2).val + r.val)
    (h2 : (j 2).val = (grid0.coords t 1).val * 128 + d.val) :
    iblk m c 1 t (ix3 0 r d) = m ((c : Thread nD τ).loc main_arg0) j := by
  blk_simp [iblk]
  rw [V_main_arg0]
  blk_ext [index_1 t]

/-- The keys a point reads. -/
theorem key_block (t : Fin cfg0.N) (k : Fin 8192) (d : Fin 128) (j : S2x8192x1024.Idx)
    (h0 : (j 0).val = (grid0.coords t 0).val) (h1 : (j 1).val = k.val)
    (h2 : (j 2).val = (grid0.coords t 1).val * 128 + d.val) :
    iblk m c 2 t (ix3 0 k d) = m ((c : Thread nD τ).loc main_arg1) j := by
  blk_simp [iblk]
  refine (keys_apply m c _).trans ?_
  blk_ext [index_2 t]

/-- The values a point reads. -/
theorem value_block (t : Fin cfg0.N) (f : Fin 128) (k : Fin 8192) (j : S2x8192x1024.Idx)
    (h0 : (j 0).val = (grid0.coords t 0).val) (h1 : (j 1).val = k.val)
    (h2 : (j 2).val = (grid0.coords t 1).val * 128 + f.val) :
    iblk m c 3 t (ix4 0 0 f k) = m ((c : Thread nD τ).loc main_arg2) j := by
  refine Eq.trans ?_ (values_apply m c (grid0.coords t 0) (grid0.coords t 1) f k j h0 h1 h2)
  blk_simp [iblk]
  blk_ext [index_3 t]

/-- The mixing weight a point reads. -/
theorem lam_block (t : Fin cfg0.N) (j : S1x1.Idx) : iblk m c 0 t j = m ((c : Thread nD τ).loc main_arg3) (ix1 0) := by
  refine Eq.trans ?_ (lam_apply m c)
  blk_simp [iblk]
  refine congrArg _ (funext fun a => ?_)
  match a with
  | ⟨0, _⟩ => exact Subsingleton.elim (α := Fin 1) _ _
  | ⟨1, _⟩ => exact Subsingleton.elim (α := Fin 1) _ _

/-- The gains a point reads. -/
theorem gain_block (t : Fin cfg0.N) (f : Fin 128) : iblk m c 4 t (ix2 f 0) = m ((c : Thread nD τ).loc main_arg4) (ix1 f) := by
  refine Eq.trans ?_ (gains_apply m c f)
  blk_simp [iblk]
  blk_ext [index_4 t]

end Cert.KernelIdeal.Blocks
-- ==== Proof.Result.lean ====
/-
  The kernel's result array is the reference's value of the arguments, where the values and the mixing weight are real.
-/
module

public import proofs.«01_k».proof.Proof.Agree
public import proofs.«01_k».proof.Proof.Blocks
public import proofs.«01_k».proof.Proof.Gen.KernelIdeal.Value

@[expose] public section

noncomputable section

namespace Cert.KernelIdeal.Result

open Cert.KernelIdeal Cert.KernelIdeal.Gen Cert.KernelIdeal.Blocks Cert.ReferenceIdeal.Heads
open Idealize.ShloMosaic Idealize.ShloMosaic.TcCoe Idealize.SL.Sem

variable (m : (ℓ : Loc nD τ sig) → Buf (Elt Ideal) ℓ) (c : Dev nD)

/-- The values the kernel is given. -/
abbrev vals : Vec Ideal S2x8192x1024 .f32 := m ((c : Thread nD τ).loc main_arg2)

/-- The mixing weight the kernel is given. -/
abbrev mix : Vec Ideal S1 .f32 := m ((c : Thread nD τ).loc main_arg3)

/-- The reference's value of the kernel's arguments. -/
def result : Vec Ideal S2x8192x1024 .f32 :=
  Cert.ReferenceIdeal.Read.val_main_v53 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The blocks of a point are those of its sequence and head. -/
theorem blocks (t : Fin cfg0.N) : Cert.Agree.Blocks (grid0.coords t) (grid0.coords t 0) (grid0.coords t 1)
    (mix m c (ix1 0)) (iblk m c 1 t) (iblk m c 2 t) (iblk m c 3 t) (iblk m c 4 t)
    (m ((c : Thread nD τ).loc main_arg0)) (m ((c : Thread nD τ).loc main_arg1))
    (m ((c : Thread nD τ).loc main_arg2)) (m ((c : Thread nD τ).loc main_arg3)) (m ((c : Thread nD τ).loc main_arg4)) where
  lam := rfl
  query r d p hp := query_block m c t r d _ rfl hp rfl
  key k d := key_block m c t k d _ rfl rfl rfl
  value f k := value_block m c t f k _ rfl rfl rfl
  gain f := gain_block m c t f

/-- One element of what a point writes. -/
theorem element_eq (t : Fin cfg0.N) (h2 : ∀ j, vals m c j = ↑(vals m c j).toReal) (h3 : ∀ j, mix m c j = ↑(mix m c j).toReal)
    (y : S1x512x128.Idx) :
    k0_pay1 (Block.final (grid0.coords t) (iblk m c 1 t) (iblk m c 2 t) (iblk m c 3 t)).num
      (Block.final (grid0.coords t) (iblk m c 1 t) (iblk m c 2 t) (iblk m c 3 t)).den
      (mix m c (ix1 0)) (iblk m c 4 t) y = result m c ((win0_5.blk t).view.emb y) := by
  have hi : (grid0.coords t 2).val < 16 := (grid0.coords t 2).isLt
  have hr : (y 1).val < 512 := (y 1).isLt
  have hy : y = ix3 0 (y 1) (y 2) := by
    funext a
    match a with
    | ⟨0, _⟩ => exact Subsingleton.elim (α := Fin 1) _ _
    | ⟨1, _⟩ => rfl
    | ⟨2, _⟩ => rfl
  have e := Cert.Agree.block_eq (blocks m c t) h2 (h3 _) (y 1) ⟨512 * (grid0.coords t 2).val + (y 1).val, by omega⟩ rfl (y 2)
  refine (congrArg _ hy).trans (e.trans ?_)
  refine congrArg (result m c) ?_
  have h0 : (y 0).val < 1 := (y 0).isLt
  blk_ext [index_5 t, headFeat]

/-- The result array after the last point. -/
theorem array_eq (h2 : ∀ j, vals m c j = ↑(vals m c j).toReal) (h3 : ∀ j, mix m c j = ↑(mix m c j).toReal) :
    (dats m 0 c).arrAt 5 cfg0.N = result m c := by
  refine (dats m 0 c).arrAt_eq_of_covers 5 (result m c) (by decide +kernel) fun t hf y => ?_
  blk_simp
  rw [after0_5]
  unfold outsAt0
  rw [Cert.KernelIdeal.Block.out_eq, lam_block]
  exact element_eq m c t h2 h3 y

end Cert.KernelIdeal.Result
-- ==== Proof.Finite.lean ====
/-
  What the precondition says: every value and the mixing weight are real numbers.
-/
module

public import proofs.«01_k».proof.Pre_finite_values
public import proofs.«01_k».proof.Proof.Online
public import Idealize.ShloMosaic.Lib.ReduceAll
public import Idealize.ShloMosaic.PureOps.Ideal

@[expose] public section

noncomputable section

namespace Cert.Finite

open Cert.Pre_finite_values Idealize.ShloMosaic

/-- The predicate's side conditions. -/
theorem facts : Cert.Pre_finite_values.Facts where
  bcast_S_S2x8192x1024 := by decide
  reducesTo_S2x8192x1024_S_d0_1_2 := by decide
  h_S_ := by decide
  bcast_S_S1 := by decide
  reducesTo_S1_S_d0 := by decide

/-- A number whose size is below infinity is real. -/
theorem real_of_abs_lt (x : EReal) (h : max x (-x) < ⊤) : x = ↑x.toReal := by
  have h1 : x ≠ ⊤ := fun e => by simp [e] at h
  have h2 : x ≠ ⊥ := fun e => by simp [e] at h
  exact (EReal.coe_toReal h1 h2).symm

/-- One comparison of the predicate, read back. -/
theorem real_of_compare (x : EReal) (h : Ideal.cmp .olt (max x (-x)) (Ideal.ofBits .f32 2139095040#32) = 1#1) : x = ↑x.toReal := by
  rw [Online.ofBits_inf] at h
  apply real_of_abs_lt
  by_contra hn
  simp [Ideal.cmp, hn] at h

variable [Cert.Pre_finite_values.Facts]

/-- The predicate gives real values and a real mixing weight. -/
theorem reals (x0 x1 x2 : FVec Ideal S2x8192x1024 .f32) (x3 : FVec Ideal S1 .f32) (x4 : FVec Ideal S128 .f32)
    (h : Cert.Pre_finite_values.fn (F := Ideal) x0 x1 x2 x3 x4 = fun _ => 1#1) :
    (∀ j, x2 j = ↑(x2 j).toReal) ∧ ∀ j, x3 j = ↑(x3 j).toReal := by
  have e := congrFun h fun a => a.elim0
  obtain ⟨e2, e3⟩ := IntOp.andi_eq_one.1 e
  have : Subsingleton S_.Idx := ⟨fun a b => funext fun i => i.elim0⟩
  exact ⟨fun j => real_of_compare _ (Host.reduce_andi_all _ _ _ _ _ e2 j),
    fun j => real_of_compare _ (Host.reduce_andi_all _ _ _ _ _ e3 j)⟩

end Cert.Finite
-- ==== Proof.Proj.lean ====
/-
  The product of a stack of rows with a matrix, over the extended reals: the stacked product and the product of the
  flattened rows, entry by entry, for every number of columns.
-/
module

public import Idealize.ShloMosaic.Lib.KernelVsHost
public import Idealize.ShloMosaic.Lib.StackMember
public import Idealize.ShloMosaic.Lib.Pointwise

@[expose] public section

noncomputable section

namespace Cert.Proj

open Idealize.ShloMosaic Idealize.ShloMosaic.StackMember
open Idealize.ShloMosaic.ValueIdx (contrEquiv1 contrEquiv1_symm_val)

variable {φ₁ φ₂ : FTy}

/-- An entry of the product of a stack of rows with a matrix. -/
theorem stack_apply {G T K N : Nat}
    (w : DotDims.WF ⟨3, ![G, T, K]⟩ ⟨2, ![K, N]⟩ ⟨3, ![G, T, N]⟩ [2] [0] [0, 1] [1] [] [])
    (prec : Option ContractPrecision) (A : FVec Ideal ⟨3, ![G, T, K]⟩ φ₁) (B : FVec Ideal ⟨2, ![K, N]⟩ φ₂)
    (g : Fin G) (t : Fin T) (n : Fin N) :
    Host.dotGeneral (⟨[2], [0], [0, 1], [1], [], [], w⟩ : DotDims _ _ _) prec A B (ix3 g t n)
      = ∑ c : Fin K, A (ix3 g t c) * B (ix2 c n) := by
  show FloatOps.dotGeneral _ prec _ A B (ix3 g t n) = _
  rw [Ideal.dotGeneral_apply,
    ← Equiv.sum_comp (contrEquiv1 (⟨[2], [0], [0, 1], [1], [], [], w⟩ : DotDims _ _ _) K rfl rfl).symm]
  refine Finset.sum_congr rfl fun c _ => ?_
  have hc := contrEquiv1_symm_val
    (⟨[2], [0], [0, 1], [1], [], [], w⟩ : DotDims ⟨3, ![G, T, K]⟩ ⟨2, ![K, N]⟩ ⟨3, ![G, T, N]⟩) K rfl rfl c
  congr 1
  · refine congrArg A (funext fun ax => Fin.ext ?_)
    match ax with
    | ⟨0, _⟩ => simp [DotDims.lhsIdx]; rfl
    | ⟨1, _⟩ => simp [DotDims.lhsIdx]; rfl
    | ⟨2, _⟩ => simp [DotDims.lhsIdx]; exact hc
  · refine congrArg B (funext fun ax => Fin.ext ?_)
    match ax with
    | ⟨0, _⟩ => simp [DotDims.rhsIdx]; exact hc
    | ⟨1, _⟩ => simp [DotDims.rhsIdx]; rfl

/-- An entry of a kernel's product of a block of rows with a matrix, accumulated into zero. -/
theorem rows_apply {M K N : Nat} (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (a : Fin M) (n : Fin N) :
    matmul (⟨[1], [0], [0], [1], [], [], w⟩ : DotDims _ _ _) prec A B (constant ⟨2, ![M, N]⟩ .f32 0x00000000#32) (ix2 a n)
      = ∑ c : Fin K, A (ix2 a c) * B (ix2 c n) := by
  rw [matmul_zero_eq_dotGeneral]
  exact dotGeneral_plain_apply prec A B a n

/-- Row `t` of sequence `g` among the flattened rows of `G` sequences of `T` rows. -/
def flat {G T M : Nat} (hM : G * T = M) (g : Fin G) (t : Fin T) : Fin M :=
  ⟨g.val * T + t.val, by
    rw [← hM]
    calc g.val * T + t.val < g.val * T + T := Nat.add_lt_add_left t.isLt _
      _ = (g.val + 1) * T := (Nat.succ_mul _ _).symm
      _ ≤ G * T := Nat.mul_le_mul_right T g.isLt⟩

/-- Flattened rows, read at a row of a sequence. -/
theorem flat_apply {α : Type} {G T M K : Nat} (hM : G * T = M) (X : (⟨3, ![G, T, K]⟩ : Shape).Idx → α)
    (h : (⟨3, ![G, T, K]⟩ : Shape).ShapeCasts ⟨2, ![M, K]⟩) (g : Fin G) (t : Fin T) (k : Fin K) :
    shapeCast ⟨2, ![M, K]⟩ X h (ix2 (flat hM g t) k) = X (ix3 g t k) := by
  refine shapeCast_apply X h (ix2 (flat hM g t) k) (ix3 g t k) ?_
  rw [Shape.rowMajor_val_three, Shape.rowMajor_val_two]
  show (g.val * T + t.val) * K + k.val = (g.val * T + t.val) * K + k.val
  with_reducible rfl

/-- The columns that are kept of a padded product, read at an entry. -/
theorem kept_apply {α : Type} {M N P : Nat} (hn : N ≤ P) (X : (⟨2, ![M, P]⟩ : Shape).Idx → α)
    (h : (⟨2, ![M, P]⟩ : Shape).Slices ![0, 0] ⟨2, ![M, N]⟩) (r : Fin M) (n : Fin N) :
    extractStridedSlice ⟨2, ![M, N]⟩ ![0, 0] X h (ix2 r n) = X (ix2 r (n.castLE hn)) := by
  refine extractStridedSlice_apply ![0, 0] X h (ix2 r n) (ix2 r (n.castLE hn)) fun a => ?_
  match a with
  | ⟨0, _⟩ => exact (Nat.zero_add _).symm
  | ⟨1, _⟩ => exact (Nat.zero_add _).symm

/-- Rows of products laid out by sequence are the stacked product, if each entry is the sum that it should be. -/
theorem stacked_eq {G T M K N : Nat} (hM : G * T = M) (X : FVec Ideal ⟨3, ![G, T, K]⟩ .f32) (W : FVec Ideal ⟨2, ![K, N]⟩ .f32)
    (w : DotDims.WF ⟨3, ![G, T, K]⟩ ⟨2, ![K, N]⟩ ⟨3, ![G, T, N]⟩ [2] [0] [0, 1] [1] [] [])
    (P : FVec Ideal ⟨2, ![M, N]⟩ .f32) (h : (⟨2, ![M, N]⟩ : Shape).ShapeCasts ⟨3, ![G, T, N]⟩)
    (hP : ∀ (g : Fin G) (t : Fin T) (n : Fin N), P (ix2 (flat hM g t) n) = ∑ c : Fin K, X (ix3 g t c) * W (ix2 c n)) :
    shapeCast ⟨3, ![G, T, N]⟩ P h = Host.dotGeneral (⟨[2], [0], [0, 1], [1], [], [], w⟩ : DotDims _ _ _) none X W := by
  funext i
  obtain ⟨g, t, n, rfl⟩ : ∃ g t n, i = ix3 g t n := ⟨i 0, i 1, i 2, by
    funext a
    match a with
    | ⟨0, _⟩ => rfl
    | ⟨1, _⟩ => rfl
    | ⟨2, _⟩ => rfl⟩
  rw [stack_apply, ← hP]
  refine shapeCast_apply P h (ix3 g t n) (ix2 (flat hM g t) n) ?_
  rw [Shape.rowMajor_val_three, Shape.rowMajor_val_two]
  show (g.val * T + t.val) * N + n.val = (g.val * T + t.val) * N + n.val
  with_reducible rfl

end Cert.Proj
-- ==== Proof.ProjDiff.lean ====
/-
  The input projection of the differential layer: the array that the kernel leaves is the product of the flattened rows with the weights, so its
  result is the stacked product.
-/
module

public import proofs.«01_k».proof.Proof.Proj
public import proofs.«01_k».proof.Proof.Gen.Kernel2Ideal.Frame
public import proofs.«01_k».proof.Proof.Gen.Reference2Ideal
public import Idealize.ShloMosaic.Lib.Pipeline.ValueKit
public import Idealize.ShloMosaic.Lib.Claim

@[expose] public section

noncomputable section

namespace Cert.Kernel2Ideal.Proj

open Cert.Kernel2Ideal Cert.Kernel2Ideal.Gen Cert.Proj Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := by decide

/-- What a grid point leaves: its rows times the weights. -/
theorem block_apply (x : Vec Ideal S512x1024 .f32) (w : Vec Ideal S1024x3072 .bf16) (r : Fin 512) (n : Fin 3072) :
    out0_2 x w (ix2 r n) = ∑ k : Fin 1024, x (ix2 r k) * w (ix2 k n) := by
  unfold out0_2
  rw [View.canon_unit_zero hz, View.ld_unit_zero hz, View.ld_unit_zero hz]
  unfold k0_pay1
  rw [shapeCast_self, shapeCast_self]
  exact rows_apply dot_S512x1024_S1024x3072_S512x3072_1_0_0_1_n_n_wf none _ _ r n

/-- The rows as the kernel's operand. -/
theorem rows_entry (g : Fin 2) (t : Fin 8192) (k : Fin 1024) :
    V m c main_v3 (ix2 (flat (T := 8192) rfl g t) k) = m ((c : Thread nD τ).loc main_arg0) (ix3 g t k) := by
  entry_read
  exact flat_apply rfl _ _ g t k

/-- The weights, padded on the right to whole blocks of columns. -/
def padded : Vec Ideal S1024x3072 .bf16 :=
  truncf (F := Ideal) .bf16 (pad S1024x3072 ![0, 0] ![0, 0] ![0, 0] (m ((c : Thread nD τ).loc main_arg1))
    (sitofp (F := Ideal) .f32 (constantI S_ 32 0#32)) pads_S1024x3072_S1024x3072_000_000 h_S_) bitsLt_bf16_f32

/-- The weights as the kernel's operand. -/
theorem weights_eq : V m c main_v5 = padded m c := by
  show V0 m c (Proc.devRef .tc main_v5) = _
  simp only [V0, hostOps0, hostOps0_1, hostOps0_2, StableHlo.TRef.binary, StableHlo.TRef.unary, StableHlo.TRef.toBuf, StableHlo.TRef.ofBuf,
    cast_eq, List.flatten_cons, List.flatten_nil, List.append_nil, List.cons_append, List.nil_append]
  after_results <;> rfl

theorem weights_entry (k : Fin 1024) (n : Fin 3072) :
    V m c main_v5 (ix2 k n) = m ((c : Thread nD τ).loc main_arg1) (ix2 k n) := by
  rw [weights_eq]
  refine pad_apply_of_inside (t := S1024x3072) ![0, 0] ![0, 0] ![0, 0] _ _ pads_S1024x3072_S1024x3072_000_000 h_S_ (ix2 k n) (ix2 k n) fun a => ?_
  match a with
  | ⟨0, _⟩ => simp
  | ⟨1, _⟩ => simp

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0] := (by decide +kernel : ∀ t : Fin grid0.N, _)

/-- The rows the kernel is given, flattened. -/
abbrev rows : Vec Ideal S16384x1024 .f32 := V m c main_v3

/-- The weights the kernel is given. -/
abbrev weights : Vec Ideal S1024x3072 .bf16 := V m c main_v5

/-- The product of the kernel's two operands. -/
def whole : Vec Ideal S16384x3072 .f32 := fun i => ∑ k : Fin 1024, rows m c (ix2 (i 0) k) * weights m c (ix2 k (i 1))

/-- The array after the last point. -/
theorem array_eq : (dats m 0 c).arrAt 2 cfg0.N = whole m c := by
  refine (dats m 0 c).arrAt_eq_of_covers 2 (whole m c) (by decide +kernel) fun t hf y => ?_
  blk_simp
  rw [after0_2]
  obtain ⟨r, n, rfl⟩ : ∃ r n, y = ix2 r n := ⟨y 0, y 1, by
    funext a
    match a with
    | ⟨0, _⟩ => rfl
    | ⟨1, _⟩ => rfl⟩
  refine (block_apply _ _ r n).trans (Finset.sum_congr rfl fun k _ => ?_)
  congr 1
  · blk_simp [iblk]
    blk_ext [index_0 t, index_2 t]
  · blk_simp [iblk]
    blk_ext [index_1 t, index_2 t]

/-- The result of the projection is the stacked product. -/
theorem result_eq : shapeCast S2x8192x3072 ((dats m 0 c).arrAt 2 cfg0.N) shapeCasts_S16384x3072_S2x8192x3072
    = Host.dotGeneral (F := Ideal) (φ₁ := .f32) (φ₂ := .f32) Cert.Reference2Ideal.dot_S2x8192x1024_S1024x3072_S2x8192x3072_2_0_01_1_n_n none
        (m ((c : Thread nD τ).loc main_arg0)) (m ((c : Thread nD τ).loc main_arg1)) := by
  rw [array_eq]
  refine stacked_eq rfl _ _ _ _ _ fun g t n => Finset.sum_congr rfl fun k _ => ?_
  congr 1
  · exact rows_entry m c g t k
  · exact weights_entry m c k n

end Cert.Kernel2Ideal.Proj
-- ==== Proof.DiffRows.lean ====
/-
  The input projection of the differential layer: from the product on, the kernel's program and the reference do the same operations, so the
  queries and the rows that they end with are the same.
-/
module

public import proofs.«01_k».proof.Defs
public import proofs.«01_k».proof.Proof.ProjDiff
public import proofs.«01_k».proof.Proof.Gen.Kernel2Ideal.Run
public import proofs.«01_k».proof.Proof.Gen.Reference2Ideal.Run

@[expose] public section

noncomputable section

namespace Cert.Kernel2Ideal.Proj

open Cert.Kernel2Ideal Cert.Kernel2Ideal.Value Idealize.ShloMosaic Idealize.ShloMosaic.TcCoe Idealize.SL.Sem

variable (m : (ℓ : Loc nD τ sig) → Buf (Elt Ideal) ℓ) (c : Dev nD)

/-- What the operations after the kernel start from is the stacked product. -/
theorem start_eq : res_main_v7 (exitV m c)
    = Host.dotGeneral (F := Ideal) (φ₁ := .f32) (φ₂ := .f32) Cert.Reference2Ideal.dot_S2x8192x1024_S1024x3072_S2x8192x3072_2_0_01_1_n_n none
        (m ((c : Thread nD τ).loc main_arg0)) (m ((c : Thread nD τ).loc main_arg1)) := by
  unfold res_main_v7
  rw [exit_main_v6]
  exact result_eq m c

set_option maxRecDepth 16384 in
set_option maxHeartbeats 4000000 in
/-- The two programs end with the same queries and the same rows. -/
theorem agree : Cert.algebraic_Kernel2Ideal_Reference2Ideal := by
  intro m ρ m' ρ' _ hargs
  refine ⟨fun c => Cert.Reference2Ideal.Value.res_main_v38 (F := Ideal) m' c,
    fun c => Cert.Reference2Ideal.Value.res_main_v79 (F := Ideal) m' c, ?_, Cert.Reference2Ideal.Value.run (F := Ideal) m' ρ'⟩
  refine (θ_run _ _ _).mono (fun r h c => ⟨(h c).1.trans ?_, (h c).2.1.trans ?_, (h c).2.2⟩)
    (Cert.Kernel2Ideal.Value.run (F := Ideal) m ρ)
  · obtain ⟨e0, e1⟩ := hargs c
    beta_reduce
    unfold Cert.Reference2Ideal.Value.res_main_v38 res_main_v26 res_main_v27 res_main_v23 res_main_v25 res_main_v21 res_main_v9
    rw [start_eq, exit_main_v2, e0, e1]
    rfl
  · obtain ⟨e0, e1⟩ := hargs c
    beta_reduce
    unfold Cert.Reference2Ideal.Value.res_main_v79 res_main_v61 res_main_v62 res_main_v58 res_main_v60 res_main_v56 res_main_v44
    rw [start_eq, exit_main_v2, e0, e1]
    rfl

end Cert.Kernel2Ideal.Proj

end
-- ==== Proof.ProjNsa.lean ====
/-
  The input projection of the sparse layer: the array that the kernel leaves is the product of the flattened rows with the weights, so its
  result is the stacked product.
-/
module

public import proofs.«01_k».proof.Proof.Proj
public import proofs.«01_k».proof.Proof.Gen.Kernel3Ideal.Frame
public import proofs.«01_k».proof.Proof.Gen.Reference3Ideal
public import Idealize.ShloMosaic.Lib.Pipeline.ValueKit
public import Idealize.ShloMosaic.Lib.Claim

@[expose] public section

noncomputable section

namespace Cert.Kernel3Ideal.Proj

open Cert.Kernel3Ideal Cert.Kernel3Ideal.Gen Cert.Proj Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := by decide

/-- What a grid point leaves: its rows times the weights. -/
theorem block_apply (x : Vec Ideal S512x1024 .f32) (w : Vec Ideal S1024x2816 .bf16) (r : Fin 512) (n : Fin 2816) :
    out0_2 x w (ix2 r n) = ∑ k : Fin 1024, x (ix2 r k) * w (ix2 k n) := by
  unfold out0_2
  rw [View.canon_unit_zero hz, View.ld_unit_zero hz, View.ld_unit_zero hz]
  unfold k0_pay1
  rw [shapeCast_self, shapeCast_self]
  exact rows_apply dot_S512x1024_S1024x2816_S512x2816_1_0_0_1_n_n_wf none _ _ r n

/-- The rows as the kernel's operand. -/
theorem rows_entry (g : Fin 2) (t : Fin 8192) (k : Fin 1024) :
    V m c main_v3 (ix2 (flat (T := 8192) rfl g t) k) = m ((c : Thread nD τ).loc main_arg0) (ix3 g t k) := by
  entry_read
  exact flat_apply rfl _ _ g t k

/-- The weights, padded on the right to whole blocks of columns. -/
def padded : Vec Ideal S1024x2816 .bf16 :=
  truncf (F := Ideal) .bf16 (pad S1024x2816 ![0, 0] ![0, 232] ![0, 0] (m ((c : Thread nD τ).loc main_arg1))
    (sitofp (F := Ideal) .f32 (constantI S_ 32 0#32)) pads_S1024x2584_S1024x2816_000_02320 h_S_) bitsLt_bf16_f32

/-- The weights as the kernel's operand. -/
theorem weights_eq : V m c main_v5 = padded m c := by
  show V0 m c (Proc.devRef .tc main_v5) = _
  simp only [V0, hostOps0, hostOps0_1, hostOps0_2, StableHlo.TRef.binary, StableHlo.TRef.unary, StableHlo.TRef.toBuf, StableHlo.TRef.ofBuf,
    cast_eq, List.flatten_cons, List.flatten_nil, List.append_nil, List.cons_append, List.nil_append]
  after_results <;> rfl

theorem weights_entry (k : Fin 1024) (n : Fin 2584) :
    V m c main_v5 (ix2 k (n.castLE (by decide) : Fin 2816)) = m ((c : Thread nD τ).loc main_arg1) (ix2 k n) := by
  rw [weights_eq]
  refine pad_apply_of_inside (t := S1024x2816) ![0, 0] ![0, 232] ![0, 0] _ _ pads_S1024x2584_S1024x2816_000_02320 h_S_ (ix2 k (n.castLE (by decide))) (ix2 k n) fun a => ?_
  match a with
  | ⟨0, _⟩ => simp
  | ⟨1, _⟩ => simp

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0] := (by decide +kernel : ∀ t : Fin grid0.N, _)

/-- The rows the kernel is given, flattened. -/
abbrev rows : Vec Ideal S16384x1024 .f32 := V m c main_v3

/-- The weights the kernel is given. -/
abbrev weights : Vec Ideal S1024x2816 .bf16 := V m c main_v5

/-- The product of the kernel's two operands. -/
def whole : Vec Ideal S16384x2816 .f32 := fun i => ∑ k : Fin 1024, rows m c (ix2 (i 0) k) * weights m c (ix2 k (i 1))

/-- The array after the last point. -/
theorem array_eq : (dats m 0 c).arrAt 2 cfg0.N = whole m c := by
  refine (dats m 0 c).arrAt_eq_of_covers 2 (whole m c) (by decide +kernel) fun t hf y => ?_
  blk_simp
  rw [after0_2]
  obtain ⟨r, n, rfl⟩ : ∃ r n, y = ix2 r n := ⟨y 0, y 1, by
    funext a
    match a with
    | ⟨0, _⟩ => rfl
    | ⟨1, _⟩ => rfl⟩
  refine (block_apply _ _ r n).trans (Finset.sum_congr rfl fun k _ => ?_)
  congr 1
  · blk_simp [iblk]
    blk_ext [index_0 t, index_2 t]
  · blk_simp [iblk]
    blk_ext [index_1 t, index_2 t]

/-- The result of the projection is the stacked product. -/
theorem result_eq : shapeCast S2x8192x2584 (extractStridedSlice S16384x2584 ![0, 0] ((dats m 0 c).arrAt 2 cfg0.N)
      slices_S16384x2816_S16384x2584_0_0) shapeCasts_S16384x2584_S2x8192x2584
    = Host.dotGeneral (F := Ideal) (φ₁ := .f32) (φ₂ := .f32) Cert.Reference3Ideal.dot_S2x8192x1024_S1024x2584_S2x8192x2584_2_0_01_1_n_n none
        (m ((c : Thread nD τ).loc main_arg0)) (m ((c : Thread nD τ).loc main_arg1)) := by
  rw [array_eq]
  refine stacked_eq rfl _ _ _ _ _ fun g t n => ?_
  rw [kept_apply (N := 2584) (P := 2816) (by decide)]
  refine Finset.sum_congr rfl fun k _ => ?_
  congr 1
  · exact rows_entry m c g t k
  · exact weights_entry m c k n

end Cert.Kernel3Ideal.Proj
-- ==== Proof.NsaRows.lean ====
/-
  The input projection of the sparse layer: from the product on, the kernel's program and the reference do the same operations, so the
  queries, the gates, the rows and the window that they end with are the same.
-/
module

public import proofs.«01_k».proof.Defs
public import proofs.«01_k».proof.Proof.ProjNsa
public import proofs.«01_k».proof.Proof.Gen.Kernel3Ideal.Run
public import proofs.«01_k».proof.Proof.Gen.Reference3Ideal.Run

@[expose] public section

noncomputable section

namespace Cert.Kernel3Ideal.Proj

open Cert.Kernel3Ideal Cert.Kernel3Ideal.Value Idealize.ShloMosaic Idealize.ShloMosaic.TcCoe Idealize.SL.Sem

variable (m : (ℓ : Loc nD τ sig) → Buf (Elt Ideal) ℓ) (c : Dev nD)

/-- What the operations after the kernel start from is the stacked product. -/
theorem start_eq : res_main_v8 (exitV m c)
    = Host.dotGeneral (F := Ideal) (φ₁ := .f32) (φ₂ := .f32) Cert.Reference3Ideal.dot_S2x8192x1024_S1024x2584_S2x8192x2584_2_0_01_1_n_n none
        (m ((c : Thread nD τ).loc main_arg0)) (m ((c : Thread nD τ).loc main_arg1)) := by
  unfold res_main_v8
  rw [exit_main_v6]
  exact result_eq m c

set_option maxRecDepth 16384 in
set_option maxHeartbeats 4000000 in
/-- The two programs end with the same queries, gates, rows and window. -/
theorem agree : Cert.algebraic_Kernel3Ideal_Reference3Ideal := by
  intro m ρ m' ρ' _ hargs
  refine ⟨fun c => Cert.Reference3Ideal.Value.res_main_v38 (F := Ideal) m' c, _,
    fun c => Cert.Reference3Ideal.Value.res_main_v107 (F := Ideal) m' c,
    fun c => Cert.Reference3Ideal.Value.res_main_v108 (F := Ideal) m' c, ?_, Cert.Reference3Ideal.Value.run (F := Ideal) m' ρ'⟩
  refine (θ_run _ _ _).mono (fun r h c => ⟨(h c).1.trans ?_, (h c).2.1.trans ?_, (h c).2.2.1.trans ?_, (h c).2.2.2.1.trans ?_,
    (h c).2.2.2.2⟩) (Cert.Kernel3Ideal.Value.run (F := Ideal) m ρ)
  · obtain ⟨e0, e1⟩ := hargs c
    beta_reduce
    unfold Cert.Reference3Ideal.Value.res_main_v38 res_main_v27 res_main_v28 res_main_v24 res_main_v26 res_main_v22 res_main_v10
    rw [start_eq, exit_main_v2, e0, e1]
    rfl
  · obtain ⟨e0, e1⟩ := hargs c
    beta_reduce
    rw [start_eq, e0, e1]
  · obtain ⟨e0, e1⟩ := hargs c
    beta_reduce
    unfold Cert.Reference3Ideal.Value.res_main_v107 res_main_v108 res_main_v89 res_main_v73 res_main_v72 res_main_v69 res_main_v71
      res_main_v67 res_main_v55 res_main_v45
    rw [start_eq, exit_main_v2, e0, e1]
    rfl
  · obtain ⟨e0, e1⟩ := hargs c
    beta_reduce
    unfold Cert.Reference3Ideal.Value.res_main_v108 res_main_v108 res_main_v89 res_main_v73 res_main_v72 res_main_v69 res_main_v71
      res_main_v67 res_main_v55 res_main_v45
    rw [start_eq, exit_main_v2, e0, e1]
    rfl

end Cert.Kernel3Ideal.Proj

end
-- ==== Proof.ProjOut.lean ====
/-
  The output projection: the array that the kernel leaves is the product of the flattened rows with the weights, so its
  result is the stacked product.
-/
module

public import proofs.«01_k».proof.Proof.Proj
public import proofs.«01_k».proof.Proof.Gen.Kernel4Ideal.Frame
public import proofs.«01_k».proof.Proof.Gen.Reference4Ideal
public import Idealize.ShloMosaic.Lib.Pipeline.ValueKit
public import Idealize.ShloMosaic.Lib.Claim

@[expose] public section

noncomputable section

namespace Cert.Kernel4Ideal.Proj

open Cert.Kernel4Ideal Cert.Kernel4Ideal.Gen Cert.Proj Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := by decide

/-- What a grid point leaves: its rows times the weights. -/
theorem block_apply (x : Vec Ideal S512x1024 .f32) (w : Vec Ideal S1024x1024 .bf16) (r : Fin 512) (n : Fin 1024) :
    out0_2 x w (ix2 r n) = ∑ k : Fin 1024, x (ix2 r k) * w (ix2 k n) := by
  unfold out0_2
  rw [View.canon_unit_zero hz, View.ld_unit_zero hz, View.ld_unit_zero hz]
  unfold k0_pay1
  rw [shapeCast_self, shapeCast_self]
  exact rows_apply dot_S512x1024_S1024x1024_S512x1024_1_0_0_1_n_n_wf none _ _ r n

/-- The rows as the kernel's operand. -/
theorem rows_entry (g : Fin 2) (t : Fin 8192) (k : Fin 1024) :
    V m c main_v0 (ix2 (flat (T := 8192) rfl g t) k) = m ((c : Thread nD τ).loc main_arg0) (ix3 g t k) := by
  entry_read
  exact flat_apply rfl _ _ g t k

/-- The weights, padded on the right to whole blocks of columns. -/
def padded : Vec Ideal S1024x1024 .bf16 :=
  truncf (F := Ideal) .bf16 (pad S1024x1024 ![0, 0] ![0, 0] ![0, 0] (m ((c : Thread nD τ).loc main_arg1))
    (sitofp (F := Ideal) .f32 (constantI S_ 32 0#32)) pads_S1024x1024_S1024x1024_000_000 h_S_) bitsLt_bf16_f32

/-- The weights as the kernel's operand. -/
theorem weights_eq : V m c main_v2 = padded m c := by
  show V0 m c (Proc.devRef .tc main_v2) = _
  simp only [V0, hostOps0, hostOps0_1, hostOps0_2, StableHlo.TRef.binary, StableHlo.TRef.unary, StableHlo.TRef.toBuf, StableHlo.TRef.ofBuf,
    cast_eq, List.flatten_cons, List.flatten_nil, List.append_nil, List.cons_append, List.nil_append]
  after_results <;> rfl

theorem weights_entry (k : Fin 1024) (n : Fin 1024) :
    V m c main_v2 (ix2 k n) = m ((c : Thread nD τ).loc main_arg1) (ix2 k n) := by
  rw [weights_eq]
  refine pad_apply_of_inside (t := S1024x1024) ![0, 0] ![0, 0] ![0, 0] _ _ pads_S1024x1024_S1024x1024_000_000 h_S_ (ix2 k n) (ix2 k n) fun a => ?_
  match a with
  | ⟨0, _⟩ => simp
  | ⟨1, _⟩ => simp

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0] := (by decide +kernel : ∀ t : Fin grid0.N, _)

/-- The rows the kernel is given, flattened. -/
abbrev rows : Vec Ideal S16384x1024 .f32 := V m c main_v0

/-- The weights the kernel is given. -/
abbrev weights : Vec Ideal S1024x1024 .bf16 := V m c main_v2

/-- The product of the kernel's two operands. -/
def whole : Vec Ideal S16384x1024 .f32 := fun i => ∑ k : Fin 1024, rows m c (ix2 (i 0) k) * weights m c (ix2 k (i 1))

/-- The array after the last point. -/
theorem array_eq : (dats m 0 c).arrAt 2 cfg0.N = whole m c := by
  refine (dats m 0 c).arrAt_eq_of_covers 2 (whole m c) (by decide +kernel) fun t hf y => ?_
  blk_simp
  rw [after0_2]
  obtain ⟨r, n, rfl⟩ : ∃ r n, y = ix2 r n := ⟨y 0, y 1, by
    funext a
    match a with
    | ⟨0, _⟩ => rfl
    | ⟨1, _⟩ => rfl⟩
  refine (block_apply _ _ r n).trans (Finset.sum_congr rfl fun k _ => ?_)
  congr 1
  · blk_simp [iblk]
    blk_ext [index_0 t, index_2 t]
  · blk_simp [iblk]
    blk_ext [index_1 t, index_2 t]

/-- The result of the projection is the stacked product. -/
theorem result_eq : shapeCast S2x8192x1024 ((dats m 0 c).arrAt 2 cfg0.N) shapeCasts_S16384x1024_S2x8192x1024
    = Host.dotGeneral (F := Ideal) (φ₁ := .f32) (φ₂ := .f32) Cert.Reference4Ideal.dot_S2x8192x1024_S1024x1024_S2x8192x1024_2_0_01_1_n_n none
        (m ((c : Thread nD τ).loc main_arg0)) (m ((c : Thread nD τ).loc main_arg1)) := by
  rw [array_eq]
  refine stacked_eq rfl _ _ _ _ _ fun g t n => Finset.sum_congr rfl fun k _ => ?_
  congr 1
  · exact rows_entry m c g t k
  · exact weights_entry m c k n

end Cert.Kernel4Ideal.Proj
-- ==== Proof.OutRows.lean ====
/-
  The output projection: the kernel's program and the reference end with the same product.
-/
module

public import proofs.«01_k».proof.Defs
public import proofs.«01_k».proof.Proof.ProjOut
public import proofs.«01_k».proof.Proof.Gen.Kernel4Ideal.Run
public import proofs.«01_k».proof.Proof.Gen.Reference4Ideal.Run

@[expose] public section

noncomputable section

namespace Cert.Kernel4Ideal.Proj

open Cert.Kernel4Ideal Cert.Kernel4Ideal.Value Idealize.ShloMosaic Idealize.ShloMosaic.TcCoe Idealize.SL.Sem

/-- The two programs end with the same product. -/
theorem agree : Cert.algebraic_Kernel4Ideal_Reference4Ideal := by
  intro m ρ m' ρ' _ hargs
  refine ⟨_, (θ_run _ _ _).mono (fun r h c => ⟨(h c).1.trans (result_eq m c), (h c).2⟩)
    (Cert.Kernel4Ideal.Value.run (F := Ideal) m ρ), ?_⟩
  refine (θ_run _ _ _).mono (fun r h c => ⟨(h c).1.trans ?_, (h c).2⟩) (Cert.Reference4Ideal.Value.run (F := Ideal) m' ρ')
  obtain ⟨e0, e1⟩ := hargs c
  rw [e0, e1]

end Cert.Kernel4Ideal.Proj

end
-- ==== Proof.SampleDiff.lean ====
/-
  The input projection of the differential layer at the sample group: the array that the kernel leaves is the product of the flattened rows with the weights, so its
  result is the stacked product.
-/
module

public import proofs.«01_k».proof.Proof.Proj
public import proofs.«01_k».proof.Proof.Gen.Kernel5Ideal.Frame
public import proofs.«01_k».proof.Proof.Gen.Reference5Ideal
public import Idealize.ShloMosaic.Lib.Pipeline.ValueKit
public import Idealize.ShloMosaic.Lib.Claim

@[expose] public section

noncomputable section

namespace Cert.Kernel5Ideal.Proj

open Cert.Kernel5Ideal Cert.Kernel5Ideal.Gen Cert.Proj Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := by decide

/-- What a grid point leaves: its rows times the weights. -/
theorem block_apply (x : Vec Ideal S512x1024 .f32) (w : Vec Ideal S1024x3072 .bf16) (r : Fin 512) (n : Fin 3072) :
    out0_2 x w (ix2 r n) = ∑ k : Fin 1024, x (ix2 r k) * w (ix2 k n) := by
  unfold out0_2
  rw [View.canon_unit_zero hz, View.ld_unit_zero hz, View.ld_unit_zero hz]
  unfold k0_pay1
  rw [shapeCast_self, shapeCast_self]
  exact rows_apply dot_S512x1024_S1024x3072_S512x3072_1_0_0_1_n_n_wf none _ _ r n

/-- The rows as the kernel's operand. -/
theorem rows_entry (g : Fin 128) (t : Fin 8) (k : Fin 1024) :
    V m c main_v3 (ix2 (flat (T := 8) rfl g t) k) = m ((c : Thread nD τ).loc main_arg0) (ix3 g t k) := by
  entry_read
  exact flat_apply rfl _ _ g t k

/-- The weights, padded on the right to whole blocks of columns. -/
def padded : Vec Ideal S1024x3072 .bf16 :=
  truncf (F := Ideal) .bf16 (pad S1024x3072 ![0, 0] ![0, 0] ![0, 0] (m ((c : Thread nD τ).loc main_arg1))
    (sitofp (F := Ideal) .f32 (constantI S_ 32 0#32)) pads_S1024x3072_S1024x3072_000_000 h_S_) bitsLt_bf16_f32

/-- The weights as the kernel's operand. -/
theorem weights_eq : V m c main_v5 = padded m c := by
  show V0 m c (Proc.devRef .tc main_v5) = _
  simp only [V0, hostOps0, hostOps0_1, hostOps0_2, StableHlo.TRef.binary, StableHlo.TRef.unary, StableHlo.TRef.toBuf, StableHlo.TRef.ofBuf,
    cast_eq, List.flatten_cons, List.flatten_nil, List.append_nil, List.cons_append, List.nil_append]
  after_results <;> rfl

theorem weights_entry (k : Fin 1024) (n : Fin 3072) :
    V m c main_v5 (ix2 k n) = m ((c : Thread nD τ).loc main_arg1) (ix2 k n) := by
  rw [weights_eq]
  refine pad_apply_of_inside (t := S1024x3072) ![0, 0] ![0, 0] ![0, 0] _ _ pads_S1024x3072_S1024x3072_000_000 h_S_ (ix2 k n) (ix2 k n) fun a => ?_
  match a with
  | ⟨0, _⟩ => simp
  | ⟨1, _⟩ => simp

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0] := (by decide +kernel : ∀ t : Fin grid0.N, _)

/-- The rows the kernel is given, flattened. -/
abbrev rows : Vec Ideal S1024x1024 .f32 := V m c main_v3

/-- The weights the kernel is given. -/
abbrev weights : Vec Ideal S1024x3072 .bf16 := V m c main_v5

/-- The product of the kernel's two operands. -/
def whole : Vec Ideal S1024x3072 .f32 := fun i => ∑ k : Fin 1024, rows m c (ix2 (i 0) k) * weights m c (ix2 k (i 1))

/-- The array after the last point. -/
theorem array_eq : (dats m 0 c).arrAt 2 cfg0.N = whole m c := by
  refine (dats m 0 c).arrAt_eq_of_covers 2 (whole m c) (by decide +kernel) fun t hf y => ?_
  blk_simp
  rw [after0_2]
  obtain ⟨r, n, rfl⟩ : ∃ r n, y = ix2 r n := ⟨y 0, y 1, by
    funext a
    match a with
    | ⟨0, _⟩ => rfl
    | ⟨1, _⟩ => rfl⟩
  refine (block_apply _ _ r n).trans (Finset.sum_congr rfl fun k _ => ?_)
  congr 1
  · blk_simp [iblk]
    blk_ext [index_0 t, index_2 t]
  · blk_simp [iblk]
    blk_ext [index_1 t, index_2 t]

/-- The result of the projection is the stacked product. -/
theorem result_eq : shapeCast S128x8x3072 ((dats m 0 c).arrAt 2 cfg0.N) shapeCasts_S1024x3072_S128x8x3072
    = Host.dotGeneral (F := Ideal) (φ₁ := .f32) (φ₂ := .f32) Cert.Reference5Ideal.dot_S128x8x1024_S1024x3072_S128x8x3072_2_0_01_1_n_n none
        (m ((c : Thread nD τ).loc main_arg0)) (m ((c : Thread nD τ).loc main_arg1)) := by
  rw [array_eq]
  refine stacked_eq rfl _ _ _ _ _ fun g t n => Finset.sum_congr rfl fun k _ => ?_
  congr 1
  · exact rows_entry m c g t k
  · exact weights_entry m c k n

end Cert.Kernel5Ideal.Proj
-- ==== Proof.SampleDiffRows.lean ====
/-
  The input projection of the differential layer at the sample group: from the product on, the kernel's program and the reference do the same operations, so the
  queries and the rows that they end with are the same.
-/
module

public import proofs.«01_k».proof.Defs
public import proofs.«01_k».proof.Proof.SampleDiff
public import proofs.«01_k».proof.Proof.Gen.Kernel5Ideal.Run
public import proofs.«01_k».proof.Proof.Gen.Reference5Ideal.Run

@[expose] public section

noncomputable section

namespace Cert.Kernel5Ideal.Proj

open Cert.Kernel5Ideal Cert.Kernel5Ideal.Value Idealize.ShloMosaic Idealize.ShloMosaic.TcCoe Idealize.SL.Sem

variable (m : (ℓ : Loc nD τ sig) → Buf (Elt Ideal) ℓ) (c : Dev nD)

/-- What the operations after the kernel start from is the stacked product. -/
theorem start_eq : res_main_v7 (exitV m c)
    = Host.dotGeneral (F := Ideal) (φ₁ := .f32) (φ₂ := .f32) Cert.Reference5Ideal.dot_S128x8x1024_S1024x3072_S128x8x3072_2_0_01_1_n_n none
        (m ((c : Thread nD τ).loc main_arg0)) (m ((c : Thread nD τ).loc main_arg1)) := by
  unfold res_main_v7
  rw [exit_main_v6]
  exact result_eq m c

set_option maxRecDepth 16384 in
set_option maxHeartbeats 4000000 in
/-- The two programs end with the same queries and the same rows. -/
theorem agree : Cert.algebraic_Kernel5Ideal_Reference5Ideal := by
  intro m ρ m' ρ' _ hargs
  refine ⟨fun c => Cert.Reference5Ideal.Value.res_main_v38 (F := Ideal) m' c,
    fun c => Cert.Reference5Ideal.Value.res_main_v79 (F := Ideal) m' c, ?_, Cert.Reference5Ideal.Value.run (F := Ideal) m' ρ'⟩
  refine (θ_run _ _ _).mono (fun r h c => ⟨(h c).1.trans ?_, (h c).2.1.trans ?_, (h c).2.2⟩)
    (Cert.Kernel5Ideal.Value.run (F := Ideal) m ρ)
  · obtain ⟨e0, e1⟩ := hargs c
    beta_reduce
    unfold Cert.Reference5Ideal.Value.res_main_v38 res_main_v26 res_main_v27 res_main_v23 res_main_v25 res_main_v21 res_main_v9
    rw [start_eq, exit_main_v2, e0, e1]
    rfl
  · obtain ⟨e0, e1⟩ := hargs c
    beta_reduce
    unfold Cert.Reference5Ideal.Value.res_main_v79 res_main_v61 res_main_v62 res_main_v58 res_main_v60 res_main_v56 res_main_v44
    rw [start_eq, exit_main_v2, e0, e1]
    rfl

end Cert.Kernel5Ideal.Proj

end
-- ==== Proof.SampleNsa.lean ====
/-
  The input projection of the sparse layer at the sample group: the array that the kernel leaves is the product of the flattened rows with the weights, so its
  result is the stacked product.
-/
module

public import proofs.«01_k».proof.Proof.Proj
public import proofs.«01_k».proof.Proof.Gen.Kernel6Ideal.Frame
public import proofs.«01_k».proof.Proof.Gen.Reference6Ideal
public import Idealize.ShloMosaic.Lib.Pipeline.ValueKit
public import Idealize.ShloMosaic.Lib.Claim

@[expose] public section

noncomputable section

namespace Cert.Kernel6Ideal.Proj

open Cert.Kernel6Ideal Cert.Kernel6Ideal.Gen Cert.Proj Idealize.ShloMosaic Idealize.ShloMosaic.TcCoe Idealize.SL.Sem

variable (m : (ℓ : Loc nD τ sig) → Buf (Elt Ideal) ℓ) (c : Dev nD)

theorem hz : (![0, 0] : Fin 2 → Nat) = fun _ => 0 := by decide

/-- What a grid point leaves: its rows times the weights. -/
theorem block_apply (x : Vec Ideal S512x1024 .f32) (w : Vec Ideal S1024x2816 .bf16) (r : Fin 512) (n : Fin 2816) :
    out0_2 x w (ix2 r n) = ∑ k : Fin 1024, x (ix2 r k) * w (ix2 k n) := by
  unfold out0_2
  rw [View.canon_unit_zero hz, View.ld_unit_zero hz, View.ld_unit_zero hz]
  unfold k0_pay1
  rw [shapeCast_self, shapeCast_self]
  exact rows_apply dot_S512x1024_S1024x2816_S512x2816_1_0_0_1_n_n_wf none _ _ r n

/-- The rows as the kernel's operand. -/
theorem rows_entry (g : Fin 128) (t : Fin 8) (k : Fin 1024) :
    V m c main_v4 (ix2 (flat (T := 8) rfl g t) k) = m ((c : Thread nD τ).loc main_arg0) (ix3 g t k) := by
  entry_read
  exact flat_apply rfl _ _ g t k

/-- The weights, padded on the right to whole blocks of columns. -/
def padded : Vec Ideal S1024x2816 .bf16 :=
  truncf (F := Ideal) .bf16 (pad S1024x2816 ![0, 0] ![0, 232] ![0, 0] (m ((c : Thread nD τ).loc main_arg2))
    (sitofp (F := Ideal) .f32 (constantI S_ 32 0#32)) pads_S1024x2584_S1024x2816_000_02320 h_S_) bitsLt_bf16_f32

/-- The weights as the kernel's operand. -/
theorem weights_eq : V m c main_v6 = padded m c := by
  show V0 m c (Proc.devRef .tc main_v6) = _
  simp only [V0, hostOps0, hostOps0_1, hostOps0_2, StableHlo.TRef.binary, StableHlo.TRef.unary, StableHlo.TRef.toBuf, StableHlo.TRef.ofBuf,
    cast_eq, List.flatten_cons, List.flatten_nil, List.append_nil, List.cons_append, List.nil_append]
  after_results <;> rfl

theorem weights_entry (k : Fin 1024) (n : Fin 2584) :
    V m c main_v6 (ix2 k (n.castLE (by decide) : Fin 2816)) = m ((c : Thread nD τ).loc main_arg2) (ix2 k n) := by
  rw [weights_eq]
  refine pad_apply_of_inside (t := S1024x2816) ![0, 0] ![0, 232] ![0, 0] _ _ pads_S1024x2584_S1024x2816_000_02320 h_S_ (ix2 k (n.castLE (by decide))) (ix2 k n) fun a => ?_
  match a with
  | ⟨0, _⟩ => simp
  | ⟨1, _⟩ => simp

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![(grid0.coords t 0).val, 0] := (by decide +kernel : ∀ t : Fin grid0.N, _)

/-- The rows the kernel is given, flattened. -/
abbrev rows : Vec Ideal S1024x1024 .f32 := V m c main_v4

/-- The weights the kernel is given. -/
abbrev weights : Vec Ideal S1024x2816 .bf16 := V m c main_v6

/-- The product of the kernel's two operands. -/
def whole : Vec Ideal S1024x2816 .f32 := fun i => ∑ k : Fin 1024, rows m c (ix2 (i 0) k) * weights m c (ix2 k (i 1))

/-- The array after the last point. -/
theorem array_eq : (dats m 0 c).arrAt 2 cfg0.N = whole m c := by
  refine (dats m 0 c).arrAt_eq_of_covers 2 (whole m c) (by decide +kernel) fun t hf y => ?_
  blk_simp
  rw [after0_2]
  obtain ⟨r, n, rfl⟩ : ∃ r n, y = ix2 r n := ⟨y 0, y 1, by
    funext a
    match a with
    | ⟨0, _⟩ => rfl
    | ⟨1, _⟩ => rfl⟩
  refine (block_apply _ _ r n).trans (Finset.sum_congr rfl fun k _ => ?_)
  congr 1
  · blk_simp [iblk]
    blk_ext [index_0 t, index_2 t]
  · blk_simp [iblk]
    blk_ext [index_1 t, index_2 t]

/-- The result of the projection is the stacked product. -/
theorem result_eq : shapeCast S128x8x2584 (extractStridedSlice S1024x2584 ![0, 0] ((dats m 0 c).arrAt 2 cfg0.N)
      slices_S1024x2816_S1024x2584_0_0) shapeCasts_S1024x2584_S128x8x2584
    = Host.dotGeneral (F := Ideal) (φ₁ := .f32) (φ₂ := .f32) Cert.Reference6Ideal.dot_S128x8x1024_S1024x2584_S128x8x2584_2_0_01_1_n_n none
        (m ((c : Thread nD τ).loc main_arg0)) (m ((c : Thread nD τ).loc main_arg2)) := by
  rw [array_eq]
  refine stacked_eq rfl _ _ _ _ _ fun g t n => ?_
  rw [kept_apply (N := 2584) (P := 2816) (by decide)]
  refine Finset.sum_congr rfl fun k _ => ?_
  congr 1
  · exact rows_entry m c g t k
  · exact weights_entry m c k n

end Cert.Kernel6Ideal.Proj
-- ==== Proof.SampleNsaRows.lean ====
/-
  The input projection of the sparse layer at the sample group: from the product on, the kernel's program and the reference do the same operations, so the
  queries, the gates, the rows and the window that they end with are the same.
-/
module

public import proofs.«01_k».proof.Defs
public import proofs.«01_k».proof.Proof.SampleNsa
public import proofs.«01_k».proof.Proof.Gen.Kernel6Ideal.Run
public import proofs.«01_k».proof.Proof.Gen.Reference6Ideal.Run

@[expose] public section

noncomputable section

namespace Cert.Kernel6Ideal.Proj

open Cert.Kernel6Ideal Cert.Kernel6Ideal.Value Idealize.ShloMosaic Idealize.ShloMosaic.TcCoe Idealize.SL.Sem

variable (m : (ℓ : Loc nD τ sig) → Buf (Elt Ideal) ℓ) (c : Dev nD)

/-- What the operations after the kernel start from is the stacked product. -/
theorem start_eq : res_main_v9 (exitV m c)
    = Host.dotGeneral (F := Ideal) (φ₁ := .f32) (φ₂ := .f32) Cert.Reference6Ideal.dot_S128x8x1024_S1024x2584_S128x8x2584_2_0_01_1_n_n none
        (m ((c : Thread nD τ).loc main_arg0)) (m ((c : Thread nD τ).loc main_arg2)) := by
  unfold res_main_v9
  rw [exit_main_v7]
  exact result_eq m c

set_option maxRecDepth 16384 in
set_option maxHeartbeats 4000000 in
/-- The two programs end with the same queries, gates, rows and window. -/
theorem agree : Cert.algebraic_Kernel6Ideal_Reference6Ideal := by
  intro m ρ m' ρ' _ hargs
  refine ⟨fun c => Cert.Reference6Ideal.Value.res_main_v39 (F := Ideal) m' c, _,
    fun c => Cert.Reference6Ideal.Value.res_main_v109 (F := Ideal) m' c,
    fun c => Cert.Reference6Ideal.Value.res_main_v110 (F := Ideal) m' c, ?_, Cert.Reference6Ideal.Value.run (F := Ideal) m' ρ'⟩
  refine (θ_run _ _ _).mono (fun r h c => ⟨(h c).1.trans ?_, (h c).2.1.trans ?_, (h c).2.2.1.trans ?_, (h c).2.2.2.1.trans ?_,
    (h c).2.2.2.2⟩) (Cert.Kernel6Ideal.Value.run (F := Ideal) m ρ)
  · obtain ⟨e0, e1, e2⟩ := hargs c
    beta_reduce
    unfold Cert.Reference6Ideal.Value.res_main_v39 res_main_v28 res_main_v29 res_main_v25 res_main_v27 res_main_v23 res_main_v11
    rw [start_eq, exit_main_v3, e0, e2]
    rfl
  · obtain ⟨e0, e1, e2⟩ := hargs c
    beta_reduce
    rw [start_eq, e0, e2]
  · obtain ⟨e0, e1, e2⟩ := hargs c
    beta_reduce
    unfold Cert.Reference6Ideal.Value.res_main_v109 res_main_v109 res_main_v90 res_main_v74 res_main_v73 res_main_v70 res_main_v72
      res_main_v68 res_main_v56 res_main_v46
    rw [start_eq, exit_main_v3, e0, e2]
    rfl
  · obtain ⟨e0, e1, e2⟩ := hargs c
    beta_reduce
    unfold Cert.Reference6Ideal.Value.res_main_v110 res_main_v109 res_main_v90 res_main_v74 res_main_v73 res_main_v70 res_main_v72
      res_main_v68 res_main_v56 res_main_v46
    rw [start_eq, exit_main_v3, exit_main_v0, e0, e1, e2]
    rfl

end Cert.Kernel6Ideal.Proj

end
-- ==== Proof.GdnBlock.lean ====
/-
  What one grid point of the recurrent layer's input kernel stores, as closed terms of its blocks and of the rows carried from the point
  before: the first point of a sequence, the points inside it and the last one store the same things, except that the first starts from the
  given rows and the last also stores the rows to hand on.
-/
module

public import proofs.«01_k».proof.Proof.Gen.Kernel7Ideal.Frame
public import Idealize.ShloMosaic.Lib.VecWindow
public import Idealize.ShloMosaic.Lib.Pipeline.ValueKit
public import Idealize.ShloMosaic.Lib.Tactic

@[expose] public section

noncomputable section

namespace Cert.Kernel7Ideal.Block

open Cert.Kernel7Ideal Cert.Kernel7Ideal.Gen Idealize.ShloMosaic Idealize.ShloMosaic.TcCoe Idealize.SL.Sem

variable {F : FTy → Type} [FloatOps F]

theorem hz2 : (![0, 0] : Fin 2 → Nat) = fun _ => 0 := by decide
theorem hz3 : (![0, 0, 0] : Fin 3 → Nat) = fun _ => 0 := by decide

/-- The convolved and activated columns of a block, from the carried rows, the block's projected columns and the four taps. -/
def act (carry : Vec F S8x3072 .f32) (p : FVec F S256x3072 .f32) (x5 : Vec F S4x3072 .f32) : FVec F S256x3072 .f32 :=
  k0_pay7 carry p (View.ld x5 (Rect.unit ![0, 0] S1x3072.size inb_S4x3072_S1x3072_0_0))
    (View.ld x5 (Rect.unit ![1, 0] S1x3072.size inb_S4x3072_S1x3072_1_0))
    (View.ld x5 (Rect.unit ![2, 0] S1x3072.size inb_S4x3072_S1x3072_2_0))
    (View.ld x5 (Rect.unit ![3, 0] S1x3072.size inb_S4x3072_S1x3072_3_0))

/-- One head of 128 columns from column `o`, each row divided by its length. -/
def head (a : FVec F S256x3072 .f32) (o : ℕ) (h : S256x3072.Slices ![0, o] S256x128) : FVec F S1x256x128 .f32 :=
  have v := extractStridedSlice S256x128 ![0, o] a h
  have n := rsqrt (addf (shapeCast S256x1 (multiReduction .add [1] S256 (mulf v v) 0x00000000#32 reduces_S256x128_S256 (.inl rfl) rfl)
    shapeCasts_S256_S256x1) (broadcast S256x1 (Scalar.ofBits .f32 0x358637BD#32)))
  shapeCast S1x256x128 (mulf v (broadcastTo S256x128 n broadcasts_S256x1_S256x128)) shapeCasts_S256x128_S1x256x128

theorem head_in (o : ℕ) (ho : o ≤ 1024) (j : Fin 8) : S256x3072.Slices ![0, o + 128 * j.val] S256x128 :=
  ⟨rfl, fun a => by
    have := j.isLt
    match a with
    | ⟨0, _⟩ => show 0 + 256 ≤ 256; omega
    | ⟨1, _⟩ => show o + 128 * j.val + 128 ≤ 3072; omega⟩

theorem head_inb (j : Fin 8) (a : Fin 3) : (![0, 0, 128 * j.val] : Fin 3 → ℕ) a + (![1, 256, 128] : Fin 3 → ℕ) a ≤ S1x256x1024.size a := by
  have := j.isLt
  match a with
  | ⟨0, _⟩ => show 0 + 1 ≤ 1; omega
  | ⟨1, _⟩ => show 0 + 256 ≤ 256; omega
  | ⟨2, _⟩ => show 128 * j.val + 128 ≤ 1024; omega

/-- The eight heads as they are stored, the last one first. -/
def heads (a : FVec F S256x3072 .f32) (o : ℕ) (ho : o ≤ 1024) : List (View.Piece (Elt F) S1x256x1024 .f32) :=
  ([7, 6, 5, 4, 3, 2, 1, 0] : List (Fin 8)).map fun j =>
    ⟨Rect.unit ![0, 0, 128 * j.val] ![1, 256, 128] (head_inb j), head a (o + 128 * j.val) (head_in o ho j)⟩

/-- The gates of a block: the rates in the first eight columns, the decays in the last eight. -/
def gates (p : FVec F S256x4224 .f32) (x7 : Vec F S2x128 .f32) : FVec F S1x256x16 .f32 :=
  have d0 : Vec F S1x128 .f32 := View.ld x7 (Rect.unit ![0, 0] S1x128.size inb_S2x128_S1x128_0_0)
  have d1 : Vec F S1x128 .f32 := View.ld x7 (Rect.unit ![1, 0] S1x128.size inb_S2x128_S1x128_1_0)
  k0_pay1 (k0_pay33 p) (k0_pay35 p d1) (k0_pay36 p d1) d0

/-! Loads of whole blocks. -/

theorem ld_0 (x : Vec F S1x256x1024 .f32) : View.ld x (Rect.unit (s := S1x256x1024) ![0, 0, 0] ![1, 256, 1024] inb_S1x256x1024_S1x256x1024_0_0_0) = x := View.ld_unit_zero (S := S1x256x1024) hz3 _ _
theorem ld_1 (x : Vec F S1x1x1024 .f32) : View.ld x (Rect.unit (s := S1x1x1024) ![0, 0, 0] ![1, 1, 1024] inb_S1x1x1024_S1x1x1024_0_0_0) = x := View.ld_unit_zero (S := S1x1x1024) hz3 _ _
theorem ld_3 (x : Vec F S1x1024 .f32) : View.ld x (Rect.unit (s := S1x1024) ![0, 0] ![1, 1024] inb_S1x1024_S1x1024_0_0) = x := View.ld_unit_zero (S := S1x1024) hz2 _ _
theorem ld_4 (x : Vec F S1024x4224 .bf16) : View.ld x (Rect.unit (s := S1024x4224) ![0, 0] ![1024, 4224] inb_S1024x4224_S1024x4224_0_0) = x := View.ld_unit_zero (S := S1024x4224) hz2 _ _
theorem ld_6 (x : Vec F S1x8x3072 .f32) : View.ld x (Rect.unit (s := S1x8x3072) ![0, 0, 0] ![1, 8, 3072] inb_S1x8x3072_S1x8x3072_0_0_0) = x := View.ld_unit_zero (S := S1x8x3072) hz3 _ _
theorem ld_s (x : Vec F S8x3072 .f32) : View.ld x (Rect.unit (s := S8x3072) ![0, 0] ![8, 3072] inb_S8x3072_S8x3072_0_0) = x := View.ld_unit_zero (S := S8x3072) hz2 _ _

/-- A load of the carried rows after a store of them reads what was stored. -/
theorem cov_s {κ : Kind} {sp : Space} (v : View sig κ sp S8x3072 .f32) (w : Vec F S8x3072 .f32) :
    v.readCov [⟨Rect.unit (s := S8x3072) ![0, 0] ![8, 3072] inb_S8x3072_S8x3072_0_0, w⟩]
      (Rect.unit (s := S8x3072) ![0, 0] ![8, 3072] inb_S8x3072_S8x3072_0_0).toLoadRect = w :=
  View.readCov_full v (off := ![0, 0]) (off' := ![0, 0]) inb_S8x3072_S8x3072_0_0 inb_S8x3072_S8x3072_0_0 w []

section
variable (c : Dev nD) (i : grid0.Coords) (arg2 : Memref sig .tc .vmem S1x256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x4224 .bf16) (harg6 : arg6.IsWhole) (arg7 : Memref sig .tc .vmem S4x3072 .f32) (harg7 : arg7.IsWhole) (arg8 : Memref sig .tc .vmem S1x8x3072 .f32) (harg8 : arg8.IsWhole) (arg9 : Memref sig .tc .vmem S2x128 .f32) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S1x256x16 .f32) (harg14 : arg14.IsWhole) (arg15 : Memref sig .tc .vmem S1x8x3072 .f32) (harg15 : arg15.IsWhole) (arg16 : Memref sig .tc .vmem S8x3072 .f32) (harg16 : arg16.IsWhole)
  (x0 : Vec F S1x256x1024 .f32) (x1 : Vec F S1x1x1024 .f32) (x2 : Vec F S1x1x1024 .f32) (x3 : Vec F S1x1024 .f32)
  (x4 : Vec F S1024x4224 .bf16) (x5 : Vec F S4x3072 .f32) (x6 : Vec F S1x8x3072 .f32) (x7 : Vec F S2x128 .f32) (xs0 : Vec F S8x3072 .f32)

set_option maxHeartbeats 1000000 in
/-- What is stored at the first point of a sequence. -/
theorem stores_A (hc0 : cond0_0 i) (hc1 : ¬cond0_1 i) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).1 = heads (act (k0_pay3 x6) (k0_pay5 x0 x3 x2 x1 x4) x5) 0 (by decide)
    ∧ (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.1 = heads (act (k0_pay3 x6) (k0_pay5 x0 x3 x2 x1 x4) x5) 1024 (by decide)
    ∧ (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.1 = [⟨Rect.unit ![0, 0, 0] S1x256x1024.size inb_S1x256x1024_S1x256x1024_0_0_0, k0_pay31 (act (k0_pay3 x6) (k0_pay5 x0 x3 x2 x1 x4) x5)⟩]
    ∧ (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.1 = [⟨Rect.unit ![0, 0, 0] S1x256x1024.size inb_S1x256x1024_S1x256x1024_0_0_0, k0_pay32 (k0_pay4 x0 x3 x2 x1 x4)⟩]
    ∧ (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1 = [⟨Rect.unit ![0, 0, 0] S1x256x16.size inb_S1x256x16_S1x256x16_0_0_0, gates (k0_pay4 x0 x3 x2 x1 x4) x7⟩]
    ∧ (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.2.2.1 = ⟨Rect.unit ![0, 0] S8x3072.size inb_S8x3072_S8x3072_0_0, k0_pay8 (k0_pay3 x6) (k0_pay5 x0 x3 x2 x1 x4)⟩ :: [⟨Rect.unit ![0, 0] S8x3072.size inb_S8x3072_S8x3072_0_0, k0_pay3 x6⟩] := by
  unfold kernelRun0_A
  dsimp only
  sl_unfold_words
  simp only [View.readAt_eq_ld, harg2.read_unread, harg3.read_unread, harg4.read_unread, harg5.read_unread, harg6.read_unread,
    harg7.read_unread, harg8.read_unread, harg9.read_unread, harg16.read_unread, cov_s, ld_0, ld_1, ld_3, ld_4, ld_6, ld_s]
  refine ⟨?_, ?_, ?_, ?_, ?_, ?_⟩ <;> first | rfl | trivial

set_option maxHeartbeats 1000000 in
/-- What is stored inside a sequence. -/
theorem stores_B (hc0 : ¬cond0_0 i) (hc1 : ¬cond0_1 i) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).1 = heads (act xs0 (k0_pay5 x0 x3 x2 x1 x4) x5) 0 (by decide)
    ∧ (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.1 = heads (act xs0 (k0_pay5 x0 x3 x2 x1 x4) x5) 1024 (by decide)
    ∧ (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.1 = [⟨Rect.unit ![0, 0, 0] S1x256x1024.size inb_S1x256x1024_S1x256x1024_0_0_0, k0_pay31 (act xs0 (k0_pay5 x0 x3 x2 x1 x4) x5)⟩]
    ∧ (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.1 = [⟨Rect.unit ![0, 0, 0] S1x256x1024.size inb_S1x256x1024_S1x256x1024_0_0_0, k0_pay32 (k0_pay4 x0 x3 x2 x1 x4)⟩]
    ∧ (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.2.1 = [⟨Rect.unit ![0, 0, 0] S1x256x16.size inb_S1x256x16_S1x256x16_0_0_0, gates (k0_pay4 x0 x3 x2 x1 x4) x7⟩]
    ∧ (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.2.2.2.1 = ⟨Rect.unit ![0, 0] S8x3072.size inb_S8x3072_S8x3072_0_0, k0_pay8 xs0 (k0_pay5 x0 x3 x2 x1 x4)⟩ :: [] := by
  unfold kernelRun0_B
  dsimp only
  sl_unfold_words
  simp only [View.readAt_eq_ld, harg2.read_unread, harg3.read_unread, harg4.read_unread, harg5.read_unread, harg6.read_unread,
    harg7.read_unread, harg8.read_unread, harg9.read_unread, harg16.read_unread, cov_s, ld_0, ld_1, ld_3, ld_4, ld_6, ld_s]
  refine ⟨?_, ?_, ?_, ?_, ?_, ?_⟩ <;> first | rfl | trivial

set_option maxHeartbeats 1000000 in
/-- What is stored at the last point of a sequence. -/
theorem stores_C (hc0 : ¬cond0_0 i) (hc1 : cond0_1 i) :
    (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).1 = heads (act xs0 (k0_pay5 x0 x3 x2 x1 x4) x5) 0 (by decide)
    ∧ (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.1 = heads (act xs0 (k0_pay5 x0 x3 x2 x1 x4) x5) 1024 (by decide)
    ∧ (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.1 = [⟨Rect.unit ![0, 0, 0] S1x256x1024.size inb_S1x256x1024_S1x256x1024_0_0_0, k0_pay31 (act xs0 (k0_pay5 x0 x3 x2 x1 x4) x5)⟩]
    ∧ (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.1 = [⟨Rect.unit ![0, 0, 0] S1x256x1024.size inb_S1x256x1024_S1x256x1024_0_0_0, k0_pay32 (k0_pay4 x0 x3 x2 x1 x4)⟩]
    ∧ (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.2.1 = [⟨Rect.unit ![0, 0, 0] S1x256x16.size inb_S1x256x16_S1x256x16_0_0_0, gates (k0_pay4 x0 x3 x2 x1 x4) x7⟩]
    ∧ (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.2.2.1 = [⟨Rect.unit ![0, 0, 0] S1x8x3072.size inb_S1x8x3072_S1x8x3072_0_0_0, k0_pay2 (k0_pay6 xs0 (k0_pay5 x0 x3 x2 x1 x4))⟩]
    ∧ (kernelRun0_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xs0).2.2.2.2.2.2.1 = ⟨Rect.unit ![0, 0] S8x3072.size inb_S8x3072_S8x3072_0_0, k0_pay8 xs0 (k0_pay5 x0 x3 x2 x1 x4)⟩ :: [] := by
  unfold kernelRun0_C
  dsimp only
  sl_unfold_words
  simp only [View.readAt_eq_ld, harg2.read_unread, harg3.read_unread, harg4.read_unread, harg5.read_unread, harg6.read_unread,
    harg7.read_unread, harg8.read_unread, harg9.read_unread, harg16.read_unread, cov_s, ld_0, ld_1, ld_3, ld_4, ld_6, ld_s]
  refine ⟨?_, ?_, ?_, ?_, ?_, ?_, ?_⟩ <;> first | rfl | trivial

end

end Cert.Kernel7Ideal.Block

end
-- ==== Proof.GdnPoint.lean ====
/-
  What every grid point of the recurrent layer's input kernel leaves in its output blocks and in the carried rows, with one case instead of
  three: the rows carried into a point are the given ones at the first point of a sequence and the ones that the point before left elsewhere.
-/
module

public import proofs.«01_k».proof.Proof.GdnBlock

@[expose] public section

noncomputable section

namespace Cert.Kernel7Ideal.Block

open Cert.Kernel7Ideal Cert.Kernel7Ideal.Gen Idealize.ShloMosaic Idealize.ShloMosaic.TcCoe Idealize.SL.Sem

variable {F : FTy → Type} [FloatOps F]
variable (m : (ℓ : Loc nD τ sig) → Buf (Elt F) ℓ) (c : Dev nD)

/-- The rows that the point before `t` leaves behind. -/
def left (t : Fin cfg0.N) : Vec F S8x3072 .f32 := (outsAt0 m c (t.val - 1) (Nat.lt_of_le_of_lt (Nat.sub_le _ _) t.isLt)).2.2.2.2.2.2

/-- The rows carried into point `t`. -/
def carry (t : Fin cfg0.N) : Vec F S8x3072 .f32 := if t.val % 32 = 0 then k0_pay3 (iblk m c 6 t) else left m c t

/-- The projection of point `t`'s rows. -/
def proj (t : Fin cfg0.N) : FVec F S256x4224 .f32 := k0_pay4 (iblk m c 0 t) (iblk m c 3 t) (iblk m c 2 t) (iblk m c 1 t) (iblk m c 4 t)

/-- The columns of it that are convolved. -/
def cols (t : Fin cfg0.N) : FVec F S256x3072 .f32 := k0_pay5 (iblk m c 0 t) (iblk m c 3 t) (iblk m c 2 t) (iblk m c 1 t) (iblk m c 4 t)

/-- The convolved and activated columns of point `t`. -/
def acts (t : Fin cfg0.N) : FVec F S256x3072 .f32 := act (carry m c t) (cols m c t) (iblk m c 5 t)

theorem carry_first (t : Fin cfg0.N) (h : t.val % 32 = 0) : carry m c t = k0_pay3 (iblk m c 6 t) := if_pos h
theorem carry_later (t : Fin cfg0.N) (h : ¬t.val % 32 = 0) : carry m c t = left m c t := if_neg h

/-- The blocks that a point leaves. -/
structure Leaves (t : Fin cfg0.N) (o : Vec F S1x256x1024 .f32 × Vec F S1x256x1024 .f32 × Vec F S1x256x1024 .f32 × Vec F S1x256x1024 .f32 × Vec F S1x256x16 .f32 ×
    Vec F S1x8x3072 .f32 × Vec F S8x3072 .f32) : Prop where
  q : o.1 = VO0_8.read (Elt F) (VO0_8.writes (Elt F) VO0_8.junk (heads (acts m c t) 0 (by decide)))
  k : o.2.1 = VO0_9.read (Elt F) (VO0_9.writes (Elt F) VO0_9.junk (heads (acts m c t) 1024 (by decide)))
  v : o.2.2.1 = k0_pay31 (acts m c t)
  z : o.2.2.2.1 = k0_pay32 (proj m c t)
  gb : o.2.2.2.2.1 = gates (proj m c t) (iblk m c 7 t)
  conv : t.val % 32 = 31 → o.2.2.2.2.2.1 = k0_pay2 (k0_pay6 (carry m c t) (cols m c t))
  rows : o.2.2.2.2.2.2 = k0_pay8 (carry m c t) (cols m c t)

theorem leaves (t : Fin cfg0.N) : Leaves m c t (outsAt0 m c t.val t.isLt) := by
  by_cases h0 : t.val % 32 = 0
  · have h1 : ¬t.val % 32 = 31 := by omega
    rw [outsAt0_A m c t h0 h1]
    refine ⟨?_, ?_, ?_, ?_, ?_, fun h => absurd h h1, ?_⟩ <;> dsimp only [acts] <;> try rw [carry_first m c t h0]
    · exact congrArg (fun L => VO0_8.read (Elt F) (VO0_8.writes (Elt F) VO0_8.junk L)) (stores_A ..).1
    · exact congrArg (fun L => VO0_9.read (Elt F) (VO0_9.writes (Elt F) VO0_9.junk L)) (stores_A ..).2.1
    · exact (congrArg (fun L => VO0_10.read (Elt F) (VO0_10.writes (Elt F) VO0_10.junk L)) (stores_A ..).2.2.1).trans (View.read_writes_full _ _ _ _ _)
    · exact (congrArg (fun L => VO0_11.read (Elt F) (VO0_11.writes (Elt F) VO0_11.junk L)) (stores_A ..).2.2.2.1).trans (View.read_writes_full _ _ _ _ _)
    · exact (congrArg (fun L => VO0_12.read (Elt F) (VO0_12.writes (Elt F) VO0_12.junk L)) (stores_A ..).2.2.2.2.1).trans (View.read_writes_full _ _ _ _ _)
    · exact (congrArg (fun L => VS0_0.read (Elt F) (VS0_0.writes (Elt F) VS0_0.junk L)) (stores_A ..).2.2.2.2.2).trans (View.read_writes_full _ _ _ _ _)
  · by_cases h1 : t.val % 32 = 31
    · rw [outsAt0_C m c t h0 h1]
      refine ⟨?_, ?_, ?_, ?_, ?_, fun _ => ?_, ?_⟩ <;> dsimp only [acts] <;> try rw [carry_later m c t h0]
      · exact congrArg (fun L => VO0_8.read (Elt F) (VO0_8.writes (Elt F) VO0_8.junk L)) (stores_C ..).1
      · exact congrArg (fun L => VO0_9.read (Elt F) (VO0_9.writes (Elt F) VO0_9.junk L)) (stores_C ..).2.1
      · exact (congrArg (fun L => VO0_10.read (Elt F) (VO0_10.writes (Elt F) VO0_10.junk L)) (stores_C ..).2.2.1).trans (View.read_writes_full _ _ _ _ _)
      · exact (congrArg (fun L => VO0_11.read (Elt F) (VO0_11.writes (Elt F) VO0_11.junk L)) (stores_C ..).2.2.2.1).trans (View.read_writes_full _ _ _ _ _)
      · exact (congrArg (fun L => VO0_12.read (Elt F) (VO0_12.writes (Elt F) VO0_12.junk L)) (stores_C ..).2.2.2.2.1).trans (View.read_writes_full _ _ _ _ _)
      · exact (congrArg (fun L => VO0_13.read (Elt F) (VO0_13.writes (Elt F) VO0_13.junk L)) (stores_C ..).2.2.2.2.2.1).trans (View.read_writes_full _ _ _ _ _)
      · exact (congrArg (fun L => VS0_0.read (Elt F) (VS0_0.writes (Elt F) VS0_0.junk L)) (stores_C ..).2.2.2.2.2.2).trans (View.read_writes_full _ _ _ _ _)
    · rw [outsAt0_B m c t h0 h1]
      refine ⟨?_, ?_, ?_, ?_, ?_, fun h => absurd h h1, ?_⟩ <;> dsimp only [acts] <;> try rw [carry_later m c t h0]
      · exact congrArg (fun L => VO0_8.read (Elt F) (VO0_8.writes (Elt F) VO0_8.junk L)) (stores_B ..).1
      · exact congrArg (fun L => VO0_9.read (Elt F) (VO0_9.writes (Elt F) VO0_9.junk L)) (stores_B ..).2.1
      · exact (congrArg (fun L => VO0_10.read (Elt F) (VO0_10.writes (Elt F) VO0_10.junk L)) (stores_B ..).2.2.1).trans (View.read_writes_full _ _ _ _ _)
      · exact (congrArg (fun L => VO0_11.read (Elt F) (VO0_11.writes (Elt F) VO0_11.junk L)) (stores_B ..).2.2.2.1).trans (View.read_writes_full _ _ _ _ _)
      · exact (congrArg (fun L => VO0_12.read (Elt F) (VO0_12.writes (Elt F) VO0_12.junk L)) (stores_B ..).2.2.2.2.1).trans (View.read_writes_full _ _ _ _ _)
      · exact (congrArg (fun L => VS0_0.read (Elt F) (VS0_0.writes (Elt F) VS0_0.junk L)) (stores_B ..).2.2.2.2.2).trans (View.read_writes_full _ _ _ _ _)

/-- The rows that are carried into a later point, from the point before. -/
theorem left_eq (t : Fin cfg0.N) (s : Fin cfg0.N) (h : s.val = t.val - 1) : left m c t = k0_pay8 (carry m c s) (cols m c s) := by
  have e := (leaves m c s).rows
  obtain ⟨s, hs⟩ := s
  subst h
  exact e

end Cert.Kernel7Ideal.Block

end
-- ==== Proof.RowScatter.lean ====
/-
  A vector set into part of one row of a table, at a pair of index words, read at an entry, at any sizes: this names no program.
-/
module

public import Idealize.ShloMosaic.Lib.Routing.OpsOne

@[expose] public section

namespace Cert.RowScatter

open Idealize.ShloMosaic Idealize.ShloMosaic.Routing Idealize.ShloMosaic.ValueIdx

variable {α : Type} {R C U w : Nat} (d : ScatterDims (shape2 R C) (shape1 2) (shape1 U))

/-- Entry `k` of the vector lands at `(r, c)` exactly when the first index word is `r` and the second plus `k` is `c`, both read signed. -/
theorem lands_row (hiw : d.insertedWindowDims = [0]) (hsd : d.scatterDimsToOperandDims = [0, 1]) (hivd : d.indexVectorDim = 0)
    (idx : IVec (shape1 2) w) (k : Fin U) (r : Fin R) (c : Fin C) :
    d.resultIdx? (ix1 k) idx = some (ix2 r c)
      ↔ (idx (ix1 (0 : Fin 2))).toInt = r.val ∧ (idx (ix1 (1 : Fin 2))).toInt + (k.val : Int) = c.val := by
  have hwin0 : d.window (ix1 k) 0 = 0 := by
    unfold ScatterDims.window
    rw [dif_neg fun h => (of_decide_eq_true (List.mem_filter.1 h).2) (by rw [hiw]; simp)]
  have hwin1 : d.window (ix1 k) 1 = k.val := by
    have hk : d.sKept = [1] := by
      show (shape2 R C).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  rw [resultIdx?_ix2, start_pair d hsd hivd, start_pair d hsd hivd, hwin0, hwin1]
  omega

/-- An entry that is set. -/
theorem set_row (hiw : d.insertedWindowDims = [0]) (hsd : d.scatterDimsToOperandDims = [0, 1]) (hivd : d.indexVectorDim = 0)
    (x0 : (shape2 R C).Idx → α) (idx : IVec (shape1 2) w) (upd : (shape1 U).Idx → α) (r : Fin R) (c : Fin C) (k : Fin U)
    (h0 : (idx (ix1 (0 : Fin 2))).toInt = r.val) (h1 : (idx (ix1 (1 : Fin 2))).toInt + (k.val : Int) = c.val) :
    Host.scatter d (fun _ b => b) x0 idx upd (ix2 r c) = upd (ix1 k) := by
  refine scatter_set_hit d x0 idx upd _ _ (fun k' hk' => ?_) (ix1 k) ((lands_row d hiw hsd hivd idx k r c).2 ⟨h0, h1⟩)
  have q := ((lands_row d hiw hsd hivd idx (k' 0) r c).1 ((congrArg (fun t => d.resultIdx? t idx) (eq_ix1 k').symm).trans hk')).2
  rw [eq_ix1 k']
  exact congrArg (fun e => upd (ix1 e)) (Fin.ext (by show (k' 0).val = k.val; omega))

/-- An entry of another row. -/
theorem set_row_other (hiw : d.insertedWindowDims = [0]) (hsd : d.scatterDimsToOperandDims = [0, 1]) (hivd : d.indexVectorDim = 0)
    (x0 : (shape2 R C).Idx → α) (idx : IVec (shape1 2) w) (upd : (shape1 U).Idx → α) (r : Fin R) (c : Fin C)
    (h : (idx (ix1 (0 : Fin 2))).toInt ≠ r.val) : Host.scatter d (fun _ b => b) x0 idx upd (ix2 r c) = x0 (ix2 r c) :=
  scatter_set_miss d x0 idx upd _ fun k' hk' =>
    h ((lands_row d hiw hsd hivd idx (k' 0) r c).1 ((congrArg (fun t => d.resultIdx? t idx) (eq_ix1 k').symm).trans hk')).1

end Cert.RowScatter
-- ==== Proof.GdnOperands.lean ====
/-
  The blocks that a grid point of the recurrent layer's input kernel reads, entry by entry, in terms of the layer's arguments.
-/
module

public import proofs.«01_k».proof.Proof.GdnPoint
public import proofs.«01_k».proof.Proof.RowScatter
public import proofs.«01_k».proof.Proof.Proj
public import Idealize.ShloMosaic.Lib.Claim
public import Idealize.ShloMosaic.Lib.Pointwise

@[expose] public section

noncomputable section

namespace Cert.Kernel7Ideal.Operands

open Cert.Kernel7Ideal Cert.Kernel7Ideal.Gen Idealize.ShloMosaic Idealize.ShloMosaic.TcCoe Idealize.SL.Sem

variable (m : (ℓ : Loc nD τ sig) → Buf (Elt Ideal) ℓ) (c : Dev nD)

theorem index_0 : ∀ t : Fin cfg0.N, win0_0.index t = ![t.val / 32, t.val % 32, 0] := (by decide +kernel : ∀ t : Fin grid0.N, _)
theorem index_1 : ∀ t : Fin cfg0.N, win0_1.index t = ![t.val / 32, 0, 0] := (by decide +kernel : ∀ t : Fin grid0.N, _)
theorem index_2 : ∀ t : Fin cfg0.N, win0_2.index t = ![t.val / 32, 0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val / 32, 0, 0] := (by decide +kernel : ∀ t : Fin grid0.N, _)
theorem index_7 : ∀ t : Fin cfg0.N, win0_7.index t = ![0, 0] := (by decide +kernel : ∀ t : Fin grid0.N, _)

/-- The sequence of a point. -/
def seq (t : Fin cfg0.N) : Fin 2 := ⟨t.val / 32, by have : t.val < 64 := t.isLt; omega⟩

/-- A row of a point's block, in its sequence. -/
def row (t : Fin cfg0.N) (r : Fin 256) : Fin 8192 := ⟨t.val % 32 * 256 + r.val, by omega⟩

/-! What the operations before the kernel make of the arguments. -/

set_option maxHeartbeats 1000000 in
theorem mix_eq : V m c main_v14 = (shapeCast S1x1024 (m ((c : Thread nD τ).loc main_arg3)) shapeCasts_S1024_S1x1024 : Vec Ideal S1x1024 .f32) := by
  show V0 m c (Proc.devRef .tc main_v14) = _
  simp only [V0, hostOps0, hostOps0_1, hostOps0_2, hostOps0_3, hostOps0_4, StableHlo.TRef.binary, StableHlo.TRef.unary, StableHlo.TRef.toBuf,
    StableHlo.TRef.ofBuf, cast_eq, List.flatten_cons, List.flatten_nil, List.append_nil, List.cons_append, List.nil_append]
  after_results <;> rfl

/-- The weights, padded on the right to whole blocks of columns. -/
def padded : Vec Ideal S1024x4224 .bf16 :=
  truncf (F := Ideal) .bf16 (pad S1024x4224 ![0, 0] ![0, 112] ![0, 0] (m ((c : Thread nD τ).loc main_arg5))
    (sitofp (F := Ideal) .f32 (constantI S_ 32 0#32)) pads_S1024x4112_S1024x4224_000_01120 h_S_) bitsLt_bf16_f32

set_option maxHeartbeats 1000000 in
theorem weights_eq : V m c main_v1 = padded m c := by
  show V0 m c (Proc.devRef .tc main_v1) = _
  simp only [V0, hostOps0, hostOps0_1, hostOps0_2, hostOps0_3, hostOps0_4, StableHlo.TRef.binary, StableHlo.TRef.unary, StableHlo.TRef.toBuf,
    StableHlo.TRef.ofBuf, cast_eq, List.flatten_cons, List.flatten_nil, List.append_nil, List.cons_append, List.nil_append]
  after_results <;> rfl

/-- The given rows, padded at the front to a whole block of rows. -/
def given : Vec Ideal S2x8x3072 .f32 :=
  pad S2x8x3072 ![0, 5, 0] ![0, 0, 0] ![0, 0, 0] (m ((c : Thread nD τ).loc main_arg4))
    (sitofp (F := Ideal) .f32 (constantI S_ 32 0#32)) pads_S2x3x3072_S2x8x3072_000_500_000 h_S_

set_option maxHeartbeats 1000000 in
theorem given_eq : V m c main_v2 = given m c := by
  show V0 m c (Proc.devRef .tc main_v2) = _
  simp only [V0, hostOps0, hostOps0_1, hostOps0_2, hostOps0_3, hostOps0_4, StableHlo.TRef.binary, StableHlo.TRef.unary, StableHlo.TRef.toBuf,
    StableHlo.TRef.ofBuf, cast_eq, List.flatten_cons, List.flatten_nil, List.append_nil, List.cons_append, List.nil_append]
  after_results <;> rfl

/-- Two index words. -/
def pair (i j : BitVec 32) : IVec S2 32 :=
  concatenate S2 0 [⟨S1, broadcastInDim S1 ![] bcast_S_S1 (constantI S_ 32 i)⟩, ⟨S1, broadcastInDim S1 ![] bcast_S_S1 (constantI S_ 32 j)⟩]
    concatenates_S1_S1_S2_d0

/-- The table of the gates' two rows of constants. -/
def table : Vec Ideal S2x128 .f32 :=
  Host.scatter scatter_S2x128_S2_S8_0_0_01_0 (fun _ b => b)
    (Host.scatter scatter_S2x128_S2_S8_0_0_01_0 (fun _ b => b) (broadcastInDim S2x128 ![] bcast_S_S2x128 (constant (F := Ideal) S_ .f32 0x00000000#32))
      (pair 0#32 8#32) (Host.negf (F := Ideal) (φ := .f32) (Host.exp (F := Ideal) (φ := .f32) (m ((c : Thread nD τ).loc main_arg7)))))
    (pair 1#32 8#32) (m ((c : Thread nD τ).loc main_arg8))

set_option maxHeartbeats 2000000 in
theorem table_eq : V m c main_v13 = table m c := by
  show V0 m c (Proc.devRef .tc main_v13) = _
  simp only [V0, hostOps0, hostOps0_1, hostOps0_2, hostOps0_3, hostOps0_4, StableHlo.TRef.binary, StableHlo.TRef.unary, StableHlo.TRef.toBuf,
    StableHlo.TRef.ofBuf, cast_eq, List.flatten_cons, List.flatten_nil, List.append_nil, List.cons_append, List.nil_append]
  after_results <;> rfl

/-! Their entries. -/

theorem mix_entry (k : Fin 1024) : V m c main_v14 (ix2 (0 : Fin 1) k) = m ((c : Thread nD τ).loc main_arg3) (ix1 k) := by
  rw [mix_eq]
  pointwise

theorem weights_entry (k : Fin 1024) (n : Fin 4112) :
    V m c main_v1 (ix2 k (⟨n.val, by omega⟩ : Fin 4224)) = m ((c : Thread nD τ).loc main_arg5) (ix2 k n) := by
  rw [weights_eq]
  refine pad_apply_of_inside (t := S1024x4224) ![0, 0] ![0, 112] ![0, 0] _ _ pads_S1024x4112_S1024x4224_000_01120 h_S_ (ix2 k (⟨n.val, by omega⟩ : Fin 4224)) (ix2 k n) fun a => ?_
  match a with
  | ⟨0, _⟩ => simp
  | ⟨1, _⟩ => simp

theorem given_entry (b : Fin 2) (r : Fin 3) (n : Fin 3072) :
    V m c main_v2 (ix3 b (⟨5 + r.val, by omega⟩ : Fin 8) n) = m ((c : Thread nD τ).loc main_arg4) (ix3 b r n) := by
  rw [given_eq]
  refine pad_apply_of_inside (t := S2x8x3072) ![0, 5, 0] ![0, 0, 0] ![0, 0, 0] _ _ pads_S2x3x3072_S2x8x3072_000_500_000 h_S_ (ix3 b (⟨5 + r.val, by omega⟩ : Fin 8) n) (ix3 b r n) fun a => ?_
  match a with
  | ⟨0, _⟩ => simp
  | ⟨1, _⟩ => simp
  | ⟨2, _⟩ => simp

theorem pair_first (i j : BitVec 32) : pair i j (ValueIdx.ix1 (0 : Fin 2)) = i := by
  show pair i j (ix1 (0 : Fin 2)) = i
  pointwise [pair]

theorem pair_second (i j : BitVec 32) : pair i j (ValueIdx.ix1 (1 : Fin 2)) = j := by
  show pair i j (ix1 (1 : Fin 2)) = j
  pointwise [pair]

theorem table_first (k : Fin 8) : V m c main_v13 (ix2 (0 : Fin 2) (⟨8 + k.val, by omega⟩ : Fin 128)) = -Ideal.exp (m ((c : Thread nD τ).loc main_arg7) (ix1 k)) := by
  rw [table_eq]
  refine (RowScatter.set_row_other scatter_S2x128_S2_S8_0_0_01_0 rfl rfl rfl _ (pair 1#32 8#32) _ 0 ⟨8 + k.val, by omega⟩ (by rw [pair_first]; decide)).trans ?_
  refine (RowScatter.set_row scatter_S2x128_S2_S8_0_0_01_0 rfl rfl rfl _ (pair 0#32 8#32) _ 0 ⟨8 + k.val, by omega⟩ k (by rw [pair_first]; decide) ?_).trans rfl
  rw [pair_second]
  show (8 : Int) + (k.val : Int) = ((8 + k.val : Nat) : Int)
  omega

theorem table_second (k : Fin 8) : V m c main_v13 (ix2 (1 : Fin 2) (⟨8 + k.val, by omega⟩ : Fin 128)) = m ((c : Thread nD τ).loc main_arg8) (ix1 k) := by
  rw [table_eq]
  refine RowScatter.set_row scatter_S2x128_S2_S8_0_0_01_0 rfl rfl rfl _ (pair 1#32 8#32) _ 1 ⟨8 + k.val, by omega⟩ k (by rw [pair_first]; decide) ?_
  rw [pair_second]
  show (8 : Int) + (k.val : Int) = ((8 + k.val : Nat) : Int)
  omega

/-! The blocks of a point. -/

theorem blk_0 (t : Fin cfg0.N) (r : Fin 256) (k : Fin 1024) :
    (iblk m c 0 t : Vec Ideal S1x256x1024 .f32) (ix3 0 r k) = m ((c : Thread nD τ).loc main_arg0) (ix3 (seq t) (row t r) k) := by
  blk_simp [iblk]
  blk_ext [index_0 t]
  all_goals rfl

theorem blk_1 (t : Fin cfg0.N) (k : Fin 1024) :
    (iblk m c 1 t : Vec Ideal S1x1x1024 .f32) (ix3 0 0 k) = m ((c : Thread nD τ).loc main_arg1) (ix3 (seq t) 0 k) := by
  blk_simp [iblk]
  blk_ext [index_1 t]
  all_goals rfl

theorem blk_2 (t : Fin cfg0.N) (k : Fin 1024) :
    (iblk m c 2 t : Vec Ideal S1x1x1024 .f32) (ix3 0 0 k) = m ((c : Thread nD τ).loc main_arg2) (ix3 (seq t) 0 k) := by
  blk_simp [iblk]
  blk_ext [index_2 t]
  all_goals rfl

theorem blk_3 (t : Fin cfg0.N) (k : Fin 1024) :
    (iblk m c 3 t : Vec Ideal S1x1024 .f32) (ix2 0 k) = m ((c : Thread nD τ).loc main_arg3) (ix1 k) := by
  refine Eq.trans ?_ (mix_entry m c k)
  blk_simp [iblk]
  blk_ext [index_3 t]

theorem blk_4 (t : Fin cfg0.N) (k : Fin 1024) (n : Fin 4112) :
    (iblk m c 4 t : Vec Ideal S1024x4224 .bf16) (ix2 k (⟨n.val, by omega⟩ : Fin 4224)) = m ((c : Thread nD τ).loc main_arg5) (ix2 k n) := by
  refine Eq.trans ?_ (weights_entry m c k n)
  blk_simp [iblk]
  blk_ext [index_4 t]

theorem blk_5 (t : Fin cfg0.N) (j : Fin 4) (n : Fin 3072) :
    (iblk m c 5 t : Vec Ideal S4x3072 .f32) (ix2 j n) = m ((c : Thread nD τ).loc main_arg6) (ix2 j n) := by
  blk_simp [iblk]
  blk_ext [index_5 t]

theorem blk_6 (t : Fin cfg0.N) (r : Fin 3) (n : Fin 3072) :
    (iblk m c 6 t : Vec Ideal S1x8x3072 .f32) (ix3 0 (⟨5 + r.val, by omega⟩ : Fin 8) n) = m ((c : Thread nD τ).loc main_arg4) (ix3 (seq t) r n) := by
  refine Eq.trans ?_ (given_entry m c (seq t) r n)
  blk_simp [iblk]
  blk_ext [index_6 t]
  all_goals rfl

theorem blk_7_first (t : Fin cfg0.N) (k : Fin 8) :
    (iblk m c 7 t : Vec Ideal S2x128 .f32) (ix2 0 (⟨8 + k.val, by omega⟩ : Fin 128)) = -Ideal.exp (m ((c : Thread nD τ).loc main_arg7) (ix1 k)) := by
  refine Eq.trans ?_ (table_first m c k)
  blk_simp [iblk]
  blk_ext [index_7 t]

theorem blk_7_second (t : Fin cfg0.N) (k : Fin 8) :
    (iblk m c 7 t : Vec Ideal S2x128 .f32) (ix2 1 (⟨8 + k.val, by omega⟩ : Fin 128)) = m ((c : Thread nD τ).loc main_arg8) (ix1 k) := by
  refine Eq.trans ?_ (table_second m c k)
  blk_simp [iblk]
  blk_ext [index_7 t]

end Cert.Kernel7Ideal.Operands

end
-- ==== Proof.GdnRef.lean ====
/-
  The reference of the recurrent layer's input, cut into its steps: the modulated and projected rows, the rows with the given ones before
  them, the convolution over four rows, the activation, a head divided by its length, and the two gates; each read at an entry.
-/
module

public import proofs.«01_k».proof.Proof.Proj
public import proofs.«01_k».proof.Proof.Gen.Reference7Ideal
public import Idealize.ShloMosaic.Lib.Pointwise

@[expose] public section

noncomputable section

namespace Cert.Reference7Ideal.Steps

open Cert.Reference7Ideal Cert.Reference7Ideal.Gen Cert.Proj Idealize.ShloMosaic

/-- The modulated and projected rows. -/
def proj (a0 : FVec Ideal S2x8192x1024 .f32) (a1 a2 : FVec Ideal S2x1x1024 .f32) (a3 : FVec Ideal S1024 .f32)
    (a5 : FVec Ideal S1024x4112 .f32) : FVec Ideal S2x8192x4112 .f32 :=
  Host.dotGeneral dot_S2x8192x1024_S1024x4112_S2x8192x4112_2_0_01_1_n_n none (addf (mulf (mulf (mulf a0 (broadcastInDim S2x8192x1024 ![0,
    1, 2] bcast_S2x8192x1_S2x8192x1024_0_1_2 (Host.rsqrt (addf (Host.divf (broadcastInDim S2x8192x1 ![0, 1] bcast_S2x8192_S2x8192x1_0_1
    (Host.reduceAdd (mulf a0 a0) (constant S_ .f32 0x00000000#32) reducesTo_S2x8192x1024_S2x8192_d2 h_S_)) (broadcastInDim S2x8192x1 ![]
    bcast_S_S2x8192x1 (constant S_ .f32 0x44800000#32))) (broadcastInDim S2x8192x1 ![] bcast_S_S2x8192x1 (constant S_ .f32
    0x358637BD#32)))))) (broadcastInDim S2x8192x1024 ![0, 1, 2] bcast_S1x1x1024_S2x8192x1024_0_1_2 (broadcastInDim S1x1x1024 ![2]
    bcast_S1024_S1x1x1024_2 a3))) (broadcastInDim S2x8192x1024 ![0, 1, 2] bcast_S2x1x1024_S2x8192x1024_0_1_2 (addf (broadcastInDim
    S2x1x1024 ![] bcast_S_S2x1x1024 (constant S_ .f32 0x3F800000#32)) a2))) (broadcastInDim S2x8192x1024 ![0, 1, 2]
    bcast_S2x1x1024_S2x8192x1024_0_1_2 a1)) a5

/-- The columns that are convolved, with the given rows before them. -/
def rows (a4 : FVec Ideal S2x3x3072 .f32) (p : FVec Ideal S2x8192x4112 .f32) : FVec Ideal S2x8195x3072 .f32 :=
  concatenate S2x8195x3072 1 [⟨S2x3x3072, a4⟩, ⟨S2x8192x3072, (extractStridedSlice S2x8192x3072 ![0, 0, 0] p
    slices_S2x8192x4112_S2x8192x3072_0_0_0)⟩] concatenates_S2x3x3072_S2x8192x3072_S2x8195x3072_d1

/-- The convolution over four rows. -/
def conv (a6 : FVec Ideal S4x3072 .f32) (xx : FVec Ideal S2x8195x3072 .f32) : FVec Ideal S2x8192x3072 .f32 :=
  addf (addf (addf (mulf (extractStridedSlice S2x8192x3072 ![0, 0, 0] xx slices_S2x8195x3072_S2x8192x3072_0_0_0) (broadcastInDim
    S2x8192x3072 ![0, 1, 2] bcast_S1x1x3072_S2x8192x3072_0_1_2 (broadcastInDim S1x1x3072 ![2] bcast_S3072_S1x1x3072_2 (shapeCast S3072
    (extractStridedSlice S1x3072 ![0, 0] a6 slices_S4x3072_S1x3072_0_0) shapeCasts_S1x3072_S3072)))) (mulf (extractStridedSlice
    S2x8192x3072 ![0, 1, 0] xx slices_S2x8195x3072_S2x8192x3072_0_1_0) (broadcastInDim S2x8192x3072 ![0, 1, 2]
    bcast_S1x1x3072_S2x8192x3072_0_1_2 (broadcastInDim S1x1x3072 ![2] bcast_S3072_S1x1x3072_2 (shapeCast S3072 (extractStridedSlice S1x3072
    ![1, 0] a6 slices_S4x3072_S1x3072_1_0) shapeCasts_S1x3072_S3072))))) (mulf (extractStridedSlice S2x8192x3072 ![0, 2, 0] xx
    slices_S2x8195x3072_S2x8192x3072_0_2_0) (broadcastInDim S2x8192x3072 ![0, 1, 2] bcast_S1x1x3072_S2x8192x3072_0_1_2 (broadcastInDim
    S1x1x3072 ![2] bcast_S3072_S1x1x3072_2 (shapeCast S3072 (extractStridedSlice S1x3072 ![2, 0] a6 slices_S4x3072_S1x3072_2_0)
    shapeCasts_S1x3072_S3072))))) (mulf (extractStridedSlice S2x8192x3072 ![0, 3, 0] xx slices_S2x8195x3072_S2x8192x3072_0_3_0)
    (broadcastInDim S2x8192x3072 ![0, 1, 2] bcast_S1x1x3072_S2x8192x3072_0_1_2 (broadcastInDim S1x1x3072 ![2] bcast_S3072_S1x1x3072_2
    (shapeCast S3072 (extractStridedSlice S1x3072 ![3, 0] a6 slices_S4x3072_S1x3072_3_0) shapeCasts_S1x3072_S3072))))

/-- The activation. -/
def act (x : FVec Ideal S2x8192x3072 .f32) : FVec Ideal S2x8192x3072 .f32 :=
  mulf x (Host.divf (broadcastInDim S2x8192x3072 ![] bcast_S_S2x8192x3072 (constant S_ .f32 0x3F800000#32)) (addf (broadcastInDim
    S2x8192x3072 ![] bcast_S_S2x8192x3072 (constant S_ .f32 0x3F800000#32)) (Host.exp (Host.negf x))))

/-- Heads of 128 columns, each row divided by its length. -/
def normed (x : FVec Ideal S2x8192x8x128 .f32) : FVec Ideal S2x8192x1024 .f32 :=
  shapeCast S2x8192x1024 (mulf x (broadcastInDim S2x8192x8x128 ![0, 1, 2, 3] bcast_S2x8192x8x1_S2x8192x8x128_0_1_2_3 (Host.rsqrt (addf
    (broadcastInDim S2x8192x8x1 ![0, 1, 2] bcast_S2x8192x8_S2x8192x8x1_0_1_2 (Host.reduceAdd (mulf x x) (constant S_ .f32 0x00000000#32)
    reducesTo_S2x8192x8x128_S2x8192x8_d3 h_S_)) (broadcastInDim S2x8192x8x1 ![] bcast_S_S2x8192x8x1 (constant S_ .f32 0x358637BD#32))))))
    shapeCasts_S2x8192x8x128_S2x8192x1024

/-- The decays from their columns. -/
def decay (a7 a8 : FVec Ideal S8 .f32) (p : FVec Ideal S2x8192x4112 .f32) : FVec Ideal S2x8192x8 .f32 :=
  have t : FVec Ideal S2x8192x8 .f32 := addf (extractStridedSlice S2x8192x8 ![0, 0, 4104] p slices_S2x8192x4112_S2x8192x8_0_0_4104)
    (broadcastInDim S2x8192x8 ![0, 1, 2] bcast_S1x1x8_S2x8192x8_0_1_2 (broadcastInDim S1x1x8 ![2] bcast_S8_S1x1x8_2 a8))
  mulf (broadcastInDim S2x8192x8 ![0, 1, 2] bcast_S1x1x8_S2x8192x8_0_1_2 (broadcastInDim S1x1x8 ![2] bcast_S8_S1x1x8_2 (Host.negf (Host.exp
    a7)))) (select (cmpf .une (subf t (broadcastInDim S2x8192x8 ![] bcast_S_S2x8192x8 (constant S_ .f32 0x00000000#32))) (subf t
    (broadcastInDim S2x8192x8 ![] bcast_S_S2x8192x8 (constant S_ .f32 0x00000000#32)))) (addf t (broadcastInDim S2x8192x8 ![]
    bcast_S_S2x8192x8 (constant S_ .f32 0x00000000#32))) (addf (maximumf t (broadcastInDim S2x8192x8 ![] bcast_S_S2x8192x8 (constant S_
    .f32 0x00000000#32))) (Host.log1p (Host.exp (Host.negf (Host.absf (subf t (broadcastInDim S2x8192x8 ![] bcast_S_S2x8192x8 (constant S_
    .f32 0x00000000#32)))))))))

/-- The rates from their columns. -/
def rate (p : FVec Ideal S2x8192x4112 .f32) : FVec Ideal S2x8192x8 .f32 :=
  Host.divf (broadcastInDim S2x8192x8 ![] bcast_S_S2x8192x8 (constant S_ .f32 0x3F800000#32)) (addf (broadcastInDim S2x8192x8 ![]
    bcast_S_S2x8192x8 (constant S_ .f32 0x3F800000#32)) (Host.exp (Host.negf (extractStridedSlice S2x8192x8 ![0, 0, 4096] p
    slices_S2x8192x4112_S2x8192x8_0_0_4096))))

/-- The projection at an entry. -/
theorem proj_apply (a0 : FVec Ideal S2x8192x1024 .f32) (a1 a2 : FVec Ideal S2x1x1024 .f32) (a3 : FVec Ideal S1024 .f32)
    (a5 : FVec Ideal S1024x4112 .f32) (b : Fin 2) (r : Fin 8192) (n : Fin 4112) : proj a0 a1 a2 a3 a5 (ix3 b r n)
      = ∑ x : Fin 1024, (a0 (ix3 b r x) * Ideal.rsqrt (Ideal.div (∑ x : Fin 1024, a0 (ix3 b r x) * a0 (ix3 b r x))
          (Ideal.ofBits .f32 1149239296#32) + Ideal.ofBits .f32 897988541#32) * a3 (ix1 x) * (1 + a2 (ix3 b 0 x)) + a1 (ix3 b 0 x))
        * a5 (ix2 x n) := by
  unfold proj
  refine (stack_apply dot_S2x8192x1024_S1024x4112_S2x8192x4112_2_0_01_1_n_n_wf none _ _ b r n).trans ?_
  pointwise

/-- The rows at an entry: the first three are the given ones. -/
theorem rows_given (a4 : FVec Ideal S2x3x3072 .f32) (p : FVec Ideal S2x8192x4112 .f32) (b : Fin 2) (r : Fin 3) (n : Fin 3072) :
    rows a4 p (ix3 b (⟨r.val, by omega⟩ : Fin 8195) n) = a4 (ix3 b r n) := by
  pointwise [rows]

/-- The rows at an entry: the others are the projected ones. -/
theorem rows_own (a4 : FVec Ideal S2x3x3072 .f32) (p : FVec Ideal S2x8192x4112 .f32) (b : Fin 2) (r : Fin 8192) (n : Fin 3072) :
    rows a4 p (ix3 b (⟨3 + r.val, by omega⟩ : Fin 8195) n) = p (ix3 b r (⟨n.val, by omega⟩ : Fin 4112)) := by
  pointwise [rows]

/-- The convolution at an entry. -/
theorem conv_apply (a6 : FVec Ideal S4x3072 .f32) (xx : FVec Ideal S2x8195x3072 .f32) (b : Fin 2) (r : Fin 8192) (n : Fin 3072) :
    conv a6 xx (ix3 b r n) = xx (ix3 b (⟨r.val, by omega⟩ : Fin 8195) n) * a6 (ix2 0 n) + xx (ix3 b (⟨1 + r.val, by omega⟩ : Fin 8195) n) * a6 (ix2 1 n)
      + xx (ix3 b (⟨2 + r.val, by omega⟩ : Fin 8195) n) * a6 (ix2 2 n) + xx (ix3 b (⟨3 + r.val, by omega⟩ : Fin 8195) n) * a6 (ix2 3 n) := by
  pointwise [conv]

/-- The activation at an entry. -/
theorem act_apply (x : FVec Ideal S2x8192x3072 .f32) (b : Fin 2) (r : Fin 8192) (n : Fin 3072) :
    act x (ix3 b r n) = x (ix3 b r n) * Ideal.logistic (x (ix3 b r n)) := by
  pointwise [act]
  rfl

/-- The heads at an entry. -/
theorem normed_apply (x : FVec Ideal S2x8192x8x128 .f32) (b : Fin 2) (r : Fin 8192) (n : Fin 1024) :
    normed x (ix3 b r n) = x (ix4 b r (⟨n.val / 128, by omega⟩ : Fin 8) (⟨n.val % 128, by omega⟩ : Fin 128))
      * Ideal.rsqrt (∑ k : Fin 128, x (ix4 b r (⟨n.val / 128, by omega⟩ : Fin 8) k) * x (ix4 b r (⟨n.val / 128, by omega⟩ : Fin 8) k)
        + Ideal.ofBits .f32 897988541#32) := by
  pointwise [normed]

/-- The decays at an entry. -/
theorem decay_apply (a7 a8 : FVec Ideal S8 .f32) (p : FVec Ideal S2x8192x4112 .f32) (b : Fin 2) (r : Fin 8192) (n : Fin 8) :
    decay a7 a8 p (ix3 b r n) = -Ideal.exp (a7 (ix1 n)) * (max (p (ix3 b r (⟨4104 + n.val, by omega⟩ : Fin 4112)) + a8 (ix1 n)) 0
      + Ideal.log (1 + Ideal.exp (-(FloatOps.absf (F := Ideal) (φ := .f32) (p (ix3 b r (⟨4104 + n.val, by omega⟩ : Fin 4112)) + a8 (ix1 n)))))) := by
  pointwise [decay]
  rw [if_neg (fun h => h rfl)]
  rfl

/-- The rates at an entry. -/
theorem rate_apply (p : FVec Ideal S2x8192x4112 .f32) (b : Fin 2) (r : Fin 8192) (n : Fin 8) :
    rate p (ix3 b r n) = Ideal.logistic (p (ix3 b r (⟨4096 + n.val, by omega⟩ : Fin 4112))) := by
  pointwise [rate]
  rfl

end Cert.Reference7Ideal.Steps

end
-- ==== Proof.GdnTile.lean ====
/-
  What a grid point of the recurrent layer's input kernel computes from its blocks, as the reference's rows: the projected rows, the rows
  that the convolution reads (the last three of the block before, or the given ones, then the block's own) and the activated columns.
-/
module

public import proofs.«01_k».proof.Proof.GdnOperands
public import proofs.«01_k».proof.Proof.GdnRef

@[expose] public section

noncomputable section

namespace Cert.Kernel7Ideal.Tile

open Cert.Kernel7Ideal Cert.Kernel7Ideal.Gen Cert.Kernel7Ideal.Operands Cert.Proj Idealize.ShloMosaic Idealize.ShloMosaic.TcCoe Idealize.SL.Sem

variable (m : (ℓ : Loc nD τ sig) → Buf (Elt Ideal) ℓ) (c : Dev nD)

/-- The reference's projected rows. -/
def P : Vec Ideal Cert.Reference7Ideal.S2x8192x4112 .f32 :=
  Cert.Reference7Ideal.Steps.proj (m ((c : Thread nD τ).loc main_arg0)) (m ((c : Thread nD τ).loc main_arg1)) (m ((c : Thread nD τ).loc main_arg2))
    (m ((c : Thread nD τ).loc main_arg3)) (m ((c : Thread nD τ).loc main_arg5))

/-- The reference's rows with the given ones before them. -/
def X : Vec Ideal Cert.Reference7Ideal.S2x8195x3072 .f32 := Cert.Reference7Ideal.Steps.rows (m ((c : Thread nD τ).loc main_arg4)) (P m c)

/-- The reference's activated columns. -/
def A : Vec Ideal Cert.Reference7Ideal.S2x8192x3072 .f32 :=
  Cert.Reference7Ideal.Steps.act (Cert.Reference7Ideal.Steps.conv (m ((c : Thread nD τ).loc main_arg6)) (X m c))

/-- The projected rows of a block. -/
theorem proj_entry (t : Fin cfg0.N) (r : Fin 256) (n : Fin 4112) :
    Block.proj m c t (ix2 r (⟨n.val, by omega⟩ : Fin 4224)) = P m c (ix3 (seq t) (row t r) n) := by
  refine Eq.trans ?_ (Cert.Reference7Ideal.Steps.proj_apply _ _ _ _ _ (seq t) (row t r) n).symm
  unfold Block.proj k0_pay4
  refine (rows_apply dot_S256x1024_S1024x4224_S256x4224_1_0_0_1_n_n_wf none _ _ r _).trans ?_
  pointwise
  simp only [blk_0, blk_1, blk_2, blk_3, blk_4]

/-- The columns of them that are convolved. -/
theorem cols_entry (t : Fin cfg0.N) (r : Fin 256) (n : Fin 3072) :
    Block.cols m c t (ix2 r n) = P m c (ix3 (seq t) (row t r) (⟨n.val, by omega⟩ : Fin 4112)) := by
  refine Eq.trans ?_ (proj_entry m c t r ⟨n.val, by omega⟩)
  unfold Block.cols Block.proj k0_pay5
  pointwise

/-- A row of the carried rows. -/
theorem joined_carried (cr : Vec Ideal S8x3072 .f32) (p : FVec Ideal S256x3072 .f32) (j : Fin 8) (n : Fin 3072) :
    k0_pay6 cr p (ix2 (⟨j.val, by omega⟩ : Fin 264) n) = cr (ix2 j n) := by
  pointwise [k0_pay6]

/-- A row of the block's own rows. -/
theorem joined_own (cr : Vec Ideal S8x3072 .f32) (p : FVec Ideal S256x3072 .f32) (r : Fin 256) (n : Fin 3072) :
    k0_pay6 cr p (ix2 (⟨8 + r.val, by omega⟩ : Fin 264) n) = p (ix2 r n) := by
  pointwise [k0_pay6]

/-- A row to carry on is one of the block's last eight. -/
theorem kept_entry (cr : Vec Ideal S8x3072 .f32) (p : FVec Ideal S256x3072 .f32) (j : Fin 8) (n : Fin 3072) :
    k0_pay8 cr p (ix2 j n) = p (ix2 (⟨248 + j.val, by omega⟩ : Fin 256) n) := by
  refine Eq.trans ?_ (joined_own cr p ⟨248 + j.val, by omega⟩ n)
  pointwise [k0_pay8]
  exact congrArg (fun q => k0_pay6 cr p (ix2 q n)) (Fin.ext (by show 256 + j.val = 8 + (248 + j.val); omega))

/-- The same where it is handed on. -/
theorem handed_entry (cr : Vec Ideal S8x3072 .f32) (p : FVec Ideal S256x3072 .f32) (j : Fin 8) (n : Fin 3072) :
    k0_pay2 (k0_pay6 cr p) (ix3 (0 : Fin 1) j n) = p (ix2 (⟨248 + j.val, by omega⟩ : Fin 256) n) := by
  refine Eq.trans ?_ (joined_own cr p ⟨248 + j.val, by omega⟩ n)
  pointwise [k0_pay2]
  exact congrArg (fun q => k0_pay6 cr p (ix2 q n)) (Fin.ext (by show 256 + j.val = 8 + (248 + j.val); omega))

/-- The last three carried rows are the three before the block's own. -/
theorem carry_entry (t : Fin cfg0.N) (s : Fin 3) (n : Fin 3072) :
    Block.carry m c t (ix2 (⟨5 + s.val, by omega⟩ : Fin 8) n) = X m c (ix3 (seq t) (⟨t.val % 32 * 256 + s.val, by omega⟩ : Fin 8195) n) := by
  by_cases h : t.val % 32 = 0
  · rw [Block.carry_first m c t h]
    refine Eq.trans ?_ ((blk_6 m c t s n).trans ((Cert.Reference7Ideal.Steps.rows_given (m ((c : Thread nD τ).loc main_arg4)) (P m c) (seq t) s n).symm.trans ?_))
    · pointwise [k0_pay3]
    · exact congrArg (fun q => X m c (ix3 (seq t) q n)) (Fin.ext (by show s.val = t.val % 32 * 256 + s.val; omega))
  · have ht : t.val < 64 := t.isLt
    rw [Block.carry_later m c t h, Block.left_eq m c t ⟨t.val - 1, by show t.val - 1 < 64; omega⟩ rfl, kept_entry, cols_entry]
    refine (Cert.Reference7Ideal.Steps.rows_own (m ((c : Thread nD τ).loc main_arg4)) (P m c) _ _ n).symm.trans ?_
    show X m c _ = _
    refine congrArg₂ (fun p q => X m c (ix3 p q n)) (Fin.ext ?_) (Fin.ext ?_)
    · show (t.val - 1) / 32 = t.val / 32
      omega
    · show 3 + ((t.val - 1) % 32 * 256 + (248 + (5 + s.val))) = t.val % 32 * 256 + s.val
      omega

/-- The rows that the convolution reads. -/
theorem joined_entry (t : Fin cfg0.N) (s : Fin 259) (n : Fin 3072) :
    k0_pay6 (Block.carry m c t) (Block.cols m c t) (ix2 (⟨5 + s.val, by omega⟩ : Fin 264) n)
      = X m c (ix3 (seq t) (⟨t.val % 32 * 256 + s.val, by omega⟩ : Fin 8195) n) := by
  by_cases h : s.val < 3
  · exact (joined_carried _ _ ⟨5 + s.val, by omega⟩ n).trans (carry_entry m c t ⟨s.val, h⟩ n)
  · have e : (⟨5 + s.val, by omega⟩ : Fin 264) = ⟨8 + (⟨s.val - 3, by omega⟩ : Fin 256).val, by show 8 + (s.val - 3) < 264; omega⟩ :=
      Fin.ext (by show 5 + s.val = 8 + (s.val - 3); omega)
    rw [e, joined_own, cols_entry]
    refine (Cert.Reference7Ideal.Steps.rows_own (m ((c : Thread nD τ).loc main_arg4)) (P m c) _ _ n).symm.trans ?_
    show X m c _ = _
    refine congrArg (fun q => X m c (ix3 (seq t) q n)) (Fin.ext ?_)
    show 3 + (t.val % 32 * 256 + (s.val - 3)) = t.val % 32 * 256 + s.val
    omega

/-- A row that the convolution reads, by its tap. -/
theorem tap (t : Fin cfg0.N) (r : Fin 256) (n : Fin 3072) (j : Fin 4) (q : Fin 264) (hq : q.val = 5 + j.val + r.val) (x : Fin 8195)
    (hx : x.val = j.val + (row t r).val) :
    k0_pay6 (Block.carry m c t) (Block.cols m c t) (ix2 q n) = X m c (ix3 (seq t) x n) := by
  have hr : (row t r).val = t.val % 32 * 256 + r.val := rfl
  have eq : q = ⟨5 + (⟨j.val + r.val, by omega⟩ : Fin 259).val, by show 5 + (j.val + r.val) < 264; omega⟩ :=
    Fin.ext (by show q.val = 5 + (j.val + r.val); omega)
  rw [eq, joined_entry]
  exact congrArg (fun y => X m c (ix3 (seq t) y n)) (Fin.ext (by show t.val % 32 * 256 + (j.val + r.val) = x.val; omega))

/-- The activated columns of a block. -/
theorem acts_entry (t : Fin cfg0.N) (r : Fin 256) (n : Fin 3072) : Block.acts m c t (ix2 r n) = A m c (ix3 (seq t) (row t r) n) := by
  unfold A
  rw [Cert.Reference7Ideal.Steps.act_apply, Cert.Reference7Ideal.Steps.conv_apply]
  unfold Block.acts Block.act k0_pay7
  pointwise
  refine congrArg (fun y => y * Ideal.logistic y) ?_
  rw [tap m c t r n 0 ⟨5 + r.val, by omega⟩ rfl ⟨(row t r).val, by omega⟩ (by simp),
    tap m c t r n 1 ⟨6 + r.val, by omega⟩ (by simp) ⟨1 + (row t r).val, by omega⟩ rfl,
    tap m c t r n 2 ⟨7 + r.val, by omega⟩ (by simp) ⟨2 + (row t r).val, by omega⟩ rfl,
    tap m c t r n 3 ⟨8 + r.val, by omega⟩ (by simp) ⟨3 + (row t r).val, by omega⟩ rfl, blk_5, blk_5, blk_5, blk_5]

end Cert.Kernel7Ideal.Tile

end
-- ==== Proof.GdnHeads.lean ====
/-
  Heads of 128 columns, each row divided by its length: in a grid point's block, where eight stores fill it, and in the reference.
-/
module

public import proofs.«01_k».proof.Proof.GdnBlock
public import proofs.«01_k».proof.Proof.GdnRef

@[expose] public section

noncomputable section

namespace Cert.Kernel7Ideal.Heads

open Cert.Kernel7Ideal Cert.Kernel7Ideal.Gen Idealize.ShloMosaic Idealize.ShloMosaic.TcCoe Idealize.SL.Sem

/-- An entry of a row of 1024 columns, divided by the length of its head. -/
def unit (f : Fin 1024 → EReal) (n : Fin 1024) : EReal :=
  f n * Ideal.rsqrt (∑ x : Fin 128, f ⟨n.val / 128 * 128 + x.val, by omega⟩ * f ⟨n.val / 128 * 128 + x.val, by omega⟩
    + Ideal.ofBits .f32 897988541#32)

/-- One head, at an entry. -/
theorem head_entry (a : FVec Ideal S256x3072 .f32) (o : ℕ) (ho : o ≤ 1024) (j : Fin 8) (z : Fin 1) (r : Fin 256) (n : Fin 128) :
    Block.head a (o + 128 * j.val) (Block.head_in o ho j) (ix3 z r n)
      = unit (fun k => a (ix2 r (⟨o + k.val, by omega⟩ : Fin 3072))) ⟨128 * j.val + n.val, by omega⟩ := by
  have e : ∀ x : Fin 128, (⟨o + 128 * j.val + x.val, by omega⟩ : Fin 3072) = ⟨o + ((128 * j.val + n.val) / 128 * 128 + x.val), by omega⟩ :=
    fun x => Fin.ext (by show o + 128 * j.val + x.val = o + ((128 * j.val + n.val) / 128 * 128 + x.val); omega)
  have e' : (⟨o + 128 * j.val + n.val, by omega⟩ : Fin 3072) = ⟨o + (128 * j.val + n.val), by omega⟩ := Fin.ext (by show o + 128 * j.val + n.val = o + (128 * j.val + n.val); omega)
  unfold Block.head unit
  pointwise
  refine congrArg₂ (· * ·) (congrArg (fun q => a (ix2 r q)) e') (congrArg (fun s => Ideal.rsqrt (s + Ideal.ofBits .f32 897988541#32))
    (Finset.sum_congr rfl fun x _ => ?_))
  rw [e x]

/-- The block of eight heads. -/
def block (a : FVec Ideal S256x3072 .f32) (o : ℕ) (ho : o ≤ 1024) : Vec Ideal S1x256x1024 .f32 :=
  fun i => unit (fun k => a (ix2 (i 1) (⟨o + k.val, by omega⟩ : Fin 3072))) (i 2)

/-- One head is its columns of the block. -/
theorem piece (a : FVec Ideal S256x3072 .f32) (o : ℕ) (ho : o ≤ 1024) (j : Fin 8) (x : S1x256x128.Idx) :
    Block.head a (o + 128 * j.val) (Block.head_in o ho j) x
      = block a o ho ((Rect.unit (s := S1x256x1024) ![0, 0, 128 * j.val] ![1, 256, 128] (Block.head_inb j)).emb x) := by
  obtain ⟨z, r, n, rfl⟩ : ∃ z r n, x = ix3 z r n := ⟨x 0, x 1, x 2, by
    funext a
    match a with
    | ⟨0, _⟩ => rfl
    | ⟨1, _⟩ => rfl
    | ⟨2, _⟩ => rfl⟩
  refine (head_entry a o ho j z r n).trans ?_
  refine congrArg₂ (fun (q : Fin 256) (p : Fin 1024) => unit (fun k => a (ix2 q (⟨o + k.val, by omega⟩ : Fin 3072))) p) (Fin.ext ?_) (Fin.ext ?_)
  · show r.val = 0 + 1 * r.val
    omega
  · show 128 * j.val + n.val = 128 * j.val + 1 * n.val
    omega

/-- Eight stores of one head each fill the block. -/
theorem stored {κ : Kind} {sp : Space} (v : View sig κ sp S1x256x1024 .f32) (f : v.ty.Contents (Elt Ideal)) (a : FVec Ideal S256x3072 .f32) (o : ℕ) (ho : o ≤ 1024)
    (z : Fin 1) (r : Fin 256) (n : Fin 1024) :
    v.read (Elt Ideal) (v.writes (Elt Ideal) f (Block.heads a o ho)) (ix3 z r n) = unit (fun k => a (ix2 r (⟨o + k.val, by omega⟩ : Fin 3072))) n := by
  refine (View.read_writes_apply_of_pieces v f (block a o ho) (Block.heads a o ho) (fun p hp x => ?_) (ix3 z r n) ?_).trans rfl
  · obtain ⟨j, -, rfl⟩ := List.mem_map.1 hp
    exact piece a o ho j x
  · have hn := n.isLt
    refine ⟨_, List.mem_map.2 ⟨(⟨n.val / 128, by omega⟩ : Fin 8), by have : ∀ j : Fin 8, j ∈ ([7, 6, 5, 4, 3, 2, 1, 0] : List (Fin 8)) := (by decide); exact this _, rfl⟩, ?_⟩
    rw [Rect.mem_set_unit]
    intro ax
    match ax with
    | ⟨0, _⟩ => exact ⟨Nat.zero_le _, by show z.val < 0 + 1; omega⟩
    | ⟨1, _⟩ => exact ⟨Nat.zero_le _, by show r.val < 0 + 256; omega⟩
    | ⟨2, _⟩ => exact ⟨by show 128 * (n.val / 128) ≤ n.val; omega, by show n.val < 128 * (n.val / 128) + 128; omega⟩

open Cert.Reference7Ideal Cert.Reference7Ideal.Gen in
/-- The reference's queries, at an entry. -/
theorem queries (x : FVec Ideal Cert.Reference7Ideal.S2x8192x3072 .f32) (b : Fin 2) (r : Fin 8192) (n : Fin 1024) :
    Steps.normed (shapeCast S2x8192x8x128 (extractStridedSlice Cert.Reference7Ideal.S2x8192x1024 ![0, 0, 0] x slices_S2x8192x3072_S2x8192x1024_0_0_0) shapeCasts_S2x8192x1024_S2x8192x8x128) (ix3 b r n)
      = unit (fun k => x (ix3 b r (⟨0 + k.val, by omega⟩ : Fin 3072))) n := by
  rw [Steps.normed_apply]
  unfold unit
  pointwise

open Cert.Reference7Ideal Cert.Reference7Ideal.Gen in
/-- The reference's keys, at an entry. -/
theorem keys (x : FVec Ideal Cert.Reference7Ideal.S2x8192x3072 .f32) (b : Fin 2) (r : Fin 8192) (n : Fin 1024) :
    Steps.normed (shapeCast S2x8192x8x128 (extractStridedSlice Cert.Reference7Ideal.S2x8192x1024 ![0, 0, 1024] x slices_S2x8192x3072_S2x8192x1024_0_0_1024) shapeCasts_S2x8192x1024_S2x8192x8x128) (ix3 b r n)
      = unit (fun k => x (ix3 b r (⟨1024 + k.val, by omega⟩ : Fin 3072))) n := by
  rw [Steps.normed_apply]
  unfold unit
  pointwise

end Cert.Kernel7Ideal.Heads

end
-- ==== Proof.GdnArrays.lean ====
/-
  The six arrays that the recurrent layer's input kernel leaves, entry by entry, as the reference's rows: the queries, the keys, the values,
  the rows for the output gate, the two gates side by side, and the rows to hand on to the next sequence.
-/
module

public import proofs.«01_k».proof.Proof.GdnTile
public import proofs.«01_k».proof.Proof.GdnHeads

@[expose] public section

noncomputable section

namespace Cert.Kernel7Ideal.Arrays

open Cert.Kernel7Ideal Cert.Kernel7Ideal.Gen Cert.Kernel7Ideal.Operands Cert.Kernel7Ideal.Tile Idealize.ShloMosaic Idealize.ShloMosaic.TcCoe Idealize.SL.Sem

variable (m : (ℓ : Loc nD τ sig) → Buf (Elt Ideal) ℓ) (c : Dev nD)

theorem index_8 : ∀ t : Fin cfg0.N, win0_8.index t = ![t.val / 32, t.val % 32, 0] := (by decide +kernel : ∀ t : Fin grid0.N, _)
theorem index_9 : ∀ t : Fin cfg0.N, win0_9.index t = ![t.val / 32, t.val % 32, 0] := (by decide +kernel : ∀ t : Fin grid0.N, _)
theorem index_10 : ∀ t : Fin cfg0.N, win0_10.index t = ![t.val / 32, t.val % 32, 0] := (by decide +kernel : ∀ t : Fin grid0.N, _)
theorem index_11 : ∀ t : Fin cfg0.N, win0_11.index t = ![t.val / 32, t.val % 32, 0] := (by decide +kernel : ∀ t : Fin grid0.N, _)
theorem index_12 : ∀ t : Fin cfg0.N, win0_12.index t = ![t.val / 32, t.val % 32, 0] := (by decide +kernel : ∀ t : Fin grid0.N, _)
theorem index_13 : ∀ t : Fin cfg0.N, win0_13.index t = ![t.val / 32, 0, 0] := (by decide +kernel : ∀ t : Fin grid0.N, _)

/-- The rows to hand on leave at the last point of a sequence. -/
theorem flush_13 : ∀ t : Fin cfg0.N, win0_13.flush t = true → t.val % 32 = 31 := (by decide +kernel : ∀ t : Fin grid0.N, _)

/-- Heads of 128 columns from column `o` on, each row divided by its length. -/
def heads (o : ℕ) (ho : o ≤ 1024) (b : Fin 2) (r : Fin 8192) (n : Fin 1024) : EReal :=
  Heads.unit (fun k => A m c (ix3 b r (⟨o + k.val, by omega⟩ : Fin 3072))) n

/-- The queries. -/
def queries : Vec Ideal S2x8192x1024 .f32 := fun i => heads m c 0 (by decide) (i 0) (i 1) (i 2)

theorem queries_eq : (dats m 0 c).arrAt 8 cfg0.N = queries m c := by
  refine (dats m 0 c).arrAt_eq_of_covers 8 (queries m c) (by decide +kernel) fun t hf y => ?_
  blk_simp
  rw [after0_8, (Block.leaves m c t).q]
  obtain ⟨z, r, n, rfl⟩ : ∃ z r n, y = ix3 z r n := ⟨y 0, y 1, y 2, by
    funext a
    match a with
    | ⟨0, _⟩ => rfl
    | ⟨1, _⟩ => rfl
    | ⟨2, _⟩ => rfl⟩
  refine (Heads.stored VO0_8 VO0_8.junk (Block.acts m c t) 0 (by decide) z r n).trans ?_
  simp only [acts_entry]
  show queries m c (ix3 (seq t) (row t r) n) = _
  blk_ext [index_8 t]
  all_goals rfl

/-- The keys. -/
def keys : Vec Ideal S2x8192x1024 .f32 := fun i => heads m c 1024 (by decide) (i 0) (i 1) (i 2)

theorem keys_eq : (dats m 0 c).arrAt 9 cfg0.N = keys m c := by
  refine (dats m 0 c).arrAt_eq_of_covers 9 (keys m c) (by decide +kernel) fun t hf y => ?_
  blk_simp
  rw [after0_9, (Block.leaves m c t).k]
  obtain ⟨z, r, n, rfl⟩ : ∃ z r n, y = ix3 z r n := ⟨y 0, y 1, y 2, by
    funext a
    match a with
    | ⟨0, _⟩ => rfl
    | ⟨1, _⟩ => rfl
    | ⟨2, _⟩ => rfl⟩
  refine (Heads.stored VO0_9 VO0_9.junk (Block.acts m c t) 1024 (by decide) z r n).trans ?_
  simp only [acts_entry]
  show keys m c (ix3 (seq t) (row t r) n) = _
  blk_ext [index_9 t]
  all_goals rfl

/-- The values. -/
def values : Vec Ideal S2x8192x1024 .f32 := fun i =>
  A m c (ix3 (i 0) (i 1) (⟨2048 + (i 2).val, by have : (i 2).val < 1024 := (i 2).isLt; omega⟩ : Fin 3072))

theorem values_eq : (dats m 0 c).arrAt 10 cfg0.N = values m c := by
  refine (dats m 0 c).arrAt_eq_of_covers 10 (values m c) (by decide +kernel) fun t hf y => ?_
  blk_simp
  rw [after0_10, (Block.leaves m c t).v]
  obtain ⟨z, r, n, rfl⟩ : ∃ z r n, y = ix3 z r n := ⟨y 0, y 1, y 2, by
    funext a
    match a with
    | ⟨0, _⟩ => rfl
    | ⟨1, _⟩ => rfl
    | ⟨2, _⟩ => rfl⟩
  pointwise [k0_pay31]
  rw [acts_entry]
  unfold values
  blk_ext [index_10 t]
  all_goals rfl

/-- The rows for the output gate. -/
def outs : Vec Ideal S2x8192x1024 .f32 := fun i =>
  P m c (ix3 (i 0) (i 1) (⟨3072 + (i 2).val, by have : (i 2).val < 1024 := (i 2).isLt; omega⟩ : Fin 4112))

theorem outs_eq : (dats m 0 c).arrAt 11 cfg0.N = outs m c := by
  refine (dats m 0 c).arrAt_eq_of_covers 11 (outs m c) (by decide +kernel) fun t hf y => ?_
  blk_simp
  rw [after0_11, (Block.leaves m c t).z]
  obtain ⟨z, r, n, rfl⟩ : ∃ z r n, y = ix3 z r n := ⟨y 0, y 1, y 2, by
    funext a
    match a with
    | ⟨0, _⟩ => rfl
    | ⟨1, _⟩ => rfl
    | ⟨2, _⟩ => rfl⟩
  pointwise [k0_pay32]
  refine (proj_entry m c t r ⟨3072 + n.val, by omega⟩).trans ?_
  unfold outs
  blk_ext [index_11 t]
  all_goals rfl

/-- One gate: a rate in the first eight columns, a decay in the last eight. -/
def gate (b : Fin 2) (r : Fin 8192) (n : Fin 16) : EReal :=
  if h : n.val < 8 then Cert.Reference7Ideal.Steps.rate (P m c) (ix3 b r (⟨n.val, h⟩ : Fin 8))
  else Cert.Reference7Ideal.Steps.decay (m ((c : Thread nD τ).loc main_arg7)) (m ((c : Thread nD τ).loc main_arg8)) (P m c)
    (ix3 b r (⟨n.val - 8, by omega⟩ : Fin 8))

theorem slt_pos : ∀ n : Fin 16, n.val < 8 → IntOp.cmpi .slt (BitVec.ofNat 32 n.val) 8#32 = 1#1 := by decide
theorem slt_neg : ∀ n : Fin 16, ¬n.val < 8 → IntOp.cmpi .slt (BitVec.ofNat 32 n.val) 8#32 = 0#1 := by decide

/-- A gate of a block. -/
theorem gates_entry (t : Fin cfg0.N) (z : Fin 1) (r : Fin 256) (n : Fin 16) :
    Block.gates (Block.proj m c t) (iblk m c 7 t) (ix3 z r n) = gate m c (seq t) (row t r) n := by
  unfold Block.gates k0_pay1 k0_pay33 k0_pay35 k0_pay36 k0_pay34 k0_pay33
  pointwise
  unfold gate
  by_cases h : n.val < 8
  · rw [dif_pos h, slt_pos n h, Cert.Reference7Ideal.Steps.rate_apply]
    exact congrArg Ideal.logistic (proj_entry m c t r ⟨4096 + n.val, by omega⟩)
  · rw [dif_neg h, slt_neg n h, Cert.Reference7Ideal.Steps.decay_apply]
    have e : (⟨n.val, by omega⟩ : Fin 128) = ⟨8 + (⟨n.val - 8, by omega⟩ : Fin 8).val, by show 8 + (n.val - 8) < 128; omega⟩ :=
      Fin.ext (by show n.val = 8 + (n.val - 8); omega)
    have ep : Block.proj m c t (ix2 r (⟨4096 + n.val, by omega⟩ : Fin 4224))
        = P m c (ix3 (seq t) (row t r) (⟨4104 + (n.val - 8), by omega⟩ : Fin 4112)) :=
      (proj_entry m c t r ⟨4096 + n.val, by omega⟩).trans
        (congrArg (fun q => P m c (ix3 (seq t) (row t r) q)) (Fin.ext (by show 4096 + n.val = 4104 + (n.val - 8); omega)))
    rw [ep, e, blk_7_first, blk_7_second]
    show (_ * (_ + Ideal.log (1 + Ideal.exp (0 - _))) : EReal) = _
    rw [zero_sub]

/-- The gates, both in one array. -/
def both : Vec Ideal S2x8192x16 .f32 := fun i => gate m c (i 0) (i 1) (i 2)

theorem both_eq : (dats m 0 c).arrAt 12 cfg0.N = Arrays.both m c := by
  refine (dats m 0 c).arrAt_eq_of_covers 12 (Arrays.both m c) (by decide +kernel) fun t hf y => ?_
  blk_simp
  rw [after0_12, (Block.leaves m c t).gb]
  obtain ⟨z, r, n, rfl⟩ : ∃ z r n, y = ix3 z r n := ⟨y 0, y 1, y 2, by
    funext a
    match a with
    | ⟨0, _⟩ => rfl
    | ⟨1, _⟩ => rfl
    | ⟨2, _⟩ => rfl⟩
  rw [gates_entry]
  show Arrays.both m c (ix3 (seq t) (row t r) n) = _
  blk_ext [index_12 t]
  all_goals rfl

/-- The rows to hand on. -/
def handed : Vec Ideal S2x8x3072 .f32 := fun i =>
  P m c (ix3 (i 0) (⟨8184 + (i 1).val, by have : (i 1).val < 8 := (i 1).isLt; omega⟩ : Fin 8192)
    (⟨(i 2).val, by have : (i 2).val < 3072 := (i 2).isLt; omega⟩ : Fin 4112))

theorem handed_eq : (dats m 0 c).arrAt 13 cfg0.N = handed m c := by
  refine (dats m 0 c).arrAt_eq_of_covers 13 (handed m c) (by decide +kernel) fun t hf y => ?_
  have h31 : t.val % 32 = 31 := flush_13 t hf
  blk_simp
  rw [after0_13, (Block.leaves m c t).conv h31]
  obtain ⟨z, r, n, rfl⟩ : ∃ z r n, y = ix3 z r n := ⟨y 0, y 1, y 2, by
    funext a
    match a with
    | ⟨0, _⟩ => rfl
    | ⟨1, _⟩ => rfl
    | ⟨2, _⟩ => rfl⟩
  obtain rfl : z = 0 := Subsingleton.elim _ _
  rw [handed_entry, cols_entry]
  unfold handed
  blk_ext [index_13 t]
  · rfl
  · show t.val % 32 * 256 + (248 + r.val) = 8184 + r.val
    omega

end Cert.Kernel7Ideal.Arrays

end
-- ==== Proof.GdnRows.lean ====
/-
  The input of the recurrent layer: the kernel's program and the reference end with the same queries, keys, values, rows for the output gate,
  decays, rates and rows to hand on.
-/
module

public import proofs.«01_k».proof.Defs
public import proofs.«01_k».proof.Proof.GdnArrays
public import proofs.«01_k».proof.Proof.Gen.Kernel7Ideal.Run
public import proofs.«01_k».proof.Proof.Gen.Reference7Ideal.Run

@[expose] public section

noncomputable section

namespace Cert.Kernel7Ideal.Rows

open Cert.Kernel7Ideal Cert.Kernel7Ideal.Gen Cert.Kernel7Ideal.Value Cert.Kernel7Ideal.Tile Cert.Kernel7Ideal.Arrays Idealize.ShloMosaic Idealize.ShloMosaic.TcCoe
  Idealize.SL.Sem

variable (m : (ℓ : Loc nD τ sig) → Buf (Elt Ideal) ℓ) (c : Dev nD)

/-- Two arrays of three axes with the same entries are the same. -/
theorem ext3 {A B C : ℕ} {α : Type} (x y : (Shape.mk 3 ![A, B, C]).Idx → α) (h : ∀ (a : Fin A) (b : Fin B) (d : Fin C), x (ix3 a b d) = y (ix3 a b d)) : x = y := by
  funext i
  obtain ⟨a, b, d, rfl⟩ : ∃ a b d, i = ix3 a b d := ⟨i 0, i 1, i 2, by
    funext a
    match a with
    | ⟨0, _⟩ => rfl
    | ⟨1, _⟩ => rfl
    | ⟨2, _⟩ => rfl⟩
  exact h a b d

/-- The queries: the first eight heads of the activated columns. -/
theorem queries_rows : reg_main_v15_0 m c = Cert.Reference7Ideal.Steps.normed
    (shapeCast Cert.Reference7Ideal.S2x8192x8x128 (extractStridedSlice S2x8192x1024 ![0, 0, 0] (A m c) Cert.Reference7Ideal.Gen.slices_S2x8192x3072_S2x8192x1024_0_0_0)
      Cert.Reference7Ideal.Gen.shapeCasts_S2x8192x1024_S2x8192x8x128) :=
  (queries_eq m c).trans (ext3 _ _ fun b r n => (Heads.queries (A m c) b r n).symm)

/-- The keys: the next eight. -/
theorem keys_rows : reg_main_v15_1 m c = Cert.Reference7Ideal.Steps.normed
    (shapeCast Cert.Reference7Ideal.S2x8192x8x128 (extractStridedSlice S2x8192x1024 ![0, 0, 1024] (A m c) Cert.Reference7Ideal.Gen.slices_S2x8192x3072_S2x8192x1024_0_0_1024)
      Cert.Reference7Ideal.Gen.shapeCasts_S2x8192x1024_S2x8192x8x128) :=
  (keys_eq m c).trans (ext3 _ _ fun b r n => (Heads.keys (A m c) b r n).symm)

/-- The values: the activated columns after those. -/
theorem values_rows : reg_main_v15_2 m c
    = extractStridedSlice S2x8192x1024 ![0, 0, 2048] (A m c) Cert.Reference7Ideal.Gen.slices_S2x8192x3072_S2x8192x1024_0_0_2048 := by
  refine (values_eq m c).trans (ext3 _ _ fun b r n => ?_)
  pointwise
  rfl

/-- The rows for the output gate: the projected columns after the convolved ones. -/
theorem outs_rows : reg_main_v15_3 m c
    = extractStridedSlice S2x8192x1024 ![0, 0, 3072] (P m c) Cert.Reference7Ideal.Gen.slices_S2x8192x4112_S2x8192x1024_0_0_3072 := by
  refine (outs_eq m c).trans (ext3 _ _ fun b r n => ?_)
  pointwise
  rfl

/-- The decays: the last eight columns of the gates' array. -/
theorem decays_eq : extractStridedSlice S2x8192x8 ![0, 0, 8] (reg_main_v15_4 m c) slices_S2x8192x16_S2x8192x8_0_0_8
    = Cert.Reference7Ideal.Steps.decay (m ((c : Thread nD τ).loc main_arg7)) (m ((c : Thread nD τ).loc main_arg8)) (P m c) := by
  refine ext3 _ _ fun b r n => ?_
  pointwise
  refine (congrFun (both_eq m c) _).trans ?_
  refine (dif_neg (by show ¬8 + n.val < 8; omega)).trans ?_
  exact congrArg (fun q => Cert.Reference7Ideal.Steps.decay _ _ (P m c) (ix3 b r q)) (Fin.ext (by show 8 + n.val - 8 = n.val; omega))

/-- The rates: its first eight. -/
theorem rates_eq : extractStridedSlice S2x8192x8 ![0, 0, 0] (reg_main_v15_4 m c) slices_S2x8192x16_S2x8192x8_0_0_0
    = Cert.Reference7Ideal.Steps.rate (P m c) := by
  refine ext3 _ _ fun b r n => ?_
  pointwise
  refine (congrFun (both_eq m c) _).trans ?_
  exact dif_pos (show n.val < 8 from n.isLt)

/-- The rows to hand on: the last three of the rows that are convolved. -/
theorem handed_rows : extractStridedSlice S2x3x3072 ![0, 5, 0] (reg_main_v15_5 m c) slices_S2x8x3072_S2x3x3072_0_5_0
    = extractStridedSlice S2x3x3072 ![0, 8192, 0] (X m c) Cert.Reference7Ideal.Gen.slices_S2x8195x3072_S2x3x3072_0_8192_0 := by
  refine ext3 _ _ fun b r n => ?_
  pointwise
  refine (congrFun (handed_eq m c) _).trans ?_
  refine Eq.trans ?_ ((Cert.Reference7Ideal.Steps.rows_own (m ((c : Thread nD τ).loc main_arg4)) (P m c) b ⟨8189 + r.val, by omega⟩ n).symm.trans ?_)
  · refine congrArg (fun q => P m c (ix3 b q (⟨n.val, by omega⟩ : Fin 4112))) (Fin.ext ?_)
    show 8184 + (5 + r.val) = 8189 + r.val
    omega
  · refine congrArg (fun q => X m c (ix3 b q n)) (Fin.ext ?_)
    show 3 + (8189 + r.val) = 8192 + r.val
    omega

set_option maxRecDepth 16384 in
set_option maxHeartbeats 4000000 in
/-- The two programs end with the same seven results. -/
theorem agree : Cert.algebraic_Kernel7Ideal_Reference7Ideal := by
  intro m ρ m' ρ' _ hargs
  refine ⟨fun c => Cert.Reference7Ideal.Value.res_main_v90 (F := Ideal) m' c, fun c => Cert.Reference7Ideal.Value.res_main_v91 (F := Ideal) m' c,
    fun c => Cert.Reference7Ideal.Value.res_main_v74 (F := Ideal) m' c, _, fun c => Cert.Reference7Ideal.Value.res_main_v89 (F := Ideal) m' c, _, _, ?_,
    Cert.Reference7Ideal.Value.run (F := Ideal) m' ρ'⟩
  refine (θ_run _ _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2⟩) (Cert.Kernel7Ideal.Value.run (F := Ideal) m ρ)
  all_goals obtain ⟨e0, e1, e2, e3, e4, e5, e6, e7, e8⟩ := hargs c
  all_goals beta_reduce
  · rw [queries_rows]
    unfold A X P Cert.Reference7Ideal.Value.res_main_v90
    rw [e0, e1, e2, e3, e4, e5, e6]
    rfl
  · rw [keys_rows]
    unfold A X P Cert.Reference7Ideal.Value.res_main_v91
    rw [e0, e1, e2, e3, e4, e5, e6]
    rfl
  · rw [values_rows]
    unfold A X P Cert.Reference7Ideal.Value.res_main_v74
    rw [e0, e1, e2, e3, e4, e5, e6]
    rfl
  · rw [outs_rows]
    unfold P
    rw [e0, e1, e2, e3, e5]
    rfl
  · rw [decays_eq]
    unfold P Cert.Reference7Ideal.Value.res_main_v89
    rw [e0, e1, e2, e3, e5, e7, e8]
    rfl
  · rw [rates_eq]
    unfold P
    rw [e0, e1, e2, e3, e5]
    rfl
  · rw [handed_rows]
    unfold X P
    rw [e0, e1, e2, e3, e4, e5]
    rfl

end Cert.Kernel7Ideal.Rows

end
-- ==== Proof.lean ====
/-
  The certificate: the kernels and their references run without fault and leave their arguments unchanged. Over the
  extended reals the attention kernel computes the reference's differential attention wherever the values and the mixing
  weight are finite, and the projections compute the references' products, queries, gates, rows and window.
-/
module

public import proofs.«01_k».proof.Defs
public import proofs.«01_k».proof.Proof.Result
public import proofs.«01_k».proof.Proof.Finite
public import proofs.«01_k».proof.Proof.DiffRows
public import proofs.«01_k».proof.Proof.NsaRows
public import proofs.«01_k».proof.Proof.OutRows
public import proofs.«01_k».proof.Proof.SampleDiffRows
public import proofs.«01_k».proof.Proof.SampleNsaRows
public import proofs.«01_k».proof.Proof.GdnRows
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Run
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Run
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Run
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Run
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Run
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Run
public import proofs.«01_k».proof.Proof.Gen.Reference7Ideal.Run
public import Idealize.ShloMosaic.Lib.Quiescent

@[expose] public section

noncomputable section

namespace Cert.Proof

open Idealize.ShloMosaic Idealize.ShloMosaic.TcCoe Idealize.SL.Sem

/-- The reference runs, keeps its arguments and declares no semaphore. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- Where the values and the mixing weight are finite, the two programs end with the same result. -/
theorem agree [hP : Cert.Pre_finite_values.Facts] : Cert.algebraic_KernelIdeal_ReferenceIdeal_pre_finite_values := by
  intro m ρ m' ρ' hpre hargs
  refine ⟨fun c => Cert.KernelIdeal.Result.result m c, ?_, ?_⟩
  · refine (θ_run _ _ _).mono (fun r h c => ⟨?_, (h c).2⟩) (Cert.KernelIdeal.Value.run_blocks (F := Ideal) m ρ)
    obtain ⟨h2, h3⟩ := Cert.Finite.reals _ _ _ _ _ (hpre c)
    exact (h c).1.trans (Cert.KernelIdeal.Result.array_eq m c h2 h3)
  · refine (θ_run _ _ _).mono (fun r h c => ⟨?_, (h c).2⟩) (Cert.ReferenceIdeal.Value.run (F := Ideal) m' ρ')
    obtain ⟨e0, e1, e2, e3, e4⟩ := hargs c
    refine (h c).1.trans ((Cert.ReferenceIdeal.Read.val_main_v53_eq m' c).trans ?_)
    rw [e0, e1, e2, e3, e4]
    rfl

/-- The references of the projections run, keep their arguments and declare no semaphore. -/
theorem reference2_frame : Cert.quiescent_Reference2Ideal := fun m ρ _ =>
  (θ_run _ _ _).mono (fun r h => ⟨fun c => (h c).2.2, sem_eq_zero_of_no_sems (by decide) r.2⟩)
    (Cert.Reference2Ideal.Value.run (F := Ideal) m ρ)

theorem reference3_frame : Cert.quiescent_Reference3Ideal := fun m ρ _ =>
  (θ_run _ _ _).mono (fun r h => ⟨fun c => (h c).2.2.2.2, sem_eq_zero_of_no_sems (by decide) r.2⟩)
    (Cert.Reference3Ideal.Value.run (F := Ideal) m ρ)

theorem reference4_frame : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

theorem reference5_frame : Cert.quiescent_Reference5Ideal := fun m ρ _ =>
  (θ_run _ _ _).mono (fun r h => ⟨fun c => (h c).2.2, sem_eq_zero_of_no_sems (by decide) r.2⟩)
    (Cert.Reference5Ideal.Value.run (F := Ideal) m ρ)

theorem reference6_frame : Cert.quiescent_Reference6Ideal := fun m ρ _ =>
  (θ_run _ _ _).mono (fun r h => ⟨fun c => (h c).2.2.2.2, sem_eq_zero_of_no_sems (by decide) r.2⟩)
    (Cert.Reference6Ideal.Value.run (F := Ideal) m ρ)

theorem reference7_frame : Cert.quiescent_Reference7Ideal := fun m ρ _ =>
  (θ_run _ _ _).mono (fun r h => ⟨fun c => (h c).2.2.2.2.2.2.2, sem_eq_zero_of_no_sems (by decide) r.2⟩)
    (Cert.Reference7Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Finite.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    trivial, agree (hP := Cert.Finite.facts), trivial, Cert.Kernel2Ideal.Proj.agree, trivial, Cert.Kernel3Ideal.Proj.agree,
    trivial, Cert.Kernel4Ideal.Proj.agree, trivial, Cert.Kernel5Ideal.Proj.agree, trivial, Cert.Kernel6Ideal.Proj.agree,
    trivial, Cert.Kernel7Ideal.Rows.agree⟩

end Cert.Proof

end
